-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 16384, 8, 128]⟩ (Layout.meshBlock [2, 2, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 16384, 8, 128]⟩ (Layout.meshBlock [2, 2, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  (main_v2, main_v5)
-- ==== Pre_finite_scores_ReferenceIdeal.lean ====
abbrev S4x32x8x128 : Shape := ⟨4, ![4, 32, 8, 128]⟩
abbrev S4x16384x8x128 : Shape := ⟨4, ![4, 16384, 8, 128]⟩
abbrev S_ : Shape := ⟨0, ![]⟩

class Facts : Prop where
  bcast_S_S4x32x8x128 : S_.BroadcastsInDim S4x32x8x128 (![] : Fin 0 → Fin S4x32x8x128.rank)
  bcast_S_S4x16384x8x128 : S_.BroadcastsInDim S4x16384x8x128 (![] : Fin 0 → Fin S4x16384x8x128.rank)

variable [Facts]

def fn {F : FTy → Type} [FloatOps F] (main_arg0 : FVec F S4x32x8x128 .f32) (main_arg1 : FVec F S4x16384x8x128 .f32) (main_arg2 : FVec F S4x16384x8x128 .f32) : IVec S4x32x8x128 1 × IVec S4x16384x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x16384x8x128 .f32 := Host.absf main_arg1
  let main_cst_0 : FVec F S_ .f32 := constant S_ .f32 0x7F800000#32
  let main_v4 : FVec F S4x16384x8x128 .f32 := broadcastInDim S4x16384x8x128 ![] bcast_S_S4x16384x8x128 main_cst_0
  let main_v5 : IVec S4x16384x8x128 1 := cmpf .olt main_v3 main_v4
  (main_v2, main_v5)
-- ==== Kernel.lean ====
abbrev S4x32x8x128 : Shape := ⟨4, ![4, 32, 8, 128]⟩
abbrev S4x4096x8x128 : Shape := ⟨4, ![4, 4096, 8, 128]⟩
abbrev S32x8x128 : Shape := ⟨3, ![32, 8, 128]⟩
abbrev S2x4x1024x128 : Shape := ⟨4, ![2, 4, 1024, 128]⟩
abbrev S8x32x128 : Shape := ⟨3, ![8, 32, 128]⟩
abbrev S8x32x8 : Shape := ⟨3, ![8, 32, 8]⟩
abbrev S3x8x32x128 : Shape := ⟨4, ![3, 8, 32, 128]⟩
abbrev S3x8x32x8 : Shape := ⟨4, ![3, 8, 32, 8]⟩
abbrev S2x4 : Shape := ⟨2, ![2, 4]⟩
abbrev S2x3 : Shape := ⟨2, ![2, 3]⟩
abbrev S_ : Shape := ⟨0, ![]⟩
abbrev S1x32x8x128 : Shape := ⟨4, ![1, 32, 8, 128]⟩
abbrev S1x1 : Shape := ⟨2, ![1, 1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S32x1x128 : Shape := ⟨3, ![32, 1, 128]⟩
abbrev S32x128 : Shape := ⟨2, ![32, 128]⟩
abbrev S32x1024 : Shape := ⟨2, ![32, 1024]⟩
abbrev S1024x8 : Shape := ⟨2, ![1024, 8]⟩
abbrev S32x8 : Shape := ⟨2, ![32, 8]⟩
abbrev S1x32x8 : Shape := ⟨3, ![1, 32, 8]⟩
abbrev S1x32x128 : Shape := ⟨3, ![1, 32, 128]⟩
abbrev S4x32x128 : Shape := ⟨3, ![4, 32, 128]⟩
abbrev S1x4x32x128 : Shape := ⟨4, ![1, 4, 32, 128]⟩
abbrev S1x4x32x8 : Shape := ⟨4, ![1, 4, 32, 8]⟩
abbrev S4x32x8 : Shape := ⟨3, ![4, 32, 8]⟩
abbrev S32x1 : Shape := ⟨2, ![32, 1]⟩
abbrev S1x32x1x128 : Shape := ⟨4, ![1, 32, 1, 128]⟩
abbrev S1x32x2x128 : Shape := ⟨4, ![1, 32, 2, 128]⟩
abbrev S1x32x4x128 : Shape := ⟨4, ![1, 32, 4, 128]⟩
abbrev S32x4x128 : Shape := ⟨3, ![32, 4, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S4x32x8x128, .f32⟩
  | .local _ .vmem, ⟨1, _⟩ => ⟨S4x32x8x128, .f32⟩
  | .local _ .vmem, ⟨2, _⟩ => ⟨S32x8x128, .bf16⟩
  | .local _ .vmem, ⟨3, _⟩ => ⟨S2x4x1024x128, .f32⟩
  | .local _ .vmem, ⟨4, _⟩ => ⟨S2x4x1024x128, .f32⟩
  | .local _ .vmem, ⟨5, _⟩ => ⟨S8x32x128, .f32⟩
  | .local _ .vmem, ⟨6, _⟩ => ⟨S8x32x8, .f32⟩
  | .local _ .vmem, ⟨7, _⟩ => ⟨S8x32x128, .bf16⟩
  | .local _ .vmem, ⟨8, _⟩ => ⟨S3x8x32x128, .bf16⟩
  | .local _ .vmem, ⟨9, _⟩ => ⟨S3x8x32x8, .f32⟩
  | .local _ .vmem, ⟨10, _⟩ => ⟨S4x32x8x128, .bf16⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v13 : BitVec 32 := Scalar.muli v2 c8_i32_5
  let v14 : BitVec 32 := Scalar.addi c0_i32 v13
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v15 : BitVec 32 := Scalar.muli v5 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.xori v8 c1_i32_3
  let c1_i32_7 : BitVec 32 := 1#32
  let v17 : BitVec 32 := Scalar.muli v12 c1_i32_7
  let v18 : BitVec 32 := Scalar.addi v16 v17
  v18.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v21 : BitVec 32 := Scalar.muli v2 c8_i32_10
  let v22 : BitVec 32 := Scalar.addi c0_i32_11 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v23 : BitVec 32 := Scalar.muli v5 c4_i32_12
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v20 : BitVec 32 := Scalar.xori v8 c2_i32_8
  let c1_i32_13 : BitVec 32 := 1#32
  let v25 : BitVec 32 := Scalar.muli v20 c1_i32_13
  let v26 : BitVec 32 := Scalar.addi v24 v25
  v26.toNat
def k0_dev3 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v29 : BitVec 32 := Scalar.muli v2 c8_i32_15
  let v30 : BitVec 32 := Scalar.addi c0_i32_16 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v31 : BitVec 32 := Scalar.muli v5 c4_i32_17
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v28 : BitVec 32 := Scalar.xori v8 c3_i32
  let c1_i32_18 : BitVec 32 := 1#32
  let v33 : BitVec 32 := Scalar.muli v28 c1_i32_18
  let v34 : BitVec 32 := Scalar.addi v32 v33
  v34.toNat
def k0_dev4 (d0 : Dev nD) : Nat :=
  let c0_i32_25 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_19 v2
  let c8_i32_24 : BitVec 32 := 8#32
  let v40 : BitVec 32 := Scalar.muli v35 c8_i32_24
  let v41 : BitVec 32 := Scalar.addi c0_i32_25 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v42 : BitVec 32 := Scalar.muli v5 c4_i32_26
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v44 : BitVec 32 := Scalar.muli v8 c1_i32_27
  let v45 : BitVec 32 := Scalar.addi v43 v44
  v45.toNat
def k0_dev5 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v47 : BitVec 32 := Scalar.muli v2 c8_i32_29
  let v48 : BitVec 32 := Scalar.addi c0_i32_30 v47
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_20 v5
  let c4_i32_31 : BitVec 32 := 4#32
  let v49 : BitVec 32 := Scalar.muli v36 c4_i32_31
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v51 : BitVec 32 := Scalar.muli v8 c1_i32_32
  let v52 : BitVec 32 := Scalar.addi v50 v51
  v52.toNat
def k0_dev6 (d0 : Dev nD) : Nat :=
  let c0_i32_35 : BitVec 32 := 0#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_21 v2
  let c8_i32_34 : BitVec 32 := 8#32
  let v54 : BitVec 32 := Scalar.muli v37 c8_i32_34
  let v55 : BitVec 32 := Scalar.addi c0_i32_35 v54
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_22 v5
  let c4_i32_36 : BitVec 32 := 4#32
  let v56 : BitVec 32 := Scalar.muli v38 c4_i32_36
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v58 : BitVec 32 := Scalar.muli v8 c1_i32_37
  let v59 : BitVec 32 := Scalar.addi v57 v58
  v59.toNat
def k0_off1 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v60 : Index := Scalar.indexCast v10
  let c0 : Index := 0#32
  let c0_38 : Index := 0#32
  let c0_39 : Index := 0#32
  ![v60.toNat, 0, 0, 0]
def k0_off2 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_58 : BitVec 32 := 0#32
  let c0_i32_51 : BitVec 32 := 0#32
  let c0_i32_59 : BitVec 32 := 0#32
  ![v10.toNat, 0, 0, 0]
def k0_off3 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_76 : BitVec 32 := 0#32
  let c1_i32_69 : BitVec 32 := 1#32
  let c0_i32_77 : BitVec 32 := 0#32
  ![v10.toNat, 0, 1, 0]
def k0_off4 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_94 : BitVec 32 := 0#32
  let c2_i32_87 : BitVec 32 := 2#32
  let c0_i32_95 : BitVec 32 := 0#32
  ![v10.toNat, 0, 2, 0]
def k0_off5 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_112 : BitVec 32 := 0#32
  let c3_i32_105 : BitVec 32 := 3#32
  let c0_i32_113 : BitVec 32 := 0#32
  ![v10.toNat, 0, 3, 0]
def k0_off6 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let c0_i32_123 : BitVec 32 := 0#32
  let c0_i32_130 : BitVec 32 := 0#32
  ![v10.toNat, 1024, 0, 0]
def k0_off7 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_147 : BitVec 32 := 1024#32
  let c1_i32_140 : BitVec 32 := 1#32
  let c0_i32_148 : BitVec 32 := 0#32
  ![v10.toNat, 1024, 1, 0]
def k0_off8 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_165 : BitVec 32 := 1024#32
  let c2_i32_158 : BitVec 32 := 2#32
  let c0_i32_166 : BitVec 32 := 0#32
  ![v10.toNat, 1024, 2, 0]
def k0_off9 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_183 : BitVec 32 := 1024#32
  let c3_i32_176 : BitVec 32 := 3#32
  let c0_i32_184 : BitVec 32 := 0#32
  ![v10.toNat, 1024, 3, 0]
def k0_off10 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let c0_i32_371 : BitVec 32 := 0#32
  let c0_i32_378 : BitVec 32 := 0#32
  ![v10.toNat, 2048, 0, 0]
def k0_off11 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_395 : BitVec 32 := 2048#32
  let c1_i32_388 : BitVec 32 := 1#32
  let c0_i32_396 : BitVec 32 := 0#32
  ![v10.toNat, 2048, 1, 0]
def k0_off12 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_413 : BitVec 32 := 2048#32
  let c2_i32_406 : BitVec 32 := 2#32
  let c0_i32_414 : BitVec 32 := 0#32
  ![v10.toNat, 2048, 2, 0]
def k0_off13 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_431 : BitVec 32 := 2048#32
  let c3_i32_424 : BitVec 32 := 3#32
  let c0_i32_432 : BitVec 32 := 0#32
  ![v10.toNat, 2048, 3, 0]
def k0_off14 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32 : BitVec 32 := 3072#32
  let c0_i32_622 : BitVec 32 := 0#32
  let c0_i32_629 : BitVec 32 := 0#32
  ![v10.toNat, 3072, 0, 0]
def k0_off15 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_646 : BitVec 32 := 3072#32
  let c1_i32_639 : BitVec 32 := 1#32
  let c0_i32_647 : BitVec 32 := 0#32
  ![v10.toNat, 3072, 1, 0]
def k0_off16 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_664 : BitVec 32 := 3072#32
  let c2_i32_657 : BitVec 32 := 2#32
  let c0_i32_665 : BitVec 32 := 0#32
  ![v10.toNat, 3072, 2, 0]
def k0_off17 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_682 : BitVec 32 := 3072#32
  let c3_i32_675 : BitVec 32 := 3#32
  let c0_i32_683 : BitVec 32 := 0#32
  ![v10.toNat, 3072, 3, 0]
def k0_off18 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_880 : BitVec 32 := 0#32
  let c4_i32_873 : BitVec 32 := 4#32
  let c0_i32_881 : BitVec 32 := 0#32
  ![v10.toNat, 0, 4, 0]
def k0_off19 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_897 : BitVec 32 := 0#32
  let c5_i32 : BitVec 32 := 5#32
  let c0_i32_898 : BitVec 32 := 0#32
  ![v10.toNat, 0, 5, 0]
def k0_off20 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_914 : BitVec 32 := 0#32
  let c6_i32 : BitVec 32 := 6#32
  let c0_i32_915 : BitVec 32 := 0#32
  ![v10.toNat, 0, 6, 0]
def k0_off21 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_931 : BitVec 32 := 0#32
  let c7_i32 : BitVec 32 := 7#32
  let c0_i32_932 : BitVec 32 := 0#32
  ![v10.toNat, 0, 7, 0]
def k0_dev7 (d0 : Dev nD) : Nat :=
  let c0_i32_1138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1137 : BitVec 32 := 8#32
  let v934 : BitVec 32 := Scalar.muli v2 c8_i32_1137
  let v935 : BitVec 32 := Scalar.addi c0_i32_1138 v934
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1139 : BitVec 32 := 4#32
  let v936 : BitVec 32 := Scalar.muli v5 c4_i32_1139
  let v937 : BitVec 32 := Scalar.addi v935 v936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1129 : BitVec 32 := 1#32
  let v931 : BitVec 32 := Scalar.xori v8 c1_i32_1129
  let c1_i32_1140 : BitVec 32 := 1#32
  let v938 : BitVec 32 := Scalar.muli v931 c1_i32_1140
  let v939 : BitVec 32 := Scalar.addi v937 v938
  v939.toNat
def k0_dev8 (d0 : Dev nD) : Nat :=
  let c0_i32_1153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1152 : BitVec 32 := 8#32
  let v947 : BitVec 32 := Scalar.muli v2 c8_i32_1152
  let v948 : BitVec 32 := Scalar.addi c0_i32_1153 v947
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1154 : BitVec 32 := 4#32
  let v949 : BitVec 32 := Scalar.muli v5 c4_i32_1154
  let v950 : BitVec 32 := Scalar.addi v948 v949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1129 : BitVec 32 := 1#32
  let v931 : BitVec 32 := Scalar.xori v8 c1_i32_1129
  let c1_i32_1155 : BitVec 32 := 1#32
  let v951 : BitVec 32 := Scalar.muli v931 c1_i32_1155
  let v952 : BitVec 32 := Scalar.addi v950 v951
  v952.toNat
def k0_dev9 (d0 : Dev nD) : Nat :=
  let c0_i32_1168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1167 : BitVec 32 := 8#32
  let v960 : BitVec 32 := Scalar.muli v2 c8_i32_1167
  let v961 : BitVec 32 := Scalar.addi c0_i32_1168 v960
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1169 : BitVec 32 := 4#32
  let v962 : BitVec 32 := Scalar.muli v5 c4_i32_1169
  let v963 : BitVec 32 := Scalar.addi v961 v962
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1130 : BitVec 32 := 2#32
  let v932 : BitVec 32 := Scalar.xori v8 c2_i32_1130
  let c1_i32_1170 : BitVec 32 := 1#32
  let v964 : BitVec 32 := Scalar.muli v932 c1_i32_1170
  let v965 : BitVec 32 := Scalar.addi v963 v964
  v965.toNat
def k0_dev10 (d0 : Dev nD) : Nat :=
  let c0_i32_1183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1182 : BitVec 32 := 8#32
  let v973 : BitVec 32 := Scalar.muli v2 c8_i32_1182
  let v974 : BitVec 32 := Scalar.addi c0_i32_1183 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1184 : BitVec 32 := 4#32
  let v975 : BitVec 32 := Scalar.muli v5 c4_i32_1184
  let v976 : BitVec 32 := Scalar.addi v974 v975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1130 : BitVec 32 := 2#32
  let v932 : BitVec 32 := Scalar.xori v8 c2_i32_1130
  let c1_i32_1185 : BitVec 32 := 1#32
  let v977 : BitVec 32 := Scalar.muli v932 c1_i32_1185
  let v978 : BitVec 32 := Scalar.addi v976 v977
  v978.toNat
def k0_dev11 (d0 : Dev nD) : Nat :=
  let c0_i32_1198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1197 : BitVec 32 := 8#32
  let v986 : BitVec 32 := Scalar.muli v2 c8_i32_1197
  let v987 : BitVec 32 := Scalar.addi c0_i32_1198 v986
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1199 : BitVec 32 := 4#32
  let v988 : BitVec 32 := Scalar.muli v5 c4_i32_1199
  let v989 : BitVec 32 := Scalar.addi v987 v988
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1131 : BitVec 32 := 3#32
  let v933 : BitVec 32 := Scalar.xori v8 c3_i32_1131
  let c1_i32_1200 : BitVec 32 := 1#32
  let v990 : BitVec 32 := Scalar.muli v933 c1_i32_1200
  let v991 : BitVec 32 := Scalar.addi v989 v990
  v991.toNat
def k0_dev12 (d0 : Dev nD) : Nat :=
  let c0_i32_1213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1212 : BitVec 32 := 8#32
  let v999 : BitVec 32 := Scalar.muli v2 c8_i32_1212
  let v1000 : BitVec 32 := Scalar.addi c0_i32_1213 v999
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1214 : BitVec 32 := 4#32
  let v1001 : BitVec 32 := Scalar.muli v5 c4_i32_1214
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1131 : BitVec 32 := 3#32
  let v933 : BitVec 32 := Scalar.xori v8 c3_i32_1131
  let c1_i32_1215 : BitVec 32 := 1#32
  let v1003 : BitVec 32 := Scalar.muli v933 c1_i32_1215
  let v1004 : BitVec 32 := Scalar.addi v1002 v1003
  v1004.toNat
def k0_off22 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_1229 : BitVec 32 := 1024#32
  let c4_i32_1222 : BitVec 32 := 4#32
  let c0_i32_1230 : BitVec 32 := 0#32
  ![v10.toNat, 1024, 4, 0]
def k0_off23 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_1247 : BitVec 32 := 1024#32
  let c5_i32_1240 : BitVec 32 := 5#32
  let c0_i32_1248 : BitVec 32 := 0#32
  ![v10.toNat, 1024, 5, 0]
def k0_off24 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_1265 : BitVec 32 := 1024#32
  let c6_i32_1258 : BitVec 32 := 6#32
  let c0_i32_1266 : BitVec 32 := 0#32
  ![v10.toNat, 1024, 6, 0]
def k0_off25 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_1283 : BitVec 32 := 1024#32
  let c7_i32_1276 : BitVec 32 := 7#32
  let c0_i32_1284 : BitVec 32 := 0#32
  ![v10.toNat, 1024, 7, 0]
def k0_off26 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_1477 : BitVec 32 := 2048#32
  let c4_i32_1470 : BitVec 32 := 4#32
  let c0_i32_1478 : BitVec 32 := 0#32
  ![v10.toNat, 2048, 4, 0]
def k0_off27 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_1495 : BitVec 32 := 2048#32
  let c5_i32_1488 : BitVec 32 := 5#32
  let c0_i32_1496 : BitVec 32 := 0#32
  ![v10.toNat, 2048, 5, 0]
def k0_off28 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_1513 : BitVec 32 := 2048#32
  let c6_i32_1506 : BitVec 32 := 6#32
  let c0_i32_1514 : BitVec 32 := 0#32
  ![v10.toNat, 2048, 6, 0]
def k0_off29 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_1531 : BitVec 32 := 2048#32
  let c7_i32_1524 : BitVec 32 := 7#32
  let c0_i32_1532 : BitVec 32 := 0#32
  ![v10.toNat, 2048, 7, 0]
def k0_off30 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_1729 : BitVec 32 := 3072#32
  let c4_i32_1722 : BitVec 32 := 4#32
  let c0_i32_1730 : BitVec 32 := 0#32
  ![v10.toNat, 3072, 4, 0]
def k0_off31 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_1747 : BitVec 32 := 3072#32
  let c5_i32_1740 : BitVec 32 := 5#32
  let c0_i32_1748 : BitVec 32 := 0#32
  ![v10.toNat, 3072, 5, 0]
def k0_off32 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_1765 : BitVec 32 := 3072#32
  let c6_i32_1758 : BitVec 32 := 6#32
  let c0_i32_1766 : BitVec 32 := 0#32
  ![v10.toNat, 3072, 6, 0]
def k0_off33 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3072_i32_1783 : BitVec 32 := 3072#32
  let c7_i32_1776 : BitVec 32 := 7#32
  let c0_i32_1784 : BitVec 32 := 0#32
  ![v10.toNat, 3072, 7, 0]
def k0_dev13 (d0 : Dev nD) : Nat :=
  let c0_i32_2169 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2168 : BitVec 32 := 8#32
  let v1772 : BitVec 32 := Scalar.muli v2 c8_i32_2168
  let v1773 : BitVec 32 := Scalar.addi c0_i32_2169 v1772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2170 : BitVec 32 := 4#32
  let v1774 : BitVec 32 := Scalar.muli v5 c4_i32_2170
  let v1775 : BitVec 32 := Scalar.addi v1773 v1774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2160 : BitVec 32 := 1#32
  let v1769 : BitVec 32 := Scalar.xori v8 c1_i32_2160
  let c1_i32_2171 : BitVec 32 := 1#32
  let v1776 : BitVec 32 := Scalar.muli v1769 c1_i32_2171
  let v1777 : BitVec 32 := Scalar.addi v1775 v1776
  v1777.toNat
def k0_dev14 (d0 : Dev nD) : Nat :=
  let c0_i32_2184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2183 : BitVec 32 := 8#32
  let v1785 : BitVec 32 := Scalar.muli v2 c8_i32_2183
  let v1786 : BitVec 32 := Scalar.addi c0_i32_2184 v1785
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2185 : BitVec 32 := 4#32
  let v1787 : BitVec 32 := Scalar.muli v5 c4_i32_2185
  let v1788 : BitVec 32 := Scalar.addi v1786 v1787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2160 : BitVec 32 := 1#32
  let v1769 : BitVec 32 := Scalar.xori v8 c1_i32_2160
  let c1_i32_2186 : BitVec 32 := 1#32
  let v1789 : BitVec 32 := Scalar.muli v1769 c1_i32_2186
  let v1790 : BitVec 32 := Scalar.addi v1788 v1789
  v1790.toNat
def k0_dev15 (d0 : Dev nD) : Nat :=
  let c0_i32_2199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2198 : BitVec 32 := 8#32
  let v1798 : BitVec 32 := Scalar.muli v2 c8_i32_2198
  let v1799 : BitVec 32 := Scalar.addi c0_i32_2199 v1798
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2200 : BitVec 32 := 4#32
  let v1800 : BitVec 32 := Scalar.muli v5 c4_i32_2200
  let v1801 : BitVec 32 := Scalar.addi v1799 v1800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2161 : BitVec 32 := 2#32
  let v1770 : BitVec 32 := Scalar.xori v8 c2_i32_2161
  let c1_i32_2201 : BitVec 32 := 1#32
  let v1802 : BitVec 32 := Scalar.muli v1770 c1_i32_2201
  let v1803 : BitVec 32 := Scalar.addi v1801 v1802
  v1803.toNat
def k0_dev16 (d0 : Dev nD) : Nat :=
  let c0_i32_2214 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2213 : BitVec 32 := 8#32
  let v1811 : BitVec 32 := Scalar.muli v2 c8_i32_2213
  let v1812 : BitVec 32 := Scalar.addi c0_i32_2214 v1811
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2215 : BitVec 32 := 4#32
  let v1813 : BitVec 32 := Scalar.muli v5 c4_i32_2215
  let v1814 : BitVec 32 := Scalar.addi v1812 v1813
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2161 : BitVec 32 := 2#32
  let v1770 : BitVec 32 := Scalar.xori v8 c2_i32_2161
  let c1_i32_2216 : BitVec 32 := 1#32
  let v1815 : BitVec 32 := Scalar.muli v1770 c1_i32_2216
  let v1816 : BitVec 32 := Scalar.addi v1814 v1815
  v1816.toNat
def k0_dev17 (d0 : Dev nD) : Nat :=
  let c0_i32_2229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2228 : BitVec 32 := 8#32
  let v1824 : BitVec 32 := Scalar.muli v2 c8_i32_2228
  let v1825 : BitVec 32 := Scalar.addi c0_i32_2229 v1824
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2230 : BitVec 32 := 4#32
  let v1826 : BitVec 32 := Scalar.muli v5 c4_i32_2230
  let v1827 : BitVec 32 := Scalar.addi v1825 v1826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2162 : BitVec 32 := 3#32
  let v1771 : BitVec 32 := Scalar.xori v8 c3_i32_2162
  let c1_i32_2231 : BitVec 32 := 1#32
  let v1828 : BitVec 32 := Scalar.muli v1771 c1_i32_2231
  let v1829 : BitVec 32 := Scalar.addi v1827 v1828
  v1829.toNat
def k0_dev18 (d0 : Dev nD) : Nat :=
  let c0_i32_2244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2243 : BitVec 32 := 8#32
  let v1837 : BitVec 32 := Scalar.muli v2 c8_i32_2243
  let v1838 : BitVec 32 := Scalar.addi c0_i32_2244 v1837
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2245 : BitVec 32 := 4#32
  let v1839 : BitVec 32 := Scalar.muli v5 c4_i32_2245
  let v1840 : BitVec 32 := Scalar.addi v1838 v1839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2162 : BitVec 32 := 3#32
  let v1771 : BitVec 32 := Scalar.xori v8 c3_i32_2162
  let c1_i32_2246 : BitVec 32 := 1#32
  let v1841 : BitVec 32 := Scalar.muli v1771 c1_i32_2246
  let v1842 : BitVec 32 := Scalar.addi v1840 v1841
  v1842.toNat
def k0_off34 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1991 : Index := Scalar.indexCast v10
  let c0_2464 : Index := 0#32
  let c0_2465 : Index := 0#32
  let c0_2466 : Index := 0#32
  ![v1991.toNat, 0, 0, 0]
def k0_off35 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1991 : Index := Scalar.indexCast v10
  let c0_2464 : Index := 0#32
  let c0_2465 : Index := 0#32
  let c0_2466 : Index := 0#32
  ![v1991.toNat, 0, 0, 0]
def k0_off36 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2004 : Index := Scalar.indexCast v10
  let c0_2473 : Index := 0#32
  let c1_2474 : Index := 1#32
  let c0_2475 : Index := 0#32
  ![v2004.toNat, 0, 1, 0]
def k0_off37 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2004 : Index := Scalar.indexCast v10
  let c0_2473 : Index := 0#32
  let c0_2475 : Index := 0#32
  ![v2004.toNat, 0, 0, 0]
def k0_off38 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2017 : Index := Scalar.indexCast v10
  let c0_2482 : Index := 0#32
  let c2_2483 : Index := 2#32
  let c0_2484 : Index := 0#32
  ![v2017.toNat, 0, 2, 0]
def k0_off39 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2017 : Index := Scalar.indexCast v10
  let c0_2482 : Index := 0#32
  let c2_2483 : Index := 2#32
  let c0_2484 : Index := 0#32
  ![v2017.toNat, 0, 2, 0]
def k0_off40 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2030 : Index := Scalar.indexCast v10
  let c0_2491 : Index := 0#32
  let c3_2492 : Index := 3#32
  let c0_2493 : Index := 0#32
  ![v2030.toNat, 0, 3, 0]
def k0_off41 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2030 : Index := Scalar.indexCast v10
  let c0_2491 : Index := 0#32
  let c0_2493 : Index := 0#32
  ![v2030.toNat, 0, 2, 0]
def k0_off42 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_2502 : BitVec 32 := 0#32
  let c0_i32_2503 : BitVec 32 := 0#32
  let c0_i32_2504 : BitVec 32 := 0#32
  ![v10.toNat, 0, 0, 0]
def k0_dev19 (d0 : Dev nD) : Nat :=
  let c0_i32_2499 : BitVec 32 := 0#32
  let c1_i32_2253 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1850 : BitVec 32 := Scalar.subi c1_i32_2253 v2
  let c8_i32_2498 : BitVec 32 := 8#32
  let v2034 : BitVec 32 := Scalar.muli v1850 c8_i32_2498
  let v2035 : BitVec 32 := Scalar.addi c0_i32_2499 v2034
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2500 : BitVec 32 := 4#32
  let v2036 : BitVec 32 := Scalar.muli v5 c4_i32_2500
  let v2037 : BitVec 32 := Scalar.addi v2035 v2036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2501 : BitVec 32 := 1#32
  let v2038 : BitVec 32 := Scalar.muli v8 c1_i32_2501
  let v2039 : BitVec 32 := Scalar.addi v2037 v2038
  v2039.toNat
def k0_dev20 (d0 : Dev nD) : Nat :=
  let c0_i32_2513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2512 : BitVec 32 := 8#32
  let v2048 : BitVec 32 := Scalar.muli v2 c8_i32_2512
  let v2049 : BitVec 32 := Scalar.addi c0_i32_2513 v2048
  let c1_i32_2254 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1851 : BitVec 32 := Scalar.subi c1_i32_2254 v5
  let c4_i32_2514 : BitVec 32 := 4#32
  let v2050 : BitVec 32 := Scalar.muli v1851 c4_i32_2514
  let v2051 : BitVec 32 := Scalar.addi v2049 v2050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v2052 : BitVec 32 := Scalar.muli v8 c1_i32_2515
  let v2053 : BitVec 32 := Scalar.addi v2051 v2052
  v2053.toNat
def k0_dev21 (d0 : Dev nD) : Nat :=
  let c0_i32_2527 : BitVec 32 := 0#32
  let c1_i32_2255 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1852 : BitVec 32 := Scalar.subi c1_i32_2255 v2
  let c8_i32_2526 : BitVec 32 := 8#32
  let v2062 : BitVec 32 := Scalar.muli v1852 c8_i32_2526
  let v2063 : BitVec 32 := Scalar.addi c0_i32_2527 v2062
  let c1_i32_2256 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1853 : BitVec 32 := Scalar.subi c1_i32_2256 v5
  let c4_i32_2528 : BitVec 32 := 4#32
  let v2064 : BitVec 32 := Scalar.muli v1853 c4_i32_2528
  let v2065 : BitVec 32 := Scalar.addi v2063 v2064
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2529 : BitVec 32 := 1#32
  let v2066 : BitVec 32 := Scalar.muli v8 c1_i32_2529
  let v2067 : BitVec 32 := Scalar.addi v2065 v2066
  v2067.toNat
def k0_off43 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2213 : Index := Scalar.indexCast v10
  let c0_2743 : Index := 0#32
  let c4_2744 : Index := 4#32
  let c0_2745 : Index := 0#32
  ![v2213.toNat, 0, 4, 0]
def k0_off44 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2213 : Index := Scalar.indexCast v10
  let c0_2743 : Index := 0#32
  let c4_2744 : Index := 4#32
  let c0_2745 : Index := 0#32
  ![v2213.toNat, 0, 4, 0]
def k0_off45 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2226 : Index := Scalar.indexCast v10
  let c0_2752 : Index := 0#32
  let c5_2753 : Index := 5#32
  let c0_2754 : Index := 0#32
  ![v2226.toNat, 0, 5, 0]
def k0_off46 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2226 : Index := Scalar.indexCast v10
  let c0_2752 : Index := 0#32
  let c0_2754 : Index := 0#32
  ![v2226.toNat, 0, 4, 0]
def k0_off47 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2239 : Index := Scalar.indexCast v10
  let c0_2761 : Index := 0#32
  let c6_2762 : Index := 6#32
  let c0_2763 : Index := 0#32
  ![v2239.toNat, 0, 6, 0]
def k0_off48 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2239 : Index := Scalar.indexCast v10
  let c0_2761 : Index := 0#32
  let c6_2762 : Index := 6#32
  let c0_2763 : Index := 0#32
  ![v2239.toNat, 0, 6, 0]
def k0_off49 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2252 : Index := Scalar.indexCast v10
  let c0_2770 : Index := 0#32
  let c7_2771 : Index := 7#32
  let c0_2772 : Index := 0#32
  ![v2252.toNat, 0, 7, 0]
def k0_off50 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v2252 : Index := Scalar.indexCast v10
  let c0_2770 : Index := 0#32
  let c0_2772 : Index := 0#32
  ![v2252.toNat, 0, 6, 0]
def k0_off51 (d0 : Dev nD) : Fin 4 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_2781 : BitVec 32 := 0#32
  let c4_i32_2782 : BitVec 32 := 4#32
  let c0_i32_2783 : BitVec 32 := 0#32
  ![v10.toNat, 0, 4, 0]
def k0_dev22 (d0 : Dev nD) : Nat :=
  let c0_i32_2778 : BitVec 32 := 0#32
  let c1_i32_2253 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1850 : BitVec 32 := Scalar.subi c1_i32_2253 v2
  let c8_i32_2777 : BitVec 32 := 8#32
  let v2256 : BitVec 32 := Scalar.muli v1850 c8_i32_2777
  let v2257 : BitVec 32 := Scalar.addi c0_i32_2778 v2256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2779 : BitVec 32 := 4#32
  let v2258 : BitVec 32 := Scalar.muli v5 c4_i32_2779
  let v2259 : BitVec 32 := Scalar.addi v2257 v2258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2780 : BitVec 32 := 1#32
  let v2260 : BitVec 32 := Scalar.muli v8 c1_i32_2780
  let v2261 : BitVec 32 := Scalar.addi v2259 v2260
  v2261.toNat
def k0_dev23 (d0 : Dev nD) : Nat :=
  let c0_i32_2792 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2791 : BitVec 32 := 8#32
  let v2270 : BitVec 32 := Scalar.muli v2 c8_i32_2791
  let v2271 : BitVec 32 := Scalar.addi c0_i32_2792 v2270
  let c1_i32_2254 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1851 : BitVec 32 := Scalar.subi c1_i32_2254 v5
  let c4_i32_2793 : BitVec 32 := 4#32
  let v2272 : BitVec 32 := Scalar.muli v1851 c4_i32_2793
  let v2273 : BitVec 32 := Scalar.addi v2271 v2272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2794 : BitVec 32 := 1#32
  let v2274 : BitVec 32 := Scalar.muli v8 c1_i32_2794
  let v2275 : BitVec 32 := Scalar.addi v2273 v2274
  v2275.toNat
def k0_dev24 (d0 : Dev nD) : Nat :=
  let c0_i32_2806 : BitVec 32 := 0#32
  let c1_i32_2255 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1852 : BitVec 32 := Scalar.subi c1_i32_2255 v2
  let c8_i32_2805 : BitVec 32 := 8#32
  let v2284 : BitVec 32 := Scalar.muli v1852 c8_i32_2805
  let v2285 : BitVec 32 := Scalar.addi c0_i32_2806 v2284
  let c1_i32_2256 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1853 : BitVec 32 := Scalar.subi c1_i32_2256 v5
  let c4_i32_2807 : BitVec 32 := 4#32
  let v2286 : BitVec 32 := Scalar.muli v1853 c4_i32_2807
  let v2287 : BitVec 32 := Scalar.addi v2285 v2286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2808 : BitVec 32 := 1#32
  let v2288 : BitVec 32 := Scalar.muli v8 c1_i32_2808
  let v2289 : BitVec 32 := Scalar.addi v2287 v2288
  v2289.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x32x8x128 : Shape := ⟨4, ![4, 32, 8, 128]⟩
abbrev S4x16384x8x128 : Shape := ⟨4, ![4, 16384, 8, 128]⟩
abbrev S4x8x32x16384 : Shape := ⟨4, ![4, 8, 32, 16384]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x16384x8x128, .f32⟩
  | .hbm, ⟨2, _⟩ => ⟨S4x16384x8x128, .f32⟩
  | .hbm, ⟨3, _⟩ => ⟨S4x8x32x16384, .f32⟩
  | .hbm, ⟨4, _⟩ => ⟨S_, .f32⟩
  | .hbm, ⟨5, _⟩ => ⟨S4x8x32x16384, .f32⟩
  | .hbm, ⟨6, _⟩ => ⟨S4x8x32x16384, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x16384, .f32⟩
  | .hbm, ⟨11, _⟩ => ⟨S4x8x32x16384, .f32⟩
  | .hbm, ⟨12, _⟩ => ⟨S4x8x32x16384, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x16384, .f32⟩
  | .hbm, ⟨17, _⟩ => ⟨S4x8x32x16384, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Run.Spec.lean ====
/-
# What every buffer of the kernel holds, as functions of the launch contents

The mesh is `x = 2, y = 2, z = 4`: device `c` has batch row `c / 4` and cache quarter `c % 4`. Everything here is a
plain function of the launch memory: the scaled query block, the chunks of the cache, the running sums of every head
after every chunk, what crosses between devices, and the gathered result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.ShloMosaic.ValueIdx

variable {F : FTy → Type} [FloatOps F]

/-! ## Peers -/

/-- The distances of the six peers: three along `z`, then `x`, `y` and both flipped. -/
def dist : Fin 6 → ℕ := ![1, 2, 3, 8, 4, 12]

set_option backward.proofsInPublic true in
/-- Peer `k` of device `c`. -/
def peer (k : Fin 6) (c : Dev nD) : Dev nD := ⟨(c.val ^^^ dist k) % 16, Nat.mod_lt _ (by decide)⟩

theorem peer_peer (k : Fin 6) (c : Dev nD) : peer k (peer k c) = c := by revert k c; decide
theorem peer_inj (c : Dev nD) (k k' : Fin 6) (h : peer k c = peer k' c) : k = k' := by revert c k k'; decide
theorem peer_ne (k : Fin 6) (c : Dev nD) : peer k c ≠ c := by revert k c; decide

/-- The device of batch row `b` and cache quarter `z`. -/
def devOf (b z : ℕ) : Dev nD := ⟨(4 * b + z) % 16, Nat.mod_lt _ (by decide)⟩

/-! ## Contents -/

variable (m : (ℓ : Loc nD τ sig) → Buf (Elt F) ℓ)

/-- The query array of device `c`. -/
def Qm (c : Dev nD) : S4x32x8x128.Idx → F .f32 := m ((c : Thread nD τ).loc main_arg0)
/-- The key and value arrays of device `c`. -/
def Km (c : Dev nD) : S4x4096x8x128.Idx → F .f32 := m ((c : Thread nD τ).loc main_arg1)
def Vm (c : Dev nD) : S4x4096x8x128.Idx → F .f32 := m ((c : Thread nD τ).loc main_arg2)

/-- An element of a cache array at row `b`, position `r`, head `h`, lane `d`. -/
def at4 (A : S4x4096x8x128.Idx → F .f32) (b r h : ℕ) (d : Fin 128) : F .f32 :=
  A (ix4 ⟨b % 4, Nat.mod_lt _ (by decide)⟩ ⟨r % 4096, Nat.mod_lt _ (by decide)⟩ ⟨h % 8, Nat.mod_lt _ (by decide)⟩ d)

/-- The key buffer while it holds the chunks of stage `t` (in either slot). -/
def kC (c : Dev nD) (t : ℕ) : S2x4x1024x128.Idx → F .f32 := fun i =>
  at4 (Km m c) (c.val / 4) (1024 * (t % 4) + (i 2).val) (4 * (t / 4) + (i 1).val) (i 3)
def vC (c : Dev nD) (t : ℕ) : S2x4x1024x128.Idx → F .f32 := fun i =>
  at4 (Vm m c) (c.val / 4) (1024 * (t % 4) + (i 2).val) (4 * (t / 4) + (i 1).val) (i 3)

/-- Chunk `u` of head `h`, as a block reads it. -/
def kVec (c : Dev nD) (h u : ℕ) : Vec F S1x1x1024x128 .f32 := fun i =>
  at4 (Km m c) (c.val / 4) (1024 * u + (i 2).val) h (i 3)
def vVec (c : Dev nD) (h u : ℕ) : Vec F S1x1x1024x128 .f32 := fun i =>
  at4 (Vm m c) (c.val / 4) (1024 * u + (i 2).val) h (i 3)

/-- The query row of `c`, the scaled query block, and one head of it. -/
def qRow (c : Dev nD) : Vec F S1x32x8x128 .f32 := fun i =>
  Qm m c (ix4 ⟨(c.val / 4) % 4, Nat.mod_lt _ (by decide)⟩ (i 1) (i 2) (i 3))
def qC (c : Dev nD) : S32x8x128.Idx → F .bf16 := k0_pay3 (k0_pay2 (qRow m c))
def qVec (c : Dev nD) (h : ℕ) : Vec F S32x1x128 .bf16 := fun i =>
  qC m c (ix3 (i 0) ⟨h % 8, Nat.mod_lt _ (by decide)⟩ (i 2))

/-- The running sum of the weights of head `h` after `u` chunks. -/
def lVal (c : Dev nD) (h : ℕ) : ℕ → Vec F S1x32x8 .f32
  | 0 => fun i => k0_pay5 (ix3 ⟨h % 8, Nat.mod_lt _ (by decide)⟩ (i 1) (i 2))
  | u + 1 => k0_pay8 (k0_pay6 (kVec m c h u)) (qVec m c h) (lVal c h u)
/-- The running weighted sum of head `h` after `u` chunks. -/
def aVal (c : Dev nD) (h : ℕ) : ℕ → Vec F S1x32x128 .f32
  | 0 => fun i => k0_pay4 (ix3 ⟨h % 8, Nat.mod_lt _ (by decide)⟩ (i 1) (i 2))
  | u + 1 => k0_pay9 (k0_pay6 (kVec m c h u)) (qVec m c h) (vVec m c h u) (aVal c h u)

/-- How many chunks of head `h` the first `n` blocks (four heads to a stage, four stages to a group of heads) have added. -/
def cnt (n h : ℕ) : ℕ := min 4 ((n + 3 - 16 * (h / 4) - h % 4) / 4)
/-- The head block `n` works on. -/
def hd (n : ℕ) : ℕ := 4 * (n / 16) + n % 4

theorem cnt_succ : ∀ n < 32, ∀ h < 8, cnt (n + 1) h = if h = hd n then cnt n h + 1 else cnt n h := by decide
theorem cnt_hd : ∀ n < 32, cnt n (hd n) = n / 4 % 4 := by decide
theorem hd_lt : ∀ n < 32, hd n < 8 := by decide
theorem hd_div : ∀ n < 32, hd n / 4 = n / 16 := by decide

def lC (c : Dev nD) (n : ℕ) : S8x32x8.Idx → F .f32 := fun i => lVal m c (i 0).val (cnt n (i 0).val) (ix3 0 (i 1) (i 2))
def aC (c : Dev nD) (n : ℕ) : S8x32x128.Idx → F .f32 := fun i => aVal m c (i 0).val (cnt n (i 0).val) (ix3 0 (i 1) (i 2))

/-! ## The exchange along `z` -/

/-- Group `g` of heads of the finished sums of device `c`. -/
def aWin (c : Dev nD) (g : ℕ) : Vec F S4x32x128 .f32 := fun i => aVal m c (4 * g + (i 0).val) 4 (ix3 0 (i 1) (i 2))
def lWin (c : Dev nD) (g : ℕ) : Vec F S4x32x8 .f32 := fun i => lVal m c (4 * g + (i 0).val) 4 (ix3 0 (i 1) (i 2))

/-- What device `c` sends of its weighted sums. -/
def sC (c : Dev nD) : S8x32x128.Idx → F .bf16 := fun i =>
  k0_pay68 (aWin m c ((i 0).val / 4)) (ix3 ⟨(i 0).val % 4, Nat.mod_lt _ (by decide)⟩ (i 1) (i 2))

set_option backward.proofsInPublic true in
/-- The peers along `z` and across `x`, `y`. -/
def zp (j : Fin 3) : Fin 6 := ⟨j.val, by omega⟩
set_option backward.proofsInPublic true in
def gp (j : Fin 3) : Fin 6 := ⟨3 + j.val, by omega⟩

/-- What lands on device `c` from its peers along `z`. -/
def rC (c : Dev nD) : S3x8x32x128.Idx → F .bf16 := fun i => sC m (peer (zp (i 0)) c) (ix3 (i 1) (i 2) (i 3))
def rlC (c : Dev nD) : S3x8x32x8.Idx → F .f32 := fun i => lC m (peer (zp (i 0)) c) 32 (ix3 (i 1) (i 2) (i 3))

def rWin (c : Dev nD) (g : ℕ) (j : Fin 3) : Vec F S1x4x32x128 .bf16 := fun i =>
  k0_pay68 (aWin m (peer (zp j) c) g) (ix3 (i 1) (i 2) (i 3))
def rlWin (c : Dev nD) (g : ℕ) (j : Fin 3) : Vec F S1x4x32x8 .f32 := fun i =>
  lWin m (peer (zp j) c) g (ix3 (i 1) (i 2) (i 3))

/-- Group `g` of the total sums. -/
def aSum (c : Dev nD) (g : ℕ) : Vec F S4x32x128 .f32 :=
  k0_pay133 (aWin m c g) (rWin m c g 0) (rWin m c g 1) (rWin m c g 2)
def lSum (c : Dev nD) (g : ℕ) : Vec F S4x32x8 .f32 :=
  k0_pay135 (k0_pay134 (lWin m c g) (rlWin m c g 0) (rlWin m c g 1)) (rlWin m c g 2)

/-- The accumulators once groups below `n` are summed. -/
def aF (c : Dev nD) (n : ℕ) : S8x32x128.Idx → F .f32 := fun i =>
  if (i 0).val / 4 < n then aSum m c ((i 0).val / 4) (ix3 ⟨(i 0).val % 4, Nat.mod_lt _ (by decide)⟩ (i 1) (i 2)) else aC m c 32 i
def lF (c : Dev nD) : S8x32x8.Idx → F .f32 := fun i =>
  lSum m c ((i 0).val / 4) (ix3 ⟨(i 0).val % 4, Nat.mod_lt _ (by decide)⟩ (i 1) (i 2))

/-! ## The result -/

/-- Head `h` of the total sums of device `c`. -/
def aRow (c : Dev nD) (h : ℕ) : Vec F S1x32x128 .f32 := fun i =>
  aSum m c (h / 4) (ix3 ⟨h % 4, Nat.mod_lt _ (by decide)⟩ (i 1) (i 2))
def lRow (c : Dev nD) (h : ℕ) : Vec F S1x32x8 .f32 := fun i =>
  lSum m c (h / 4) (ix3 ⟨h % 4, Nat.mod_lt _ (by decide)⟩ (i 1) (i 2))

/-- The attention output of device `c`'s batch row, one head of it. -/
def oVec (c : Dev nD) (h : ℕ) : Vec F S1x32x1x128 .bf16 := k0_pay136 (lRow m c h) (aRow m c h)

/-- The gathered result as device `c` ends with it. -/
def oC (c : Dev nD) : S4x32x8x128.Idx → F .bf16 := fun i =>
  oVec m (devOf (i 0).val (c.val % 4)) (i 2).val (ix4 0 (i 1) 0 (i 3))

/-- The output window of device `c`. -/
def outC (c : Dev nD) : S4x32x8x128.Idx → F .f32 := k0_pay1 (oC m c)

end Cert.KernelIdeal.Run

end
-- ==== Proof.Run.Base.lean ====
/-
# The resources of the proof, and one rule per effect in the form the body uses

The local copies of the cache chunks go through the transfers library: a copy in flight is a `Flight`, whose landing
gives the slot's piece back holding the chunk. A load or a store of a piece is restated with what is read, or what the
buffer holds afterwards, as a premise.
-/
module

public import proofs.«01_k».proof.Proof.Run.Spec

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra -/

/-- The duties' names: the barrier's six, one per peer; every other cell has the duty `0`. -/
abbrev UB : Type := URounds (GSem nD τ sig) (Fin 6)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER; infer_instance

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Rules

variable {c : Dev nD} {α : Type}

/-- A load of held elements that reads `w`. -/
theorem wp_ld {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (w : r.shape.Idx → Elt F e) (hS : m.view.setOn r.set ⊆ S) (hw : m.view.readAt (Elt F) r f = w) :
    (m.view.loc (c : Thread nD τ) ↦[S]{q} f)
      ⊢ iprop(((m.view.loc (c : Thread nD τ) ↦[S]{q} f) -∗ wpc c (k w) Q) -∗ wpc c (.op (.load m r hl) k) Q) := by
  subst hw
  exact wp_load 𝒱₀ (c : Thread nD τ) none Set.univ hS

theorem write_agrees {sp : Space} {s : Shape} {e : EltTy} (v : View sig .tc sp s e) (f g : v.ty.Contents (Elt F))
    (w : s.Idx → Elt F e) (S : Finset v.ty.Idx) (hg : v.read (Elt F) g = w) (hn : ∀ i ∈ S, i ∉ v.set → f i = g i) :
    ∀ i ∈ S, v.write (Elt F) f w Finset.univ i = g i := by
  intro i hi
  by_cases h : i ∈ v.set
  · obtain ⟨x, -, rfl⟩ := Finset.mem_map.1 h
    rw [View.write_emb_of_mem f w (Finset.mem_univ x), ← hg, View.read_apply, cast_cast, cast_eq]
  · rw [View.write_of_not_mem f w _ h]; exact hn i hi h

/-- A store into held elements, after which they hold `g`. -/
theorem wp_st {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))}
    (g : Buf (Elt F) ((m.access r).loc (c : Thread nD τ)))
    (hS : (m.access r).set ⊆ S) (hg : (m.access r).read (Elt F) g = w) (hn : ∀ i ∈ S, i ∉ (m.access r).set → f i = g i) :
    ((m.access r).loc (c : Thread nD τ) ↦[S]{fullShare} f)
      ⊢ iprop((((m.access r).loc (c : Thread nD τ) ↦[S]{fullShare} g) -∗ wpc c (k ⟨⟩) Q)
        -∗ wpc c (.op (.store m r w Finset.univ hx hm) k) Q) := by
  rw [← pointsTo_congr (g := g) (write_agrees (m.access r) f g w S hg hn)]
  exact wp_store 𝒱₀ (c : Thread nD τ) none Set.univ hS

/-! ## Local copies -/

/-- The credit of one chunk's copy. -/
abbrev NK : ℕ := ((Memref.whole cc0_scratch1 : Memref sig .tc .vmem S2x4x1024x128 .f32).slice
  (Rect.unit (s := S2x4x1024x128) ![0, 0, 0, 0] S1x1x1024x128.size inb_S2x4x1024x128_S1x1x1024x128_0_0_0_0) (fun _ => rfl)).view.dmaCredit

variable (c) in
/-- A copy's parts at rest: the piece of the destination at any contents, a share of the whole source, the counter at zero. -/
def cIdle (sm : DmaSem sig) (ls ld : Loc nD τ sig) (fs : Buf (Elt F) ls) (q : PosShare TreeShare) (D : Finset (Idx ld)) : sProp 𝕄 :=
  iprop((∃ f, ld ↦[D]{fullShare} f) ∗ (ls ↦{q} fs) ∗ semVal ((c : Thread nD τ), .dma sm) 0)

variable (c) in
/-- The copy in flight: on landing, the piece agrees with `g`. -/
def cFly (N : ℕ) (sm : DmaSem sig) (ls ld : Loc nD τ sig) (fs : Buf (Elt F) ls) (q : PosShare TreeShare) (D : Finset (Idx ld)) (g : Buf (Elt F) ld) : sProp 𝕄 :=
  iprop(∃ (I : Finset (Idx ls)) (f' : Buf (Elt F) ld), ⌜∀ i ∈ D, f' i = g i⌝
    ∗ Flight EC (c : Thread nD τ) (.dma sm) () N iprop((ld ↦[D]{fullShare} f') ∗ (ls ↦[I]{q} fs)) ∗ (ls ↦[Finset.univ \ I]{q} fs))

variable (c) in
/-- The copy landed. -/
def cGot (sm : DmaSem sig) (ls ld : Loc nD τ sig) (fs : Buf (Elt F) ls) (q : PosShare TreeShare) (D : Finset (Idx ld)) (g : Buf (Elt F) ld) : sProp 𝕄 :=
  iprop((ld ↦[D]{fullShare} g) ∗ (ls ↦{q} fs) ∗ semVal ((c : Thread nD τ), .dma sm) 0)

theorem cGot_idle (sm : DmaSem sig) (ls ld : Loc nD τ sig) (fs : Buf (Elt F) ls) (q : PosShare TreeShare) (D : Finset (Idx ld)) (g : Buf (Elt F) ld) :
    cGot c sm ls ld fs q D g ⊢ cIdle c sm ls ld fs q D := by
  unfold cGot cIdle
  iintro ⟨H, H1, H2⟩
  isplitl [H]; · iexists g; iexact H
  isplitl [H1]; · iexact H1
  iexact H2

/-- Starting a local copy. -/
theorem wp_cstart {Q : α → sProp 𝕄} {s : Shape} {e : EltTy} {src : Memref sig .tc .hbm s e} {dst : Memref sig .tc .vmem s e} {sm : DmaSem sig}
    {hsrc : src.view.WordExact} {hdst : dst.view.WordExact}
    {hsem : DmaTarget.Typed (nD := nD) (τ := τ) (p := .tc) .hbm (.dma sm) (.here dst)} {k : PUnit → Prog (TpuEff nD τ sig (Elt F) Λ₀ .tc) α}
    (N : ℕ) (hN : dst.view.dmaCredit = N) (hN0 : 0 < N)
    (fs : Buf (Elt F) (src.view.loc (c : Thread nD τ))) (q : PosShare TreeShare)
    (g : Buf (Elt F) (dst.view.loc (c : Thread nD τ))) (D : Finset (Idx (dst.view.loc (c : Thread nD τ))))
    (hD : dst.view.set = D) (hg : dst.view.read (Elt F) g = src.view.read (Elt F) fs) :
    cIdle c sm (src.view.loc (c : Thread nD τ)) (dst.view.loc (c : Thread nD τ)) fs q D
      ⊢ iprop((cFly c N sm (src.view.loc (c : Thread nD τ)) (dst.view.loc (c : Thread nD τ)) fs q D g -∗ wpc c (k ⟨⟩) Q)
          -∗ wpc c (.op (.enqueueDma src (.here dst) (.dma sm) hsrc hdst hsem) k) Q) := by
  unfold cIdle cFly
  iintro ⟨⟨%f, Hd⟩, Hs, Hv⟩ Hk
  ihave Hs := (pointsTo_split_subset (Finset.subset_univ src.view.set)).1 $$ Hs
  icases Hs with ⟨Hs, Hr⟩
  iapply (wp_dmaLocal EC 𝒱₀ (c : Thread nD τ) none (src := src) (dst := dst) (sm := .dma sm) (Sd := D) (fd := f) (fs := fs) (q := q) () N hN hN0 (le_of_eq hD)) $$ [Hs Hd Hv]
  · isplitl [Hs]; · iexact Hs
    isplitl [Hd]; · iexact Hd
    iexact Hv
  iintro HF
  iapply Hk
  iexists _, _
  isplitr
  · ipureintro
    exact write_agrees dst.view f g _ D (hg) (fun i hi hn => absurd (hD ▸ hi) hn)
  isplitl [HF]; · iexact HF
  iexact Hr

/-- Waiting for it. -/
theorem wp_cwait {Q : α → sProp 𝕄} {s s' : Shape} {e e' : EltTy} {sp : Space} {srcw : Memref sig .tc sp s' e'} {dstw : Memref sig .tc .vmem s e} {sm : DmaSem sig}
    {hsrc : srcw.view.WordExact} {hdst : dstw.view.WordExact} {k : PUnit → Prog (TpuEff nD τ sig (Elt F) Λ₀ .tc) α}
    (N : ℕ) (hN : dstw.view.dmaCredit = N) (ls ld : Loc nD τ sig) (fs : Buf (Elt F) ls) (q : PosShare TreeShare) (D : Finset (Idx ld)) (g : Buf (Elt F) ld)
    {O : CellTallies nD τ sig Unit} :
    iprop(cFly c N sm ls ld fs q D g ∗ (∃ W, owes (c : Thread nD τ) O W) ∗ MayWait (c : Thread nD τ) (.dma sm) () O)
      ⊢ iprop(((cGot c sm ls ld fs q D g ∗ (∃ W, owes (c : Thread nD τ) O W)) -∗ wpc c (k ⟨⟩) Q)
          -∗ wpc c (.op (.waitDma2 sm srcw dstw hsrc hdst) k) Q) := by
  unfold cFly cGot
  iintro ⟨⟨%I, %f', %hf, HF, Hr⟩, ⟨%W, HO⟩, HM⟩ Hk
  iapply (wp_waitLocalO EC 𝒱₀ (c : Thread nD τ) none (sem := sm) (srcw := srcw) (dstw := dstw) () hN (O := O) (W := W)) $$ [HF HO HM]
  · isplitl [HF]; · iexact HF
    isplitl [HO]; · iexact HO
    iexact HM
  iintro ⟨⟨Hd, Hs⟩, Hv, HO⟩
  iapply Hk
  isplitr [HO]
  · isplitl [Hd]
    · iapply (Entails.of_eq (pointsTo_congr hf)); iexact Hd
    isplitr [Hv]
    · iapply (pointsTo_split_subset (Finset.subset_univ I)).2
      isplitl [Hs]; · iexact Hs
      iexact Hr
    iexact Hv
  iexists _
  iexact HO

end Rules

end Cert.KernelIdeal.Run

end
-- ==== Proof.Run.Chunk.lean ====
/-
# The chunk copies and one block of the attention sums

A stage's copy of head `hl` goes into the piece `(s, hl)` of the key (or value) buffer and signals the semaphore of the
same coordinates; each of the eight pieces has its own share of the array it reads. A block reads a landed piece and the
head's query, and adds one chunk to the head's two running sums.
-/
module

public import proofs.«01_k».proof.Proof.Run.Base
public import Idealize.ShloMosaic.Lib.ValueLayout

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

/-! ## Memrefs -/

abbrev qM : Memref sig .tc .vmem S4x32x8x128 .f32 := Memref.whole cc0_stg0_0
abbrev outM : Memref sig .tc .vmem S4x32x8x128 .f32 := Memref.whole cc0_stg1_0
abbrev kA : Memref sig .tc .hbm S4x4096x8x128 .f32 := Memref.whole main_arg1
abbrev vA : Memref sig .tc .hbm S4x4096x8x128 .f32 := Memref.whole main_arg2
abbrev qB : Memref sig .tc .vmem S32x8x128 .bf16 := Memref.whole cc0_scratch0
abbrev kB : Memref sig .tc .vmem S2x4x1024x128 .f32 := Memref.whole cc0_scratch1
abbrev vB : Memref sig .tc .vmem S2x4x1024x128 .f32 := Memref.whole cc0_scratch2
abbrev aB : Memref sig .tc .vmem S8x32x128 .f32 := Memref.whole cc0_scratch3
abbrev lB : Memref sig .tc .vmem S8x32x8 .f32 := Memref.whole cc0_scratch4
abbrev sB : Memref sig .tc .vmem S8x32x128 .bf16 := Memref.whole cc0_scratch5
abbrev rB : Memref sig .tc .vmem S3x8x32x128 .bf16 := Memref.whole cc0_scratch6
abbrev rlB : Memref sig .tc .vmem S3x8x32x8 .f32 := Memref.whole cc0_scratch7
abbrev oB : Memref sig .tc .vmem S4x32x8x128 .bf16 := Memref.whole cc0_scratch8

abbrev lcK (c : Dev nD) : Loc nD τ sig := (c : Thread nD τ).loc main_arg1
abbrev lcV (c : Dev nD) : Loc nD τ sig := (c : Thread nD τ).loc main_arg2
abbrev lcQb (c : Dev nD) : Loc nD τ sig := (c : Thread nD τ).loc cc0_scratch0
abbrev lcKb (c : Dev nD) : Loc nD τ sig := (c : Thread nD τ).loc cc0_scratch1
abbrev lcVb (c : Dev nD) : Loc nD τ sig := (c : Thread nD τ).loc cc0_scratch2
abbrev lcA (c : Dev nD) : Loc nD τ sig := (c : Thread nD τ).loc cc0_scratch3
abbrev lcL (c : Dev nD) : Loc nD τ sig := (c : Thread nD τ).loc cc0_scratch4
abbrev lcS (c : Dev nD) : Loc nD τ sig := (c : Thread nD τ).loc cc0_scratch5
abbrev lcR (c : Dev nD) : Loc nD τ sig := (c : Thread nD τ).loc cc0_scratch6
abbrev lcRl (c : Dev nD) : Loc nD τ sig := (c : Thread nD τ).loc cc0_scratch7
abbrev lcO (c : Dev nD) : Loc nD τ sig := (c : Thread nD τ).loc cc0_scratch8

/-! ## The pieces of the key and value buffers, their semaphores and shares -/

/-- The piece `(s, hl)` of the key buffer (and of the value buffer). -/
def slotSet (s hl : ℕ) : Finset S2x4x1024x128.Idx := Finset.univ.filter fun i => (i 0).val = s ∧ (i 1).val = hl

/-- Slot index `4 s + hl` of a piece. -/
def slotIx (s hl : ℕ) : Fin 8 := ⟨(4 * s + hl) % 8, Nat.mod_lt _ (by decide)⟩
/-- Its share of the source array. -/
def kvShare (s hl : ℕ) : PosShare TreeShare := dealOf fullShare (Finset.univ : Finset (Fin 8)) (slotIx s hl)
def kSem (s hl : ℕ) : DmaSem sig := ⟨2 + (4 * s + hl) % 8, by have : (4 * s + hl) % 8 < 8 := Nat.mod_lt _ (by decide); show _ < 54; omega⟩
def vSem (s hl : ℕ) : DmaSem sig := ⟨10 + (4 * s + hl) % 8, by have : (4 * s + hl) % 8 < 8 := Nat.mod_lt _ (by decide); show _ < 54; omega⟩

variable (m : (ℓ : Loc nD τ sig) → Buf (Elt F) ℓ)

def kIdle (c : Dev nD) (s hl : ℕ) : sProp 𝕄 := cIdle c (kSem s hl) (lcK c) (lcKb c) (Km m c) (kvShare s hl) (slotSet s hl)
def vIdle (c : Dev nD) (s hl : ℕ) : sProp 𝕄 := cIdle c (vSem s hl) (lcV c) (lcVb c) (Vm m c) (kvShare s hl) (slotSet s hl)
def kFly (c : Dev nD) (s hl t : ℕ) : sProp 𝕄 := cFly c NK (kSem s hl) (lcK c) (lcKb c) (Km m c) (kvShare s hl) (slotSet s hl) (kC m c t)
def vFly (c : Dev nD) (s hl t : ℕ) : sProp 𝕄 := cFly c NK (vSem s hl) (lcV c) (lcVb c) (Vm m c) (kvShare s hl) (slotSet s hl) (vC m c t)
def kGot (c : Dev nD) (s hl t : ℕ) : sProp 𝕄 := cGot c (kSem s hl) (lcK c) (lcKb c) (Km m c) (kvShare s hl) (slotSet s hl) (kC m c t)
def vGot (c : Dev nD) (s hl t : ℕ) : sProp 𝕄 := cGot c (vSem s hl) (lcV c) (lcVb c) (Vm m c) (kvShare s hl) (slotSet s hl) (vC m c t)

omit [FloatOps F] in
theorem NK_pos : 0 < NK := View.dmaCredit_pos _ (by decide)

omit [FloatOps F] in
theorem slot_rect (s hl : ℕ) (inb) : (Rect.unit (s := S2x4x1024x128) ![s, hl, 0, 0] S1x1x1024x128.size inb).set = slotSet s hl := by
  ext i
  rw [Rect.mem_set_unit, slotSet, Finset.mem_filter]
  constructor
  · intro h
    have h0 := h 0; have h1 := h 1
    simp at h0 h1
    exact ⟨Finset.mem_univ _, by omega, by omega⟩
  · rintro ⟨-, h0, h1⟩ a
    have h2 := (i 2).isLt; have h3 := (i 3).isLt
    match a with
    | ⟨0, _⟩ => simp; omega
    | ⟨1, _⟩ => simp; omega
    | ⟨2, _⟩ => simp; exact h2
    | ⟨3, _⟩ => simp; exact h3

omit [FloatOps F] in
/-- An index `(x, y)` matched with shape `[1, a, 1, b]` is `(0, x, 0, y)`. -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

omit [FloatOps F] in
/-- What a chunk's copy carries, elementwise: both ends name one element of the array. -/
theorem chunk_elem (A : S4x4096x8x128.Idx → F .f32) (c : Dev nD) (s hl t : ℕ) (ht : t < 8) (hh : hl < 4)
    (inb : ∀ a, (![s, hl, 0, 0] : Fin 4 → ℕ) a + S1x1x1024x128.size a ≤ S2x4x1024x128.size a)
    (inb' : ∀ a, (![c.val / 4, 1024 * (t % 4), 4 * (t / 4) + hl, 0] : Fin 4 → ℕ) a + S1x1024x1x128.size a ≤ S4x4096x8x128.size a)
    (h1 : S1024x128.numel = S1x1x1024x128.numel) (h2 : S1024x128.numel = S1x1024x1x128.numel) (x : S1024x128.Idx) :
    (fun i : S2x4x1024x128.Idx => at4 A (c.val / 4) (1024 * (t % 4) + (i 2).val) (4 * (t / 4) + (i 1).val) (i 3))
        ((Rect.unit (s := S2x4x1024x128) ![s, hl, 0, 0] S1x1x1024x128.size inb).emb (Shape.reshapeEquiv h1 x))
      = A ((Rect.unit (s := S4x4096x8x128) ![c.val / 4, 1024 * (t % 4), 4 * (t / 4) + hl, 0] S1x1024x1x128.size inb').emb (Shape.reshapeEquiv h2 x)) := by
  obtain ⟨x0, x1, rfl⟩ : ∃ (x0 : Fin 1024) (x1 : Fin 128), x = ix2 x0 x1 := ⟨x 0, x 1, eq_ix2 x⟩
  erw [reshapeEquiv_ix2_11ab, reshapeEquiv_ix2_1a1b]
  have hc : c.val < 16 := c.isLt
  unfold at4
  refine congrArg A (funext fun a => ?_)
  match a with
  | ⟨0, _⟩ => exact Fin.ext (show c.val / 4 % 4 = c.val / 4 + 1 * 0 by omega)
  | ⟨1, _⟩ => exact Fin.ext (show (1024 * (t % 4) + (0 + 1 * x0.val)) % 4096 = 1024 * (t % 4) + 1 * x0.val by have := x0.isLt; omega)
  | ⟨2, _⟩ => exact Fin.ext (show (4 * (t / 4) + (hl + 1 * 0)) % 8 = 4 * (t / 4) + hl + 1 * 0 by omega)
  | ⟨3, _⟩ => exact Fin.ext (show 0 + 1 * x1.val = 0 + 1 * x1.val from rfl)

section Copies

variable {c : Dev nD} {α : Type}

/-- The start of the key chunk of stage `t`, head `hl`, into slot `s`. -/
theorem wp_kstart {Q : α → sProp 𝕄} (s hl t : ℕ) (ht : t < 8) (hh : hl < 4) {off : Fin 4 → ℕ} {inb inb' h1 h2 h3 h4}
    {sm : DmaSem sig} {hsrc hdst hsem} {k : PUnit → Prog (TpuEff nD τ sig (Elt F) Λ₀ .tc) α}
    (hoff : off = ![c.val / 4, 1024 * (t % 4), 4 * (t / 4) + hl, 0]) (hsm : sm = kSem s hl) :
    kIdle m c s hl ⊢ iprop((kFly m c s hl t -∗ wpc c (k ⟨⟩) Q)
      -∗ wpc c (.op (.enqueueDma ((kA.slice (Rect.unit (s := S4x4096x8x128) off S1x1024x1x128.size inb) h1).squeeze S1024x128 h2)
        (.here ((kB.slice (Rect.unit (s := S2x4x1024x128) ![s, hl, 0, 0] S1x1x1024x128.size inb') h3).squeeze S1024x128 h4)) (.dma sm) hsrc hdst hsem) k) Q) := by
  subst hoff hsm
  refine wp_cstart (src := (kA.slice (Rect.unit (s := S4x4096x8x128) _ S1x1024x1x128.size inb) h1).squeeze S1024x128 h2)
    (dst := (kB.slice (Rect.unit (s := S2x4x1024x128) _ S1x1x1024x128.size inb') h3).squeeze S1024x128 h4) NK rfl NK_pos _ _ (kC m c t) _ ?_ ?_
  · show (((View.whole cc0_scratch1).slice _).reshape _ _).set = _
    rw [View.set_reshape, View.set_slice_whole]; exact slot_rect s hl inb'
  · funext x
    exact chunk_elem (Km m c) c s hl t ht hh inb' inb _ _ x

theorem wp_vstart {Q : α → sProp 𝕄} (s hl t : ℕ) (ht : t < 8) (hh : hl < 4) {off : Fin 4 → ℕ} {inb inb' h1 h2 h3 h4}
    {sm : DmaSem sig} {hsrc hdst hsem} {k : PUnit → Prog (TpuEff nD τ sig (Elt F) Λ₀ .tc) α}
    (hoff : off = ![c.val / 4, 1024 * (t % 4), 4 * (t / 4) + hl, 0]) (hsm : sm = vSem s hl) :
    vIdle m c s hl ⊢ iprop((vFly m c s hl t -∗ wpc c (k ⟨⟩) Q)
      -∗ wpc c (.op (.enqueueDma ((vA.slice (Rect.unit (s := S4x4096x8x128) off S1x1024x1x128.size inb) h1).squeeze S1024x128 h2)
        (.here ((vB.slice (Rect.unit (s := S2x4x1024x128) ![s, hl, 0, 0] S1x1x1024x128.size inb') h3).squeeze S1024x128 h4)) (.dma sm) hsrc hdst hsem) k) Q) := by
  subst hoff hsm
  refine wp_cstart (src := (vA.slice (Rect.unit (s := S4x4096x8x128) _ S1x1024x1x128.size inb) h1).squeeze S1024x128 h2)
    (dst := (vB.slice (Rect.unit (s := S2x4x1024x128) _ S1x1x1024x128.size inb') h3).squeeze S1024x128 h4) NK rfl NK_pos _ _ (vC m c t) _ ?_ ?_
  · show (((View.whole cc0_scratch2).slice _).reshape _ _).set = _
    rw [View.set_reshape, View.set_slice_whole]; exact slot_rect s hl inb'
  · funext x
    exact chunk_elem (Vm m c) c s hl t ht hh inb' inb _ _ x

/-- The wait for it. -/
theorem wp_kwait {Q : α → sProp 𝕄} (s hl t : ℕ) {sp : Space} {s' : Shape} {e' : EltTy} {srcw : Memref sig .tc sp s' e'} {inb' h3 h4}
    {sm : DmaSem sig} {hsrc hdst} {k : PUnit → Prog (TpuEff nD τ sig (Elt F) Λ₀ .tc) α} {O : CellTallies nD τ sig Unit} (hsm : sm = kSem s hl) :
    iprop(kFly m c s hl t ∗ (∃ W, owes (c : Thread nD τ) O W) ∗ MayWait (c : Thread nD τ) (.dma (kSem s hl)) () O)
      ⊢ iprop(((kGot m c s hl t ∗ (∃ W, owes (c : Thread nD τ) O W)) -∗ wpc c (k ⟨⟩) Q)
      -∗ wpc c (.op (.waitDma2 sm srcw ((kB.slice (Rect.unit (s := S2x4x1024x128) ![s, hl, 0, 0] S1x1x1024x128.size inb') h3).squeeze S1024x128 h4) hsrc hdst) k) Q) := by
  subst hsm
  exact wp_cwait (dstw := (kB.slice (Rect.unit (s := S2x4x1024x128) _ S1x1x1024x128.size inb') h3).squeeze S1024x128 h4) NK rfl _ _ _ _ _ _

theorem wp_vwait {Q : α → sProp 𝕄} (s hl t : ℕ) {sp : Space} {s' : Shape} {e' : EltTy} {srcw : Memref sig .tc sp s' e'} {inb' h3 h4}
    {sm : DmaSem sig} {hsrc hdst} {k : PUnit → Prog (TpuEff nD τ sig (Elt F) Λ₀ .tc) α} {O : CellTallies nD τ sig Unit} (hsm : sm = vSem s hl) :
    iprop(vFly m c s hl t ∗ (∃ W, owes (c : Thread nD τ) O W) ∗ MayWait (c : Thread nD τ) (.dma (vSem s hl)) () O)
      ⊢ iprop(((vGot m c s hl t ∗ (∃ W, owes (c : Thread nD τ) O W)) -∗ wpc c (k ⟨⟩) Q)
      -∗ wpc c (.op (.waitDma2 sm srcw ((vB.slice (Rect.unit (s := S2x4x1024x128) ![s, hl, 0, 0] S1x1x1024x128.size inb') h3).squeeze S1024x128 h4) hsrc hdst) k) Q) := by
  subst hsm
  exact wp_cwait (dstw := (vB.slice (Rect.unit (s := S2x4x1024x128) _ S1x1x1024x128.size inb') h3).squeeze S1024x128 h4) NK rfl _ _ _ _ _ _

end Copies

/-! ## One block -/

/-- Group `g` of heads of the weights' sums. -/
def lSet (g : ℕ) : Finset S8x32x8.Idx := Finset.univ.filter fun i => (i 0).val / 4 = g

def qPts (c : Dev nD) : sProp 𝕄 := lcQb c ↦{fullShare} qC m c
def lPts (c : Dev nD) (g n : ℕ) : sProp 𝕄 := lcL c ↦[lSet g]{fullShare} lC m c n
def aPts (c : Dev nD) (n : ℕ) : sProp 𝕄 := lcA c ↦{fullShare} aC m c n

section Block

variable {c : Dev nD} {α : Type}

omit [FloatOps F] in
theorem whole_setOn (R : Ref sig .tc) (S : Finset R.ty.Idx) : (View.whole R : View sig .tc _ _ _).setOn S = S :=
  Finset.map_refl

omit [FloatOps F] in
theorem lB_acc (r : Rect S8x32x8) : (lB.access r : View sig .tc _ _ _).set = r.set := View.set_slice_whole _ _
omit [FloatOps F] in
theorem aB_acc (r : Rect S8x32x128) : (aB.access r : View sig .tc _ _ _).set = r.set := View.set_slice_whole _ _

/-- A block: the head's weights and values of one chunk added to its two sums. -/
theorem wp_block {Q : α → sProp 𝕄} (n s hl h : ℕ) (hn : n < 32) (hhl : hl = n % 4) (hh : h = hd n)
    {i1 i2 i3 i4 i5 i6 i7 l1 l2 l3 l4 l5 l6 l7 x1 x2 y1 y2}
    {PL : Vec F S1x1x1024x128 .f32 → Vec F S32x1x128 .bf16 → Vec F S1x32x8 .f32 → FVec F S1x32x8 .f32}
    {PA : Vec F S1x1x1024x128 .f32 → Vec F S32x1x128 .bf16 → Vec F S1x1x1024x128 .f32 → Vec F S1x32x128 .f32 → FVec F S1x32x128 .f32}
    {k : Prog (TpuEff nD τ sig (Elt F) Λ₀ .tc) α}
    (hPL : ∀ a b l, PL a b l = k0_pay8 (k0_pay6 a) b l) (hPA : ∀ a b v l, PA a b v l = k0_pay9 (k0_pay6 a) b v l) :
    iprop(kGot m c s hl (n / 4) ∗ vGot m c s hl (n / 4) ∗ qPts m c ∗ lPts m c (n / 16) n ∗ aPts m c n)
      ⊢ iprop(((kGot m c s hl (n / 4) ∗ vGot m c s hl (n / 4) ∗ qPts m c ∗ lPts m c (n / 16) (n + 1) ∗ aPts m c (n + 1)) -∗ wpc c k Q)
      -∗ wpc c (.op (.load kB (Rect.unit (s := S2x4x1024x128) ![s, hl, 0, 0] S1x1x1024x128.size i1).toLoadRect l1) fun kv =>
          .op (.load qB (Rect.unit (s := S32x8x128) ![0, h, 0] S32x1x128.size i2).toLoadRect l2) fun qv =>
          .op (.load lB (Rect.unit (s := S8x32x8) ![h, 0, 0] S1x32x8.size i3).toLoadRect l3) fun lv =>
          .op (.load lB (Rect.unit (s := S8x32x8) ![h, 0, 0] S1x32x8.size i4).toLoadRect l4) fun _ =>
          .op (.store lB (Rect.unit (s := S8x32x8) ![h, 0, 0] S1x32x8.size i4) (PL kv qv lv) Finset.univ x1 y1) fun _ =>
          .op (.load vB (Rect.unit (s := S2x4x1024x128) ![s, hl, 0, 0] S1x1x1024x128.size i5).toLoadRect l5) fun vv =>
          .op (.load aB (Rect.unit (s := S8x32x128) ![h, 0, 0] S1x32x128.size i6).toLoadRect l6) fun av =>
          .op (.load aB (Rect.unit (s := S8x32x128) ![h, 0, 0] S1x32x128.size i7).toLoadRect l7) fun _ =>
          .op (.store aB (Rect.unit (s := S8x32x128) ![h, 0, 0] S1x32x128.size i7) (PA kv qv vv av) Finset.univ x2 y2) fun _ => k) Q) := by
  have hl8 : h < 8 := hh ▸ hd_lt n hn
  have hdv : h / 4 = n / 16 := hh ▸ hd_div n hn
  have hm4 : 4 * (n / 4 / 4) + hl = h := by rw [hh, hhl]; unfold hd; omega
  have hcn : cnt n h = n / 4 % 4 := hh ▸ cnt_hd n hn
  have hc1 : cnt (n + 1) h = cnt n h + 1 := by rw [cnt_succ n hn h hl8, if_pos hh]
  unfold kGot vGot cGot qPts lPts aPts
  have eK : ∀ (inb), kB.view.readAt (Elt F) (Rect.unit (s := S2x4x1024x128) ![s, hl, 0, 0] S1x1x1024x128.size inb).toLoadRect (kC m c (n / 4)) = kVec m c h (n / 4 % 4) := by
    intro inb; funext x
    show at4 (Km m c) (c.val / 4) (1024 * (n / 4 % 4) + (0 + 1 * (x 2).val)) (4 * (n / 4 / 4) + (hl + 1 * (x 1).val)) _ = at4 _ _ _ _ _
    have h1 : (x 1).val = 0 := by have : (x 1).val < 1 := (x 1).isLt; omega
    congr 1
    · omega
    · omega
    · exact Fin.ext (show 0 + 1 * (x 3).val = (x 3).val by omega)
  have eV : ∀ (inb), vB.view.readAt (Elt F) (Rect.unit (s := S2x4x1024x128) ![s, hl, 0, 0] S1x1x1024x128.size inb).toLoadRect (vC m c (n / 4)) = vVec m c h (n / 4 % 4) := by
    intro inb; funext x
    show at4 (Vm m c) (c.val / 4) (1024 * (n / 4 % 4) + (0 + 1 * (x 2).val)) (4 * (n / 4 / 4) + (hl + 1 * (x 1).val)) _ = at4 _ _ _ _ _
    have h1 : (x 1).val = 0 := by have : (x 1).val < 1 := (x 1).isLt; omega
    congr 1
    · omega
    · omega
    · exact Fin.ext (show 0 + 1 * (x 3).val = (x 3).val by omega)
  have eQ : ∀ (inb), qB.view.readAt (Elt F) (Rect.unit (s := S32x8x128) ![0, h, 0] S32x1x128.size inb).toLoadRect (qC m c) = qVec m c h := by
    intro inb; funext x
    have h1 : (x 1).val = 0 := by have : (x 1).val < 1 := (x 1).isLt; omega
    refine congrArg (qC m c) (funext fun a => ?_)
    match a with
    | ⟨0, _⟩ => exact Fin.ext (show 0 + 1 * (x 0).val = (x 0).val by omega)
    | ⟨1, _⟩ => exact Fin.ext (show h + 1 * (x 1).val = h % 8 by omega)
    | ⟨2, _⟩ => exact Fin.ext (show 0 + 1 * (x 2).val = (x 2).val by omega)
  have eL : ∀ N, ∀ (inb), lB.view.readAt (Elt F) (Rect.unit (s := S8x32x8) ![h, 0, 0] S1x32x8.size inb).toLoadRect (lC m c N) = lVal m c h (cnt N h) := by
    intro N inb; funext x
    have h0 : (x 0).val = 0 := by have : (x 0).val < 1 := (x 0).isLt; omega
    show lVal m c (h + 1 * (x 0).val) (cnt N (h + 1 * (x 0).val)) _ = _
    rw [h0, Nat.mul_zero, Nat.add_zero]
    refine congrArg (lVal m c h (cnt N h)) (funext fun a => ?_)
    match a with
    | ⟨0, _⟩ => exact Fin.ext h0.symm
    | ⟨1, _⟩ => exact Fin.ext (show 0 + 1 * (x 1).val = (x 1).val by omega)
    | ⟨2, _⟩ => exact Fin.ext (show 0 + 1 * (x 2).val = (x 2).val by omega)
  have eA : ∀ N, ∀ (inb), aB.view.readAt (Elt F) (Rect.unit (s := S8x32x128) ![h, 0, 0] S1x32x128.size inb).toLoadRect (aC m c N) = aVal m c h (cnt N h) := by
    intro N inb; funext x
    have h0 : (x 0).val = 0 := by have : (x 0).val < 1 := (x 0).isLt; omega
    show aVal m c (h + 1 * (x 0).val) (cnt N (h + 1 * (x 0).val)) _ = _
    rw [h0, Nat.mul_zero, Nat.add_zero]
    refine congrArg (aVal m c h (cnt N h)) (funext fun a => ?_)
    match a with
    | ⟨0, _⟩ => exact Fin.ext h0.symm
    | ⟨1, _⟩ => exact Fin.ext (show 0 + 1 * (x 1).val = (x 1).val by omega)
    | ⟨2, _⟩ => exact Fin.ext (show 0 + 1 * (x 2).val = (x 2).val by omega)
  have sK : ∀ inb, kB.view.setOn (Rect.unit (s := S2x4x1024x128) ![s, hl, 0, 0] S1x1x1024x128.size inb).toLoadRect.set ⊆ slotSet s hl :=
    fun inb => by rw [← slot_rect s hl inb]; exact le_of_eq (whole_setOn _ _)
  have sV : ∀ inb, vB.view.setOn (Rect.unit (s := S2x4x1024x128) ![s, hl, 0, 0] S1x1x1024x128.size inb).toLoadRect.set ⊆ slotSet s hl :=
    fun inb => by rw [← slot_rect s hl inb]; exact le_of_eq (whole_setOn _ _)
  have sL : ∀ inb, (Rect.unit (s := S8x32x8) ![h, 0, 0] S1x32x8.size inb).set ⊆ lSet (n / 16) := fun inb i hi => by
    have h0 := Rect.mem_set_unit.1 hi 0
    simp at h0
    exact Finset.mem_filter.2 ⟨Finset.mem_univ _, by omega⟩
  have nL : ∀ inb, ∀ i : S8x32x8.Idx, i ∉ (Rect.unit (s := S8x32x8) ![h, 0, 0] S1x32x8.size inb).set → (i 0).val ≠ h := fun inb i hi e => hi (by
    rw [Rect.mem_set_unit]; intro a
    have h1 := (i 1).isLt; have h2 := (i 2).isLt
    match a with
    | ⟨0, _⟩ => simp; omega
    | ⟨1, _⟩ => simp; exact h1
    | ⟨2, _⟩ => simp; exact h2)
  have nA : ∀ inb, ∀ i : S8x32x128.Idx, i ∉ (Rect.unit (s := S8x32x128) ![h, 0, 0] S1x32x128.size inb).set → (i 0).val ≠ h := fun inb i hi e => hi (by
    rw [Rect.mem_set_unit]; intro a
    have h1 := (i 1).isLt; have h2 := (i 2).isLt
    match a with
    | ⟨0, _⟩ => simp; omega
    | ⟨1, _⟩ => simp; exact h1
    | ⟨2, _⟩ => simp; exact h2)
  iintro ⟨⟨Hk, Hk1, Hk2⟩, ⟨Hv, Hv1, Hv2⟩, Hq, Hl, Ha⟩ HK
  iapply (wp_ld (m := kB) (kVec m c h (n / 4 % 4)) (sK _) (eK _)) $$ Hk; iintro Hk
  iapply (wp_ld (m := qB) (qVec m c h) (Finset.subset_univ _) (eQ _)) $$ Hq; iintro Hq
  iapply (wp_ld (m := lB) (lVal m c h (cnt n h)) ((le_of_eq (whole_setOn _ _)).trans (sL i3)) (eL n _)) $$ Hl; iintro Hl
  iapply (wp_ld (m := lB) (lVal m c h (cnt n h)) ((le_of_eq (whole_setOn _ _)).trans (sL i4)) (eL n _)) $$ Hl; iintro Hl
  iapply (wp_st (c := c) (m := lB) (r := Rect.unit (s := S8x32x8) ![h, 0, 0] S1x32x8.size i4) (S := lSet (n / 16)) (f := lC m c n) (lC m c (n + 1)) ((le_of_eq (View.set_slice_whole _ _)).trans (sL i4)) ?_ ?_) $$ Hl
  · rw [hPL]
    refine (eL (n + 1) i4).trans ?_
    rw [hc1, hcn]; rfl
  · intro i _ hi
    have h0 := nL i4 i (fun hm => hi (by rw [lB_acc]; exact hm))
    show lVal m c (i 0).val (cnt n (i 0).val) _ = lVal m c (i 0).val (cnt (n + 1) (i 0).val) _
    rw [cnt_succ n hn _ (i 0).isLt, if_neg (hh ▸ h0)]
  iintro Hl
  iapply (wp_ld (m := vB) (vVec m c h (n / 4 % 4)) (sV _) (eV _)) $$ Hv; iintro Hv
  iapply (wp_ld (m := aB) (aVal m c h (cnt n h)) (Finset.subset_univ _) (eA n _)) $$ Ha; iintro Ha
  iapply (wp_ld (m := aB) (aVal m c h (cnt n h)) (Finset.subset_univ _) (eA n _)) $$ Ha; iintro Ha
  iapply (wp_st (c := c) (m := aB) (r := Rect.unit (s := S8x32x128) ![h, 0, 0] S1x32x128.size i7) (S := Finset.univ) (f := aC m c n) (aC m c (n + 1)) (Finset.subset_univ _) ?_ ?_) $$ Ha
  · rw [hPA]
    refine (eA (n + 1) i7).trans ?_
    rw [hc1, hcn]; rfl
  · intro i _ hi
    have h0 := nA i7 i (fun hm => hi (by rw [aB_acc]; exact hm))
    show aVal m c (i 0).val (cnt n (i 0).val) _ = aVal m c (i 0).val (cnt (n + 1) (i 0).val) _
    rw [cnt_succ n hn _ (i 0).isLt, if_neg (hh ▸ h0)]
  iintro Ha
  iapply HK
  isplitl [Hk Hk1 Hk2]
  · isplitl [Hk]; · iexact Hk
    isplitl [Hk1] <;> iassumption
  isplitl [Hv Hv1 Hv2]
  · isplitl [Hv]; · iexact Hv
    isplitl [Hv1] <;> iassumption
  isplitl [Hq]; · iexact Hq
  isplitl [Hl] <;> iassumption

end Block

end Cert.KernelIdeal.Run

end
-- ==== Proof.Run.Sched.lean ====
/-
# The protocol between the devices

A transfer is named by its kind `p` (0: the weighted sums, 1: the weights' sums, 2: the gathered output), its group of
heads `g` and its peer slot `j`; its send semaphore is of kind `2 p` and its receive semaphore of kind `2 p + 1`. Every
such cell has one duty in round 0: the send cell's gives the sender its share of the source back, the receive cell's
gives the receiver its landing piece filled. The barrier cell has six duties, one per peer: peer `k`'s signal hands over
the pieces of the peer's buffers that transfers to that peer land in.

Levels: the barrier below the receive cells along `z`, these below the gather's; the rest at the bottom.
-/
module

public import proofs.«01_k».proof.Proof.Run.Chunk

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

/-! ## Cells -/

abbrev barS : Sem sig := (SemArray.scalar (sig.barrier 0 rfl) : Sems sig S_).sem
abbrev bcell (c : Dev nD) : GSem nD τ sig := ((c : Thread nD τ), .reg barS)

set_option backward.proofsInPublic true in
/-- Transfer semaphore `n`. -/
def xsem (n : ℕ) : DmaSem sig := ⟨18 + n % 36, by have : n % 36 < 36 := Nat.mod_lt _ (by decide); show _ < 54; omega⟩
/-- The cell of kind `κ`, group `g`, slot `j` on device `c`. -/
abbrev pcell (c : Dev nD) (κ g j : ℕ) : GSem nD τ sig := ((c : Thread nD τ), .dma (xsem (6 * κ + 3 * g + j)))

set_option backward.proofsInPublic true in
/-- The peer of slot `j` of a transfer of kind `p`. -/
def px (p j : ℕ) : Fin 6 := if p < 2 then ⟨j % 3, by omega⟩ else ⟨3 + j % 3, by omega⟩

/-! ## Credits -/

abbrev NA : ℕ := (sB.slice (Rect.unit (s := S8x32x128) ![0, 0, 0] S4x32x128.size inb_S8x32x128_S4x32x128_0_0_0) (fun _ => rfl)).view.dmaCredit
abbrev NL : ℕ := (lB.slice (Rect.unit (s := S8x32x8) ![0, 0, 0] S4x32x8.size inb_S8x32x8_S4x32x8_0_0_0) (fun _ => rfl)).view.dmaCredit
abbrev NO : ℕ := ((oB.slice (Rect.unit (s := S4x32x8x128) (k0_off42 0) S1x32x4x128.size (k0_off42_inb 0)) (fun _ => rfl)).squeeze S32x4x128 squeezes_S1x32x4x128_S32x4x128).view.dmaCredit
/-- The credit of a cell of kind `κ`. -/
def NX (κ : ℕ) : ℕ := if κ < 2 then NA else if κ < 4 then NL else NO

omit [FloatOps F] in
theorem NX_pos (κ : ℕ) : 0 < NX κ := by
  unfold NX
  split
  · exact View.dmaCredit_pos _ (by decide)
  split
  · exact View.dmaCredit_pos _ (by decide)
  · exact View.dmaCredit_pos _ (by decide)

/-! ## Pieces -/

def sSet (g : ℕ) : Finset S8x32x128.Idx := Finset.univ.filter fun i => (i 0).val / 4 = g
def rSet (j g : ℕ) : Finset S3x8x32x128.Idx := Finset.univ.filter fun i => (i 0).val = j ∧ (i 1).val / 4 = g
def rlSet (j g : ℕ) : Finset S3x8x32x8.Idx := Finset.univ.filter fun i => (i 0).val = j ∧ (i 1).val / 4 = g
def oSet (b g : ℕ) : Finset S4x32x8x128.Idx := Finset.univ.filter fun i => (i 0).val = b ∧ (i 2).val / 4 = g

/-- One of the three shares of a source. -/
def sh (j : ℕ) : PosShare TreeShare := dealOf fullShare (Finset.univ : Finset (Fin 3)) ⟨j % 3, Nat.mod_lt _ (by decide)⟩

variable (m : (ℓ : Loc nD τ sig) → Buf (Elt F) ℓ)

/-- What the cell of kind `κ`, group `g`, slot `j` gives device `c`. -/
def xPay (c : Dev nD) (κ g j : ℕ) : sProp 𝕄 :=
  match κ with
  | 0 => lcS c ↦[sSet g]{sh j} sC m c
  | 1 => lcR c ↦[rSet j g]{fullShare} rC m c
  | 2 => lcL c ↦[lSet g]{sh j} lC m c 32
  | 3 => lcRl c ↦[rlSet j g]{fullShare} rlC m c
  | 4 => lcO c ↦[oSet (c.val / 4) g]{sh j} oC m c
  | _ => lcO c ↦[oSet ((peer (px 2 j) c).val / 4) g]{fullShare} oC m c

/-- The landing piece of device `c`'s transfer `(p, g, j)`, on its peer. -/
def land (c : Dev nD) (p g j : ℕ) : sProp 𝕄 :=
  match p with
  | 0 => iprop(∃ f, lcR (peer (px 0 j) c) ↦[rSet j g]{fullShare} f)
  | 1 => iprop(∃ f, lcRl (peer (px 1 j) c) ↦[rlSet j g]{fullShare} f)
  | _ => iprop(∃ f, lcO (peer (px 2 j) c) ↦[oSet (c.val / 4) g]{fullShare} f)

/-- What peer `k`'s signal gives device `c`. -/
def barPay (c : Dev nD) (k : Fin 6) : sProp 𝕄 :=
  if k.val < 3 then iprop(land c 0 0 k.val ∗ land c 0 1 k.val ∗ land c 1 0 k.val ∗ land c 1 1 k.val)
  else iprop(land c 2 0 (k.val - 3) ∗ land c 2 1 (k.val - 3))

omit [FloatOps F] in
instance land_storable (c : Dev nD) (p g j : ℕ) : BI.Storable (upEmb : UEmb _ 𝕄) (land (F := F) c p g j) := by
  unfold land; split <;> infer_instance
omit [FloatOps F] in
instance barPay_storable (c : Dev nD) (k : Fin 6) : BI.Storable (upEmb : UEmb _ 𝕄) (barPay (F := F) c k) := by
  unfold barPay; split <;> infer_instance
instance xPay_storable (c : Dev nD) (κ g j : ℕ) : BI.Storable (upEmb : UEmb _ 𝕄) (xPay m c κ g j) := by
  unfold xPay; split <;> infer_instance

/-! ## The schedule -/

def Rd : Rounds.Schedule (GSem nD τ sig) (Fin 6) 𝕄 where
  duties g r := if r = 0 ∧ g.1.2 = .tc then
      (match g.2 with
        | .reg s => if s = barS then Finset.univ else ∅
        | .dma q => if 18 ≤ q.val then {0} else ∅) else ∅
  unitless _ := False
  amount g _ _ := match g.2 with
    | .reg _ => 1
    | .dma q => NX ((q.val - 18) / 6)
  payload g _ d := match g.2 with
    | .reg _ => barPay g.1.1 d
    | .dma q => xPay m g.1.1 ((q.val - 18) / 6) ((q.val - 18) % 6 / 3) ((q.val - 18) % 3)
  amount_pos g _ _ _ := by
    split
    · exact Nat.one_pos
    · exact NX_pos _

instance Rd_payload_storable (g : GSem nD τ sig) (r : ℕ) (d : Fin 6) :
    BI.Storable (upEmb : UEmb _ 𝕄) ((Rd (F := F) m).payload g r d) := by
  show BI.Storable upEmb (match g.2 with
    | .reg _ => barPay g.1.1 d
    | .dma q => xPay m g.1.1 ((q.val - 18) / 6) ((q.val - 18) % 6 / 3) ((q.val - 18) % 3))
  split <;> infer_instance

section Sched
variable (c : Dev nD)

omit [FloatOps F] in
theorem xsem_val {κ g j : ℕ} (hκ : κ < 6) (hg : g < 2) (hj : j < 3) : (xsem (6 * κ + 3 * g + j)).val = 18 + (6 * κ + 3 * g + j) := by
  show 18 + (6 * κ + 3 * g + j) % 36 = _
  rw [Nat.mod_eq_of_lt (by omega)]

theorem duties_b : (Rd (F := F) m).duties (bcell c) 0 = Finset.univ := by
  dsimp only [Rd]; rw [if_pos ⟨rfl, rfl⟩]; exact if_pos rfl
theorem duties_p {κ g j : ℕ} : (Rd (F := F) m).duties (pcell c κ g j) 0 = {0} := by
  dsimp only [Rd]; rw [if_pos ⟨rfl, rfl⟩]; exact if_pos (Nat.le_add_right _ _)
theorem duties_later (g : GSem nD τ sig) : ∀ r, 1 ≤ r → (Rd (F := F) m).duties g r = ∅ :=
  fun r hr => by dsimp only [Rd]; rw [if_neg fun h => by omega]
theorem amount_p {κ g j : ℕ} (hκ : κ < 6) (hg : g < 2) (hj : j < 3) (d : Fin 6) : (Rd (F := F) m).amount (pcell c κ g j) 0 d = NX κ := by
  dsimp only [Rd]; rw [xsem_val hκ hg hj, show (18 + (6 * κ + 3 * g + j) - 18) / 6 = κ by omega]
theorem payload_p {κ g j : ℕ} (hκ : κ < 6) (hg : g < 2) (hj : j < 3) (d : Fin 6) : (Rd (F := F) m).payload (pcell c κ g j) 0 d = xPay m c κ g j := by
  dsimp only [Rd]
  rw [xsem_val hκ hg hj, show (18 + (6 * κ + 3 * g + j) - 18) / 6 = κ by omega,
    show (18 + (6 * κ + 3 * g + j) - 18) % 6 / 3 = g by omega, show (18 + (6 * κ + 3 * g + j) - 18) % 3 = j by omega]
theorem payload_b (d : Fin 6) : (Rd (F := F) m).payload (bcell c) 0 d = barPay (F := F) c d := rfl
theorem expect_b : (Rd (F := F) m).expect (bcell c) 0 = 6 := by
  unfold Schedule.expect Schedule.amountOf
  rw [duties_b, Finset.sum_congr rfl fun d _ => show (Rd (F := F) m).amount (bcell c) 0 d = 1 from rfl]; rfl
theorem expect_p {κ g j : ℕ} (hκ : κ < 6) (hg : g < 2) (hj : j < 3) : (Rd (F := F) m).expect (pcell c κ g j) 0 = NX κ := by
  unfold Schedule.expect Schedule.amountOf; rw [duties_p, Finset.sum_singleton, amount_p m c hκ hg hj]
theorem rest_b : bigSep ((Rd (F := F) m).duties (bcell c) 0 \ ∅) (fun d => (Rd (F := F) m).payload (bcell c) 0 d) = bigSep Finset.univ (barPay (F := F) c) := by
  rw [Finset.sdiff_empty, duties_b]; rfl
theorem rest_p {κ g j : ℕ} (hκ : κ < 6) (hg : g < 2) (hj : j < 3) :
    bigSep ((Rd (F := F) m).duties (pcell c κ g j) 0 \ ∅) (fun d => (Rd (F := F) m).payload (pcell c κ g j) 0 d) = xPay m c κ g j := by
  rw [Finset.sdiff_empty, duties_p, bigSep_singleton, payload_p m c hκ hg hj]

end Sched

/-! ## What a device owes; the levels -/

/-- The `k`-th remote transfer a device starts: its kind, group and slot. -/
def ordP (k : ℕ) : ℕ := if k < 12 then k % 2 else 2
def ordG (k : ℕ) : ℕ := if k < 12 then k / 6 else (k - 12) / 3
def ordJ (k : ℕ) : ℕ := if k < 12 then k % 6 / 2 else k % 3

/-- The receive cell of that transfer, on its peer. -/
def tgt (c : Dev nD) (k : ℕ) : GSem nD τ sig := pcell (peer (px (ordP k) (ordJ k)) c) (2 * ordP k + 1) (ordG k) (ordJ k)

/-- What is owed with `d` transfers still to start, and then with `d` of the barrier's signals still to send. -/
def OwD (c : Dev nD) : ℕ → CellTallies nD τ sig Unit
  | 0 => 0
  | d + 1 => OwD c d + tallyAt (tgt c (17 - d)) () (NX (2 * ordP (17 - d) + 1))
def sigPeer (d : ℕ) : Fin 6 := ⟨(5 - d) % 6, Nat.mod_lt _ (by decide)⟩
def OwB (c : Dev nD) : ℕ → CellTallies nD τ sig Unit
  | 0 => OwD c 18
  | d + 1 => OwB c d + tallyAt (bcell (peer (sigPeer d) c)) () 1

def L (g : GSem nD τ sig) : Finset Unit := if g.1.2 = .tc then {()} else ∅
def lvS (sm : SemLoc sig) : ℕ := match sm with
  | .reg _ => 1
  | .dma q => if q.val < 18 then 0 else if (q.val - 18) / 6 = 5 then 3 else if (q.val - 18) / 6 % 2 = 1 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem ordP_le (k : ℕ) : ordP k < 3 := by unfold ordP; split <;> omega
theorem ordG_le {k : ℕ} (h : k < 18) : ordG k < 2 := by unfold ordG; split <;> omega
theorem ordJ_le (k : ℕ) : ordJ k < 3 := by unfold ordJ; split <;> omega

theorem lv_p (c : Dev nD) {κ g j : ℕ} (hκ : κ < 6) (hg : g < 2) (hj : j < 3) :
    lv (pcell c κ g j) () = if κ = 5 then 3 else if κ % 2 = 1 then 2 else 0 := by
  unfold lv lvS
  dsimp only
  rw [xsem_val hκ hg hj, if_neg (by omega), show (18 + (6 * κ + 3 * g + j) - 18) / 6 = κ by omega]
theorem lv_tgt (c : Dev nD) {k : ℕ} (h : k < 18) : lv (tgt c k) () = if k < 12 then 2 else 3 := by
  unfold tgt
  rw [lv_p _ (by have := ordP_le k; omega) (ordG_le h) (ordJ_le k)]
  unfold ordP
  by_cases h12 : k < 12
  · rw [if_pos h12, if_pos h12, if_neg (by omega), if_pos (by omega)]
  · rw [if_neg h12, if_neg h12]; rfl

/-- Everything owed is owed to a core at level at least `b`. -/
def Above (b : ℕ) (O : CellTallies nD τ sig Unit) : Prop := ∀ g u, 0 < O g u → L g = {()} ∧ b ≤ lv g u

theorem above_add {b : ℕ} {O : CellTallies nD τ sig Unit} (h : Above b O) {g : GSem nD τ sig} {n : ℕ} (hL : L g = {()}) (hb : b ≤ lv g ()) :
    Above b (O + tallyAt g () n) := by
  intro g' u hg
  rw [Pi.add_apply, Finsupp.add_apply, tallyAt_apply] at hg
  by_cases h' : g' = g ∧ u = ()
  · obtain ⟨rfl, rfl⟩ := h'; exact ⟨hL, hb⟩
  · rw [if_neg h', Nat.add_zero] at hg; exact h g' u hg

theorem above_D (c : Dev nD) (b : ℕ) (hb : b ≤ 2) : ∀ d ≤ 18, Above b (OwD c d)
  | 0, _ => fun g u h => absurd h (Nat.lt_irrefl 0)
  | d + 1, h => above_add (above_D c b hb d (by omega)) (L_tc _ _) (by rw [lv_tgt c (by omega)]; split <;> omega)
theorem above_D6 (c : Dev nD) : ∀ d ≤ 6, Above 3 (OwD c d)
  | 0, _ => fun g u h => absurd h (Nat.lt_irrefl 0)
  | d + 1, h => above_add (above_D6 c d (by omega)) (L_tc _ _) (by rw [lv_tgt c (by omega), if_neg (by omega)])
theorem above_B (c : Dev nD) : ∀ d, Above 1 (OwB c d)
  | 0 => above_D c 1 (by decide) 18 (le_refl _)
  | d + 1 => above_add (above_B c d) (L_tc _ _) (le_refl _)
theorem above_zero (b : ℕ) : Above b 0 := fun g u h => absurd h (Nat.lt_irrefl 0)

omit [FloatOps F] in
/-- A device may wait on a cell of a level below everything it owes. -/
theorem mayWait (c : Dev nD) (sm : SemLoc sig) (b : ℕ) (O : CellTallies nD τ sig Unit) (hO : Above (b + 1) O) (hb : lvS sm ≤ b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [(hO g u hg).1]; exact Finset.mem_singleton_self _)
    (fun p hp => by rw [Finset.mem_singleton.mp hp]; exact hb)
    (fun g u hg => (hO g u hg).2)

theorem ow_step (c : Dev nD) {k : ℕ} (h : k < 18) : OwD c (18 - k) = OwD c (17 - k) + tallyAt (tgt c k) () (NX (2 * ordP k + 1)) := by
  rw [show 18 - k = (17 - k) + 1 by omega]
  show OwD c (17 - k) + tallyAt (tgt c (17 - (17 - k))) () (NX (2 * ordP (17 - (17 - k)) + 1)) = _
  rw [show 17 - (17 - k) = k by omega]

/-! ## The cells' invariants -/

/-- All cells of the protocol, by device: the barrier's, then the transfers'. -/
abbrev kcell (ck : Dev nD × Fin 37) : GSem nD τ sig :=
  if ck.2.val = 0 then bcell ck.1 else ((ck.1 : Thread nD τ), .dma (xsem (ck.2.val - 1)))

def invs (K : Dev nD × Fin 37 → ℕ) : sProp 𝕄 :=
  iprop((bigSep Finset.univ fun ck : Dev nD × Fin 37 => cellInv ER (Rd m) (K ck) (kcell ck))
    ∗ bigSep Finset.univ fun ck : Dev nD × Fin 37 => reached ER (kcell ck) 0)
instance invs_persistent (K : Dev nD × Fin 37 → ℕ) : BI.Persistent (invs m K) := by unfold invs; infer_instance

theorem inv_at (K : Dev nD × Fin 37 → ℕ) (ck : Dev nD × Fin 37) :
    (bigSep Finset.univ fun ck : Dev nD × Fin 37 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 37) :
    (bigSep Finset.univ fun ck : Dev nD × Fin 37 => (reached ER (kcell ck) 0 : sProp 𝕄)) ⊢ reached ER (kcell ck) 0 :=
  bigSep_elim (Finset.mem_univ ck)

/-- A cell's invariant under some name, and that its round 0 is reached. -/
def known (g : GSem nD τ sig) : sProp 𝕄 := iprop(∃ κ : ℕ, cellInv ER (Rd m) κ g ∗ reached ER g 0)
instance known_persistent (g : GSem nD τ sig) : BI.Persistent (known m g) := by unfold known; infer_instance

theorem invs_known (K : Dev nD × Fin 37 → ℕ) (ck : Dev nD × Fin 37) (g : GSem nD τ sig) (h : kcell ck = g) : invs m K ⊢ known m g := by
  subst h
  unfold invs known
  iintro ⟨#H, #H'⟩
  iexists (K ck)
  isplitr
  · iapply (inv_at m K ck); iexact H
  · iapply (reached_at (F := F) ck); iexact H'

theorem kcell_p (c : Dev nD) {κ g j : ℕ} (hκ : κ < 6) (hg : g < 2) (hj : j < 3) :
    kcell (c, ⟨(6 * κ + 3 * g + j) + 1, by omega⟩) = pcell c κ g j := if_neg (Nat.succ_ne_zero _)

theorem invs_b (K : Dev nD × Fin 37 → ℕ) (c : Dev nD) : invs m K ⊢ known m (bcell c) := invs_known m K (c, 0) _ (if_pos rfl)
theorem invs_p (K : Dev nD × Fin 37 → ℕ) (c : Dev nD) {κ g j : ℕ} (hκ : κ < 6) (hg : g < 2) (hj : j < 3) : invs m K ⊢ known m (pcell c κ g j) :=
  invs_known m K _ _ (kcell_p c hκ hg hj)

end Cert.KernelIdeal.Run

end
-- ==== Proof.Run.Steps.lean ====
/-
# The protocol's steps

A signal, the barrier wait, the start of a transfer and a wait on a transfer's cell, each for device `c` in terms of the
protocol's own resources. The three kinds of transfer then only have to name their ends.
-/
module

public import proofs.«01_k».proof.Proof.Run.Sched

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Some wait record with `O` owed. -/
def owesAny (c : Dev nD) (O : CellTallies nD τ sig Unit) : sProp 𝕄 := iprop(∃ W, owes (c : Thread nD τ) O W)

/-- Before a transfer: the position in the send cell, its duty and the peer's receive duty. -/
def x0 (c : Dev nD) (p g j : ℕ) : sProp 𝕄 :=
  iprop(atPos ER (pcell c (2 * p) g j) 0 ∅ 0 ∗ dutyTok ER (pcell c (2 * p) g j) 0 0 ∗ dutyTok ER (pcell (peer (px p j) c) (2 * p + 1) g j) 0 0)
/-- Ready to wait on a cell: the position and the credit. -/
def xw (c : Dev nD) (κ g j : ℕ) : sProp 𝕄 :=
  iprop(atPos ER (pcell c κ g j) 0 ∅ 0 ∗ cred (tallyAt (pcell c κ g j) () (NX κ)))
/-- After the wait: the counter at zero. -/
def xz (c : Dev nD) (κ g j : ℕ) : sProp 𝕄 := semVal (pcell c κ g j) 0

section Steps

variable {c : Dev nD} {α : Type} (K : Dev nD × Fin 37 → ℕ)

theorem px_lt (p j : ℕ) (hp : p < 2) (hj : j < 3) : (px p j).val = j := by unfold px; rw [if_pos hp]; exact Nat.mod_eq_of_lt hj
theorem px_two (j : ℕ) (hj : j < 3) : (px 2 j).val = 3 + j := by
  unfold px; rw [if_neg (by decide)]; show 3 + j % 3 = _; rw [Nat.mod_eq_of_lt hj]

/-- The signal to peer `sigPeer d`, handing over that peer's landing pieces. -/
theorem wp_sig {Q : α → sProp 𝕄} (d : ℕ) {n : Dev nD} {k : PUnit → Prog (TpuEff nD τ sig (Elt F) Λ₀ .tc) α} {b : ℕ} (hb : b = 1)
    (hn : n = peer (sigPeer d) c) :
    iprop(invs m K ∗ owesAny c (OwB c (d + 1)) ∗ dutyTok ER (bcell (peer (sigPeer d) c)) 0 (sigPeer d) ∗ barPay (F := F) (peer (sigPeer d) c) (sigPeer d))
      ⊢ iprop((owesAny c (OwB c d) -∗ wpc c (k ⟨⟩) Q) -∗ wpc c (.op (.semSignal (n : Thread nD τ) barS b) k) Q) := by
  subst hn hb
  iintro ⟨#HI, HO, Ht, HP⟩ Hk
  ihave #HK := (invs_b m K (peer (sigPeer d) c)) $$ HI
  unfold known owesAny
  icases HK with ⟨%κ, HIc, HR⟩
  icases HO with ⟨%W, HO⟩
  iapply (Rounds.wp_signal 𝒱₀ ER (Rd m) (c : Thread nD τ) none (dst := (peer (sigPeer d) c : Thread nD τ)) (κ := κ) (r := 0)
      (d := sigPeer d) (by rw [duties_b]; exact Finset.mem_univ _) rfl () (OwB c d) rfl) $$ [HO Ht HP]
  · isplitr; · iexact HIc
    isplitl [HO]; · iexact HO
    isplitl [Ht]; · iexact Ht
    isplitl [HP]; · rw [payload_b]; iexact HP
    iexact HR
  iintro HO
  iapply Hk
  iexists _; iexact HO

/-- The barrier's wait: every peer's landing pieces. -/
theorem wp_bar {Q : α → sProp 𝕄} {k : PUnit → Prog (TpuEff nD τ sig (Elt F) Λ₀ .tc) α} {b : ℕ} (hb : b = 6) :
    iprop(invs m K ∗ levAts L lv ∗ owesAny c (OwD c 18) ∗ atPos ER (bcell c) 0 ∅ 0 ∗ cred (tallyAt (bcell c) () 6))
      ⊢ iprop(((owesAny c (OwD c 18) ∗ semVal (bcell c) 0 ∗ bigSep Finset.univ (barPay (F := F) c)) -∗ wpc c (k ⟨⟩) Q)
          -∗ wpc c (.op (.semWait barS b) k) Q) := by
  subst hb
  iintro ⟨#HI, #Hlev, HO, Hat, Hc⟩ Hk
  ihave #HK := (invs_b m K c) $$ HI
  unfold known owesAny
  icases HK with ⟨%κ, HIc, -⟩
  icases HO with ⟨%W, HO⟩
  iapply (Rounds.wp_wait_rest_token 𝒱₀ ER (Rd m) (c : Thread nD τ) none (κ := κ)
      (wpE_semWait_eq 𝒱₀ (c : Thread nD τ) none Set.univ) (Set.mem_univ _) () (O := OwD c 18) (W := W) (R := 0) (m := 0) (T := ∅)
      (by rw [expect_b])) $$ [Hc HO Hat]
  · isplitr; · iexact HIc
    isplitl [Hc]; · iexact Hc
    isplitl [HO]; · iexact HO
    isplitr; · iapply (mayWait c _ 1 _ (above_D c 2 (le_refl _) 18 (le_refl _)) (le_refl _)); iexact Hlev
    iexact Hat
  iintro ⟨HO, Hat, -, Hpay⟩
  ihave Hp := (Entails.of_eq (rest_b m c)) $$ Hpay
  imod (Rounds.cell_close ER (Rd m) (Set.mem_univ κ) (fun h => h) (R := 0 + 1) (duties_later m (bcell c))) $$ [Hat] with Hz
  · isplitr; · iexact HIc
    iexact Hat
  iapply Hk
  isplitl [HO]; · iexists _; iexact HO
  isplitl [Hz]; · iexact Hz
  iexact Hp

/-- A wait on a transfer's cell. -/
theorem wp_xwait {Q : α → sProp 𝕄} (κ g j b : ℕ) (hκ : κ < 6) (hg : g < 2) (hj : j < 3) {O : CellTallies nD τ sig Unit} (hO : Above (b + 1) O)
    (hb : (if κ = 5 then 3 else if κ % 2 = 1 then 2 else 0) ≤ b)
    {sp sp' : Space} {s s' : Shape} {e e' : EltTy} {srcw : Memref sig .tc sp s e} {dstw : Memref sig .tc sp' s' e'} {sm : DmaSem sig}
    {hsrc : srcw.view.WordExact} {hdst : dstw.view.WordExact} {k : PUnit → Prog (TpuEff nD τ sig (Elt F) Λ₀ .tc) α}
    (hsm : sm = xsem (6 * κ + 3 * g + j)) (hN : dstw.view.dmaCredit = NX κ) :
    iprop(invs m K ∗ levAts L lv ∗ owesAny c O ∗ xw (F := F) c κ g j)
      ⊢ iprop(((owesAny c O ∗ xz c κ g j ∗ xPay m c κ g j) -∗ wpc c (k ⟨⟩) Q)
          -∗ wpc c (.op (.waitDma2 sm srcw dstw hsrc hdst) k) Q) := by
  subst hsm
  iintro ⟨#HI, #Hlev, HO, Hx⟩ Hk
  ihave #HK := (invs_p m K c hκ hg hj) $$ HI
  unfold known owesAny xw xz
  icases HK with ⟨%κ', HIc, -⟩
  icases HO with ⟨%W, HO⟩
  icases Hx with ⟨Hat, Hc⟩
  iapply (Rounds.wp_wait_rest_token 𝒱₀ ER (Rd m) (c : Thread nD τ) none (κ := κ')
      (wpE_waitDma2_eq 𝒱₀ (c : Thread nD τ) none Set.univ) (Set.mem_univ _) () (O := O) (W := W) (R := 0) (m := 0) (T := ∅)
      (by rw [Nat.zero_add, expect_p m c hκ hg hj, hN])) $$ [Hc HO Hat]
  · isplitr; · iexact HIc
    isplitl [Hc]; · rw [hN]; iexact Hc
    isplitl [HO]; · iexact HO
    isplitr; · iapply (mayWait c _ b _ hO (by have h := lv_p c hκ hg hj; unfold lv at h; rw [h]; exact hb)); iexact Hlev
    iexact Hat
  iintro ⟨HO, Hat, -, Hpay⟩
  ihave Hp := (Entails.of_eq (rest_p m c hκ hg hj)) $$ Hpay
  imod (Rounds.cell_close ER (Rd m) (Set.mem_univ κ') (fun h => h) (R := 0 + 1) (duties_later m (pcell c κ g j))) $$ [Hat] with Hz
  · isplitr; · iexact HIc
    iexact Hat
  iapply Hk
  isplitl [HO]; · iexists _; iexact HO
  isplitl [Hz]; · iexact Hz
  iexact Hp

/-- The start of a transfer whose ends hold the protocol's payloads. -/
theorem wp_xsend {Q : α → sProp 𝕄} (p g j : ℕ) (hp : p < 3) (hg : g < 2) (hj : j < 3) {n : Dev nD} (hn : n = peer (px p j) c)
    {s : Shape} {e : EltTy} {src : Memref sig .tc .vmem s e} {dst : Memref sig (Dev.tc n : Thread nD τ).2.kind .vmem s e} {sS sR : DmaSem sig}
    {hsc : dst.view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α}
    (hS : sS = xsem (6 * (2 * p) + 3 * g + j)) (hR : sR = xsem (6 * (2 * p + 1) + 3 * g + j))
    (hN : dst.view.dmaCredit = NX (2 * p + 1)) (hNN : NX (2 * p) = NX (2 * p + 1))
    {O : CellTallies nD τ sig Unit}
    (fs : Buf (Elt F) (src.view.loc (c : Thread nD τ))) (q : PosShare TreeShare)
    (h₁ : xPay m c (2 * p) g j = (src.view.loc (c : Thread nD τ) ↦[src.view.set]{q} fs : sProp 𝕄))
    (hl : land (F := F) c p g j = iprop(∃ f, dst.view.loc (n : Thread nD τ) ↦[dst.view.set]{fullShare} f))
    (h₂ : ∀ fd, (dst.view.loc (n : Thread nD τ) ↦[dst.view.set]{fullShare} (dst.view.write (Elt F) fd (src.view.read (Elt F) fs) Finset.univ) : sProp 𝕄)
      ⊢ xPay m (peer (px p j) c) (2 * p + 1) g j) :
    iprop(invs m K ∗ owesAny c (O + tallyAt (pcell (peer (px p j) c) (2 * p + 1) g j) () (NX (2 * p + 1))) ∗ x0 (F := F) c p g j
        ∗ xPay m c (2 * p) g j ∗ land (F := F) c p g j)
      ⊢ iprop(((owesAny c O ∗ xw (F := F) c (2 * p) g j) -∗ wpc c (k ⟨⟩) Q)
          -∗ wpc c (.op (.enqueueDma src (.remote (Dev.tc n : Thread nD τ) dst (.dma sS) hsc) (.dma sR) hsrc hdst hsem) k) Q) := by
  subst hn hS hR
  rw [h₁, hl]
  iintro ⟨#HI, HO, Hx, Hs, ⟨%fd, Hd⟩⟩ Hk
  ihave #HK := (invs_p m K c (κ := 2 * p) (by omega) hg hj) $$ HI
  ihave #HK' := (invs_p m K (peer (px p j) c) (κ := 2 * p + 1) (by omega) hg hj) $$ HI
  unfold known owesAny xw x0
  icases HK with ⟨%κ₁, HI₁, HR₁⟩
  icases HK' with ⟨%κ₂, HI₂, HR₂⟩
  icases HO with ⟨%W, HO⟩
  icases Hx with ⟨Hat, Ht₁, Ht₂⟩
  iapply (Rounds.wp_send_pointsTo 𝒱₀ ER (Rd m) (c : Thread nD τ) none (κ₁ := κ₁) (κ₂ := κ₂)
    (r₁ := 0) (r₂ := 0) (d₁ := 0) (d₂ := 0) (fd := fd) (fs := fs) (q := q)
    (by rw [duties_p]; exact Finset.mem_singleton_self _) (by rw [duties_p]; exact Finset.mem_singleton_self _)
    () () (NX (2 * p + 1)) (show dst.view.amount (SemLoc.dma (xsem (6 * (2 * p + 1) + 3 * g + j))) = NX (2 * p + 1) from hN) ((amount_p m c (by omega) hg hj 0).trans hNN) (amount_p m _ (by omega) hg hj 0) O rfl (W := W)
    (by rw [payload_p m c (by omega) hg hj, h₁])
    (by rw [payload_p m _ (by omega) hg hj]; exact h₂ fd)) $$ [HO Hs Hd Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [HO]; · iexists _; iexact HO
  isplitl [Hat]; · iexact Hat
  rw [hNN]; iexact Hc

end Steps

end Cert.KernelIdeal.Run

end
-- ==== Proof.Run.Stage.lean ====
/-
# A stage: eight chunks started, eight chunks waited for, four blocks

The key and the value copy of one head go together; a stage does that for its four heads, in one slot of the buffers.
-/
module

public import proofs.«01_k».proof.Proof.Run.Steps

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The same for each of the four heads of a stage. -/
def four (P : ℕ → sProp 𝕄) : sProp 𝕄 := iprop(P 0 ∗ P 1 ∗ P 2 ∗ P 3)

def kvIdle (c : Dev nD) (s hl : ℕ) : sProp 𝕄 := iprop(kIdle m c s hl ∗ vIdle m c s hl)
def kvFly (c : Dev nD) (s hl t : ℕ) : sProp 𝕄 := iprop(kFly m c s hl t ∗ vFly m c s hl t)
def kvGot (c : Dev nD) (s hl t : ℕ) : sProp 𝕄 := iprop(kGot m c s hl t ∗ vGot m c s hl t)

def slotIdle (c : Dev nD) (s : ℕ) : sProp 𝕄 := four fun hl => kvIdle m c s hl
def slotFly (c : Dev nD) (s t : ℕ) : sProp 𝕄 := four fun hl => kvFly m c s hl t
def slotGot (c : Dev nD) (s t : ℕ) : sProp 𝕄 := four fun hl => kvGot m c s hl t

theorem kvGot_idle (c : Dev nD) (s hl t : ℕ) : kvGot m c s hl t ⊢ kvIdle m c s hl := by
  unfold kvGot kvIdle kGot vGot kIdle vIdle
  iintro ⟨H, H'⟩
  isplitl [H]
  · iapply cGot_idle; iexact H
  · iapply cGot_idle; iexact H'
theorem slotGot_idle (c : Dev nD) (s t : ℕ) : slotGot m c s t ⊢ slotIdle m c s := by
  unfold slotGot slotIdle four
  iintro ⟨H0, H1, H2, H3⟩
  isplitl [H0]
  · iapply (kvGot_idle m c s 0 t); iexact H0
  isplitl [H1]
  · iapply (kvGot_idle m c s 1 t); iexact H1
  isplitl [H2]
  · iapply (kvGot_idle m c s 2 t); iexact H2
  · iapply (kvGot_idle m c s 3 t); iexact H3

section Stage

variable {c : Dev nD} {α : Type}

theorem wp_start2 {Q : α → sProp 𝕄} (s t hl : ℕ) (ht : t < 8) (hh : hl < 4) {off : Fin 4 → ℕ} {i1 i2 i3 i4 e1 e2 e3 e4 f1 f2 f3 f4}
    {sm sm' : DmaSem sig} {a1 a2 a3 b1 b2 b3} {k : Prog (TpuEff nD τ sig (Elt F) Λ₀ .tc) α}
    (hoff : off = ![c.val / 4, 1024 * (t % 4), 4 * (t / 4) + hl, 0]) (hsm : sm = kSem s hl) (hsm' : sm' = vSem s hl) :
    kvIdle m c s hl ⊢ iprop((kvFly m c s hl t -∗ wpc c k Q)
      -∗ wpc c (.op (.enqueueDma ((kA.slice (Rect.unit (s := S4x4096x8x128) off S1x1024x1x128.size i1) e1).squeeze S1024x128 f1)
          (.here ((kB.slice (Rect.unit (s := S2x4x1024x128) ![s, hl, 0, 0] S1x1x1024x128.size i2) e2).squeeze S1024x128 f2)) (.dma sm) a1 a2 a3) fun _ =>
        .op (.enqueueDma ((vA.slice (Rect.unit (s := S4x4096x8x128) off S1x1024x1x128.size i3) e3).squeeze S1024x128 f3)
          (.here ((vB.slice (Rect.unit (s := S2x4x1024x128) ![s, hl, 0, 0] S1x1x1024x128.size i4) e4).squeeze S1024x128 f4)) (.dma sm') b1 b2 b3) fun _ => k) Q) := by
  unfold kvIdle kvFly
  iintro ⟨Hk, Hv⟩ HK
  iapply (wp_kstart m s hl t ht hh hoff hsm) $$ Hk; iintro Hk
  iapply (wp_vstart m s hl t ht hh hoff hsm') $$ Hv; iintro Hv
  iapply HK
  isplitl [Hk] <;> iassumption

theorem wp_wait2 {Q : α → sProp 𝕄} (s t hl : ℕ) {O : CellTallies nD τ sig Unit} (hO : Above 1 O)
    {sp sp' : Space} {s1 s2 : Shape} {t1 t2 : EltTy} {r : Memref sig .tc sp s1 t1} {r' : Memref sig .tc sp' s2 t2} {i2 i4 e2 e4 f2 f4}
    {sm sm' : DmaSem sig} {a1 a2 b1 b2} {k : Prog (TpuEff nD τ sig (Elt F) Λ₀ .tc) α}
    (hsm : sm = kSem s hl) (hsm' : sm' = vSem s hl) :
    iprop(levAts L lv ∗ owesAny c O ∗ kvFly m c s hl t) ⊢ iprop(((owesAny c O ∗ kvGot m c s hl t) -∗ wpc c k Q)
      -∗ wpc c (.op (.waitDma2 sm r ((kB.slice (Rect.unit (s := S2x4x1024x128) ![s, hl, 0, 0] S1x1x1024x128.size i2) e2).squeeze S1024x128 f2) a1 a2) fun _ =>
        .op (.waitDma2 sm' r' ((vB.slice (Rect.unit (s := S2x4x1024x128) ![s, hl, 0, 0] S1x1x1024x128.size i4) e4).squeeze S1024x128 f4) b1 b2) fun _ => k) Q) := by
  have hlo : ∀ n < 8, ∀ b ∈ ({2, 10} : Finset ℕ), b + n < 18 := by decide
  have hK : lvS (.dma (kSem s hl)) ≤ 0 := le_of_eq (if_pos (hlo _ (Nat.mod_lt _ (by decide)) 2 (by decide)))
  have hV : lvS (.dma (vSem s hl)) ≤ 0 := le_of_eq (if_pos (hlo _ (Nat.mod_lt _ (by decide)) 10 (by decide)))
  unfold kvFly kvGot owesAny
  iintro ⟨#Hlev, HO, Hk, Hv⟩ HK
  iapply (wp_kwait m s hl t (O := O) hsm) $$ [Hk HO]
  · isplitl [Hk]; · iexact Hk
    isplitl [HO]; · iexact HO
    iapply (mayWait c _ 0 O hO hK); iexact Hlev
  iintro ⟨Hk, HO⟩
  iapply (wp_vwait m s hl t (O := O) hsm') $$ [Hv HO]
  · isplitl [Hv]; · iexact Hv
    isplitl [HO]; · iexact HO
    iapply (mayWait c _ 0 O hO hV); iexact Hlev
  iintro ⟨Hv, HO⟩
  iapply HK
  isplitl [HO]; · iexact HO
  isplitl [Hk] <;> iassumption

/-- The eight starts of stage `t`. -/
theorem wp_start8 {Q : α → sProp 𝕄} (s t : ℕ) (ht : t < 8) {o0 o1 o2 o3 : Fin 4 → ℕ}
    {i0kA e0kA f0kA j0kA g0kA l0kA i0vA e0vA f0vA j0vA g0vA l0vA} {sm0kA sm0vA : DmaSem sig} {a0kA b0kA c0kA a0vA b0vA c0vA}
    {i1kA e1kA f1kA j1kA g1kA l1kA i1vA e1vA f1vA j1vA g1vA l1vA} {sm1kA sm1vA : DmaSem sig} {a1kA b1kA c1kA a1vA b1vA c1vA}
    {i2kA e2kA f2kA j2kA g2kA l2kA i2vA e2vA f2vA j2vA g2vA l2vA} {sm2kA sm2vA : DmaSem sig} {a2kA b2kA c2kA a2vA b2vA c2vA}
    {i3kA e3kA f3kA j3kA g3kA l3kA i3vA e3vA f3vA j3vA g3vA l3vA} {sm3kA sm3vA : DmaSem sig} {a3kA b3kA c3kA a3vA b3vA c3vA}
    {k : Prog (TpuEff nD τ sig (Elt F) Λ₀ .tc) α}
    (ho0 : o0 = ![c.val / 4, 1024 * (t % 4), 4 * (t / 4) + 0, 0])
    (ho1 : o1 = ![c.val / 4, 1024 * (t % 4), 4 * (t / 4) + 1, 0])
    (ho2 : o2 = ![c.val / 4, 1024 * (t % 4), 4 * (t / 4) + 2, 0])
    (ho3 : o3 = ![c.val / 4, 1024 * (t % 4), 4 * (t / 4) + 3, 0])
    (hk0 : sm0kA = kSem s 0) (hv0 : sm0vA = vSem s 0)
    (hk1 : sm1kA = kSem s 1) (hv1 : sm1vA = vSem s 1)
    (hk2 : sm2kA = kSem s 2) (hv2 : sm2vA = vSem s 2)
    (hk3 : sm3kA = kSem s 3) (hv3 : sm3vA = vSem s 3) :
    slotIdle m c s ⊢ iprop((slotFly m c s t -∗ wpc c k Q) -∗ wpc c
      (.op (.enqueueDma ((kA.slice (Rect.unit (s := S4x4096x8x128) o0 S1x1024x1x128.size i0kA) e0kA).squeeze S1024x128 f0kA) (.here ((kB.slice (Rect.unit (s := S2x4x1024x128) ![s, 0, 0, 0] S1x1x1024x128.size j0kA) g0kA).squeeze S1024x128 l0kA)) (.dma sm0kA) a0kA b0kA c0kA) fun _ =>
      .op (.enqueueDma ((vA.slice (Rect.unit (s := S4x4096x8x128) o0 S1x1024x1x128.size i0vA) e0vA).squeeze S1024x128 f0vA) (.here ((vB.slice (Rect.unit (s := S2x4x1024x128) ![s, 0, 0, 0] S1x1x1024x128.size j0vA) g0vA).squeeze S1024x128 l0vA)) (.dma sm0vA) a0vA b0vA c0vA) fun _ =>
      .op (.enqueueDma ((kA.slice (Rect.unit (s := S4x4096x8x128) o1 S1x1024x1x128.size i1kA) e1kA).squeeze S1024x128 f1kA) (.here ((kB.slice (Rect.unit (s := S2x4x1024x128) ![s, 1, 0, 0] S1x1x1024x128.size j1kA) g1kA).squeeze S1024x128 l1kA)) (.dma sm1kA) a1kA b1kA c1kA) fun _ =>
      .op (.enqueueDma ((vA.slice (Rect.unit (s := S4x4096x8x128) o1 S1x1024x1x128.size i1vA) e1vA).squeeze S1024x128 f1vA) (.here ((vB.slice (Rect.unit (s := S2x4x1024x128) ![s, 1, 0, 0] S1x1x1024x128.size j1vA) g1vA).squeeze S1024x128 l1vA)) (.dma sm1vA) a1vA b1vA c1vA) fun _ =>
      .op (.enqueueDma ((kA.slice (Rect.unit (s := S4x4096x8x128) o2 S1x1024x1x128.size i2kA) e2kA).squeeze S1024x128 f2kA) (.here ((kB.slice (Rect.unit (s := S2x4x1024x128) ![s, 2, 0, 0] S1x1x1024x128.size j2kA) g2kA).squeeze S1024x128 l2kA)) (.dma sm2kA) a2kA b2kA c2kA) fun _ =>
      .op (.enqueueDma ((vA.slice (Rect.unit (s := S4x4096x8x128) o2 S1x1024x1x128.size i2vA) e2vA).squeeze S1024x128 f2vA) (.here ((vB.slice (Rect.unit (s := S2x4x1024x128) ![s, 2, 0, 0] S1x1x1024x128.size j2vA) g2vA).squeeze S1024x128 l2vA)) (.dma sm2vA) a2vA b2vA c2vA) fun _ =>
      .op (.enqueueDma ((kA.slice (Rect.unit (s := S4x4096x8x128) o3 S1x1024x1x128.size i3kA) e3kA).squeeze S1024x128 f3kA) (.here ((kB.slice (Rect.unit (s := S2x4x1024x128) ![s, 3, 0, 0] S1x1x1024x128.size j3kA) g3kA).squeeze S1024x128 l3kA)) (.dma sm3kA) a3kA b3kA c3kA) fun _ =>
      .op (.enqueueDma ((vA.slice (Rect.unit (s := S4x4096x8x128) o3 S1x1024x1x128.size i3vA) e3vA).squeeze S1024x128 f3vA) (.here ((vB.slice (Rect.unit (s := S2x4x1024x128) ![s, 3, 0, 0] S1x1x1024x128.size j3vA) g3vA).squeeze S1024x128 l3vA)) (.dma sm3vA) a3vA b3vA c3vA) fun _ =>
      k) Q) := by
  unfold slotIdle slotFly four
  iintro ⟨H0, H1, H2, H3⟩ HK
  iapply (wp_start2 m s t 0 ht (by decide) ho0 hk0 hv0) $$ H0; iintro H0
  iapply (wp_start2 m s t 1 ht (by decide) ho1 hk1 hv1) $$ H1; iintro H1
  iapply (wp_start2 m s t 2 ht (by decide) ho2 hk2 hv2) $$ H2; iintro H2
  iapply (wp_start2 m s t 3 ht (by decide) ho3 hk3 hv3) $$ H3; iintro H3
  iapply HK
  isplitl [H0]; · iexact H0
  isplitl [H1]; · iexact H1
  isplitl [H2] <;> iassumption

/-- The eight waits of stage `t`. -/
theorem wp_wait8 {Q : α → sProp 𝕄} (s t : ℕ) {O : CellTallies nD τ sig Unit} (hO : Above 1 O)
    {sp0kA : Space} {s0kA : Shape} {t0kA : EltTy} {r0kA : Memref sig .tc sp0kA s0kA t0kA}
    {sp0vA : Space} {s0vA : Shape} {t0vA : EltTy} {r0vA : Memref sig .tc sp0vA s0vA t0vA}
    {j0kA g0kA l0kA j0vA g0vA l0vA} {sm0kA sm0vA : DmaSem sig} {a0kA b0kA a0vA b0vA}
    {sp1kA : Space} {s1kA : Shape} {t1kA : EltTy} {r1kA : Memref sig .tc sp1kA s1kA t1kA}
    {sp1vA : Space} {s1vA : Shape} {t1vA : EltTy} {r1vA : Memref sig .tc sp1vA s1vA t1vA}
    {j1kA g1kA l1kA j1vA g1vA l1vA} {sm1kA sm1vA : DmaSem sig} {a1kA b1kA a1vA b1vA}
    {sp2kA : Space} {s2kA : Shape} {t2kA : EltTy} {r2kA : Memref sig .tc sp2kA s2kA t2kA}
    {sp2vA : Space} {s2vA : Shape} {t2vA : EltTy} {r2vA : Memref sig .tc sp2vA s2vA t2vA}
    {j2kA g2kA l2kA j2vA g2vA l2vA} {sm2kA sm2vA : DmaSem sig} {a2kA b2kA a2vA b2vA}
    {sp3kA : Space} {s3kA : Shape} {t3kA : EltTy} {r3kA : Memref sig .tc sp3kA s3kA t3kA}
    {sp3vA : Space} {s3vA : Shape} {t3vA : EltTy} {r3vA : Memref sig .tc sp3vA s3vA t3vA}
    {j3kA g3kA l3kA j3vA g3vA l3vA} {sm3kA sm3vA : DmaSem sig} {a3kA b3kA a3vA b3vA}
    {k : Prog (TpuEff nD τ sig (Elt F) Λ₀ .tc) α}
    (hk0 : sm0kA = kSem s 0) (hv0 : sm0vA = vSem s 0)
    (hk1 : sm1kA = kSem s 1) (hv1 : sm1vA = vSem s 1)
    (hk2 : sm2kA = kSem s 2) (hv2 : sm2vA = vSem s 2)
    (hk3 : sm3kA = kSem s 3) (hv3 : sm3vA = vSem s 3) :
    iprop(levAts L lv ∗ owesAny c O ∗ slotFly m c s t) ⊢ iprop(((owesAny c O ∗ slotGot m c s t) -∗ wpc c k Q) -∗ wpc c
      (.op (.waitDma2 sm0kA r0kA ((kB.slice (Rect.unit (s := S2x4x1024x128) ![s, 0, 0, 0] S1x1x1024x128.size j0kA) g0kA).squeeze S1024x128 l0kA) a0kA b0kA) fun _ =>
      .op (.waitDma2 sm0vA r0vA ((vB.slice (Rect.unit (s := S2x4x1024x128) ![s, 0, 0, 0] S1x1x1024x128.size j0vA) g0vA).squeeze S1024x128 l0vA) a0vA b0vA) fun _ =>
      .op (.waitDma2 sm1kA r1kA ((kB.slice (Rect.unit (s := S2x4x1024x128) ![s, 1, 0, 0] S1x1x1024x128.size j1kA) g1kA).squeeze S1024x128 l1kA) a1kA b1kA) fun _ =>
      .op (.waitDma2 sm1vA r1vA ((vB.slice (Rect.unit (s := S2x4x1024x128) ![s, 1, 0, 0] S1x1x1024x128.size j1vA) g1vA).squeeze S1024x128 l1vA) a1vA b1vA) fun _ =>
      .op (.waitDma2 sm2kA r2kA ((kB.slice (Rect.unit (s := S2x4x1024x128) ![s, 2, 0, 0] S1x1x1024x128.size j2kA) g2kA).squeeze S1024x128 l2kA) a2kA b2kA) fun _ =>
      .op (.waitDma2 sm2vA r2vA ((vB.slice (Rect.unit (s := S2x4x1024x128) ![s, 2, 0, 0] S1x1x1024x128.size j2vA) g2vA).squeeze S1024x128 l2vA) a2vA b2vA) fun _ =>
      .op (.waitDma2 sm3kA r3kA ((kB.slice (Rect.unit (s := S2x4x1024x128) ![s, 3, 0, 0] S1x1x1024x128.size j3kA) g3kA).squeeze S1024x128 l3kA) a3kA b3kA) fun _ =>
      .op (.waitDma2 sm3vA r3vA ((vB.slice (Rect.unit (s := S2x4x1024x128) ![s, 3, 0, 0] S1x1x1024x128.size j3vA) g3vA).squeeze S1024x128 l3vA) a3vA b3vA) fun _ =>
      k) Q) := by
  unfold slotFly slotGot four
  iintro ⟨#Hlev, HO, H0, H1, H2, H3⟩ HK
  iapply (wp_wait2 m s t 0 hO hk0 hv0) $$ [HO H0]
  · isplitr; · iexact Hlev
    isplitl [HO] <;> iassumption
  iintro ⟨HO, H0⟩
  iapply (wp_wait2 m s t 1 hO hk1 hv1) $$ [HO H1]
  · isplitr; · iexact Hlev
    isplitl [HO] <;> iassumption
  iintro ⟨HO, H1⟩
  iapply (wp_wait2 m s t 2 hO hk2 hv2) $$ [HO H2]
  · isplitr; · iexact Hlev
    isplitl [HO] <;> iassumption
  iintro ⟨HO, H2⟩
  iapply (wp_wait2 m s t 3 hO hk3 hv3) $$ [HO H3]
  · isplitr; · iexact Hlev
    isplitl [HO] <;> iassumption
  iintro ⟨HO, H3⟩
  iapply HK
  isplitl [HO]; · iexact HO
  isplitl [H0]; · iexact H0
  isplitl [H1]; · iexact H1
  isplitl [H2] <;> iassumption

/-- One block of stage `t`, the sums of its group of heads held. -/
theorem wp_block1 {Q : α → sProp 𝕄} (s t hl h n g : ℕ) (hn : n = 4 * t + hl) (ht : t < 8) (hl4 : hl < 4) (hh : h = 4 * (t / 4) + hl) (hg : g = t / 4)
    {i1 i2 i3 i4 i5 i6 i7 l1 l2 l3 l4 l5 l6 l7 x1 x2 y1 y2}
    {PL : Vec F S1x1x1024x128 .f32 → Vec F S32x1x128 .bf16 → Vec F S1x32x8 .f32 → FVec F S1x32x8 .f32}
    {PA : Vec F S1x1x1024x128 .f32 → Vec F S32x1x128 .bf16 → Vec F S1x1x1024x128 .f32 → Vec F S1x32x128 .f32 → FVec F S1x32x128 .f32}
    {k : Prog (TpuEff nD τ sig (Elt F) Λ₀ .tc) α}
    (hPL : ∀ a b l, PL a b l = k0_pay8 (k0_pay6 a) b l) (hPA : ∀ a b v l, PA a b v l = k0_pay9 (k0_pay6 a) b v l) :
    iprop(kvGot m c s hl t ∗ qPts m c ∗ lPts m c g n ∗ aPts m c n)
      ⊢ iprop(((kvGot m c s hl t ∗ qPts m c ∗ lPts m c g (n + 1) ∗ aPts m c (n + 1)) -∗ wpc c k Q)
      -∗ wpc c (.op (.load kB (Rect.unit (s := S2x4x1024x128) ![s, hl, 0, 0] S1x1x1024x128.size i1).toLoadRect l1) fun kv =>
          .op (.load qB (Rect.unit (s := S32x8x128) ![0, h, 0] S32x1x128.size i2).toLoadRect l2) fun qv =>
          .op (.load lB (Rect.unit (s := S8x32x8) ![h, 0, 0] S1x32x8.size i3).toLoadRect l3) fun lv =>
          .op (.load lB (Rect.unit (s := S8x32x8) ![h, 0, 0] S1x32x8.size i4).toLoadRect l4) fun _ =>
          .op (.store lB (Rect.unit (s := S8x32x8) ![h, 0, 0] S1x32x8.size i4) (PL kv qv lv) Finset.univ x1 y1) fun _ =>
          .op (.load vB (Rect.unit (s := S2x4x1024x128) ![s, hl, 0, 0] S1x1x1024x128.size i5).toLoadRect l5) fun vv =>
          .op (.load aB (Rect.unit (s := S8x32x128) ![h, 0, 0] S1x32x128.size i6).toLoadRect l6) fun av =>
          .op (.load aB (Rect.unit (s := S8x32x128) ![h, 0, 0] S1x32x128.size i7).toLoadRect l7) fun _ =>
          .op (.store aB (Rect.unit (s := S8x32x128) ![h, 0, 0] S1x32x128.size i7) (PA kv qv vv av) Finset.univ x2 y2) fun _ => k) Q) := by
  obtain rfl : t = n / 4 := by omega
  obtain rfl : g = n / 16 := by omega
  unfold kvGot
  iintro ⟨⟨Hk, Hv⟩, Hq, Hl, Ha⟩ HK
  iapply (wp_block m n s hl h (by omega) (by omega) (by unfold hd; omega) hPL hPA) $$ [Hk Hv Hq Hl Ha]
  · isplitl [Hk]; · iexact Hk
    isplitl [Hv]; · iexact Hv
    isplitl [Hq]; · iexact Hq
    isplitl [Hl] <;> iassumption
  iintro ⟨Hk, Hv, Hq, Hl, Ha⟩
  iapply HK
  isplitl [Hk Hv]
  · isplitl [Hk] <;> iassumption
  isplitl [Hq]; · iexact Hq
  isplitl [Hl] <;> iassumption

end Stage

end Cert.KernelIdeal.Run

end
-- ==== Proof.Run.Xfer.lean ====
/-
# The three kinds of remote copies

A group of the weighted sums, and of the weights' sums, to a peer along `z`; and a group of heads of the own row of the result to a peer across `x` and `y`.
-/
module

public import proofs.«01_k».proof.Proof.Run.Stage

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

/-! ## Credits -/

omit [FloatOps F] in
theorem NX_0 : NX 0 = NA := if_pos (by decide)
omit [FloatOps F] in
theorem NX_1 : NX 1 = NA := if_pos (by decide)
omit [FloatOps F] in
theorem NX_2 : NX 2 = NL := by unfold NX; rw [if_neg (by decide), if_pos (by decide)]
omit [FloatOps F] in
theorem NX_3 : NX 3 = NL := by unfold NX; rw [if_neg (by decide), if_pos (by decide)]

/-! ## The pieces, as the copies name them -/

omit [FloatOps F] in
theorem sSet_rect (g a : ℕ) (ha : a = 4 * g) (inb) : (Rect.unit (s := S8x32x128) ![a, 0, 0] S4x32x128.size inb).set = sSet g := by
  ext i
  rw [Rect.mem_set_unit, sSet, Finset.mem_filter]
  constructor
  · intro h
    have h0 := h 0
    simp at h0
    exact ⟨Finset.mem_univ _, by omega⟩
  · rintro ⟨-, h0⟩ x
    have h2 := (i 1).isLt; have h3 := (i 2).isLt
    match x with
    | ⟨0, _⟩ => simp; omega
    | ⟨1, _⟩ => simp; exact h2
    | ⟨2, _⟩ => simp; exact h3

omit [FloatOps F] in
theorem lSet_rect (g a : ℕ) (ha : a = 4 * g) (inb) : (Rect.unit (s := S8x32x8) ![a, 0, 0] S4x32x8.size inb).set = lSet g := by
  ext i
  rw [Rect.mem_set_unit, lSet, Finset.mem_filter]
  constructor
  · intro h
    have h0 := h 0
    simp at h0
    exact ⟨Finset.mem_univ _, by omega⟩
  · rintro ⟨-, h0⟩ x
    have h2 := (i 1).isLt; have h3 := (i 2).isLt
    match x with
    | ⟨0, _⟩ => simp; omega
    | ⟨1, _⟩ => simp; exact h2
    | ⟨2, _⟩ => simp; exact h3

omit [FloatOps F] in
theorem rSet_rect (j g a : ℕ) (ha : a = 4 * g) (inb) : (Rect.unit (s := S3x8x32x128) ![j, a, 0, 0] S1x4x32x128.size inb).set = rSet j g := by
  ext i
  rw [Rect.mem_set_unit, rSet, Finset.mem_filter]
  constructor
  · intro h
    have h0 := h 0; have h1 := h 1
    simp at h0 h1
    exact ⟨Finset.mem_univ _, by omega, by omega⟩
  · rintro ⟨-, h0, h1⟩ x
    have h2 := (i 2).isLt; have h3 := (i 3).isLt
    match x with
    | ⟨0, _⟩ => simp; omega
    | ⟨1, _⟩ => simp; omega
    | ⟨2, _⟩ => simp; exact h2
    | ⟨3, _⟩ => simp; exact h3

omit [FloatOps F] in
theorem rlSet_rect (j g a : ℕ) (ha : a = 4 * g) (inb) : (Rect.unit (s := S3x8x32x8) ![j, a, 0, 0] S1x4x32x8.size inb).set = rlSet j g := by
  ext i
  rw [Rect.mem_set_unit, rlSet, Finset.mem_filter]
  constructor
  · intro h
    have h0 := h 0; have h1 := h 1
    simp at h0 h1
    exact ⟨Finset.mem_univ _, by omega, by omega⟩
  · rintro ⟨-, h0, h1⟩ x
    have h2 := (i 2).isLt; have h3 := (i 3).isLt
    match x with
    | ⟨0, _⟩ => simp; omega
    | ⟨1, _⟩ => simp; omega
    | ⟨2, _⟩ => simp; exact h2
    | ⟨3, _⟩ => simp; exact h3

omit [FloatOps F] in
theorem oSet_rect (b g a : ℕ) (ha : a = 4 * g) (inb) : (Rect.unit (s := S4x32x8x128) ![b, 0, a, 0] S1x32x4x128.size inb).set = oSet b g := by
  ext i
  rw [Rect.mem_set_unit, oSet, Finset.mem_filter]
  constructor
  · intro h
    have h0 := h 0; have h1 := h 2
    simp at h0 h1
    exact ⟨Finset.mem_univ _, by omega, by omega⟩
  · rintro ⟨-, h0, h1⟩ x
    have h2 := (i 1).isLt; have h3 := (i 3).isLt
    match x with
    | ⟨0, _⟩ => simp; omega
    | ⟨1, _⟩ => simp; exact h2
    | ⟨2, _⟩ => simp; omega
    | ⟨3, _⟩ => simp; exact h3

omit [FloatOps F] in
theorem px_zp (p : ℕ) (hp : p < 2) (j : Fin 3) : px p j.val = zp j := by
  unfold px zp
  rw [if_pos hp]
  exact Fin.ext (Nat.mod_eq_of_lt j.isLt)
omit [FloatOps F] in
theorem px2_mod (j : ℕ) (c : Dev nD) : (peer (px 2 j) c).val % 4 = c.val % 4 := by
  have h : ∀ k : Fin 3, ∀ c : Dev nD, (peer ⟨3 + k.val, by omega⟩ c).val % 4 = c.val % 4 := by decide
  exact h ⟨j % 3, Nat.mod_lt _ (by decide)⟩ c

variable (m : (ℓ : Loc nD τ sig) → Buf (Elt F) ℓ)
variable (K : Dev nD × Fin 37 → ℕ)

theorem oC_peer (j : ℕ) (c : Dev nD) : oC m (peer (px 2 j) c) = oC m c := by
  funext i; unfold oC; rw [px2_mod]

section Sends

variable {c : Dev nD} {α : Type}

/-- A group of the weighted sums to the peer `j` along `z`. -/
theorem wp_zacc {Q : α → sProp 𝕄} (g j a : ℕ) (hg : g < 2) (hj : j < 3) (ha : a = 4 * g) {n : Dev nD} (hn : n = peer (px 0 j) c)
    {i1 e1 i2 e2 f2} {sS sR : DmaSem sig} {hsc hsrc hdst hsem}
    {k : PUnit → Prog (TpuEff nD τ sig (Elt F) Λ₀ .tc) α} {O : CellTallies nD τ sig Unit}
    (hS : sS = xsem (6 * 0 + 3 * g + j)) (hR : sR = xsem (6 * 1 + 3 * g + j)) :
    iprop(invs m K ∗ owesAny c (O + tallyAt (pcell (peer (px 0 j) c) 1 g j) () (NX 1)) ∗ x0 (F := F) c 0 g j
        ∗ xPay m c 0 g j ∗ land (F := F) c 0 g j)
      ⊢ iprop(((owesAny c O ∗ xw (F := F) c 0 g j) -∗ wpc c (k ⟨⟩) Q)
          -∗ wpc c (.op (.enqueueDma (sB.slice (Rect.unit (s := S8x32x128) ![a, 0, 0] S4x32x128.size i1) e1)
              (.remote (Dev.tc n : Thread nD τ) ((rB.slice (Rect.unit (s := S3x8x32x128) ![j, a, 0, 0] S1x4x32x128.size i2) e2).squeeze S4x32x128 f2) (.dma sS) hsc)
              (.dma sR) hsrc hdst hsem) k) Q) := by
  subst hn
  have hset : (((rB.slice (Rect.unit (s := S3x8x32x128) ![j, a, 0, 0] S1x4x32x128.size i2) e2).squeeze S4x32x128 f2).view).set = rSet j g := by
    show (((View.whole _).slice _).reshape _ _).set = _
    rw [View.set_reshape, View.set_slice_whole]; exact rSet_rect j g a ha i2
  have hsrcset : ((sB.slice (Rect.unit (s := S8x32x128) ![a, 0, 0] S4x32x128.size i1) e1).view).set = sSet g := by
    show ((View.whole _).slice _).set = _
    rw [View.set_slice_whole]; exact sSet_rect g a ha i1
  refine wp_xsend m K 0 g j (by decide) hg hj rfl
    (src := sB.slice (Rect.unit (s := S8x32x128) ![a, 0, 0] S4x32x128.size i1) e1)
    (dst := (rB.slice (Rect.unit (s := S3x8x32x128) ![j, a, 0, 0] S1x4x32x128.size i2) e2).squeeze S4x32x128 f2)
    hS hR ((show _ = NA from rfl).trans NX_1.symm) (NX_0.trans NX_1.symm) (sC m c) (sh j) ?_ ?_ ?_
  · rw [hsrcset]; rfl
  · rw [hset]; rfl
  · intro fd
    rw [hset]
    refine Entails.of_eq ?_
    refine pointsTo_congr (write_agrees (F := F) ((rB.slice (Rect.unit (s := S3x8x32x128) ![j, a, 0, 0] S1x4x32x128.size i2) e2).squeeze S4x32x128 f2).view fd (rC m (peer (px 0 j) c)) _ _ ?_ ?_)
    · funext x
      obtain ⟨x0, x1, x2, rfl⟩ : ∃ (x0 : Fin 4) (x1 : Fin 32) (x2 : Fin 128), x = ix3 x0 x1 x2 := ⟨x 0, x 1, x 2, eq_ix3 x⟩
      show rC m (peer (px 0 j) c) ((Rect.unit (s := S3x8x32x128) ![j, a, 0, 0] S1x4x32x128.size i2).emb (Shape.reshapeEquiv _ (ix3 x0 x1 x2)))
        = sC m c ((Rect.unit (s := S8x32x128) ![a, 0, 0] S4x32x128.size i1).emb (ix3 x0 x1 x2))
      erw [reshapeEquiv_ix3_1abc]
      have hz : ∀ z : Fin 3, z.val = j → peer (zp z) (peer (px 0 j) c) = c := by
        rintro z rfl
        rw [px_zp 0 (by decide)]; exact peer_peer _ _
      have he : ∀ (z : Fin 3) y y', z.val = j → y = y' → sC m (peer (zp z) (peer (px 0 j) c)) y = sC m c y' := by
        intro z y y' hzj hy
        rw [hz z hzj, hy]
      unfold rC
      refine he _ _ _ (show j + 1 * 0 = j by omega) (funext fun b => ?_)
      match b with
      | ⟨0, _⟩ => rfl
      | ⟨1, _⟩ => rfl
      | ⟨2, _⟩ => rfl
    · intro i hi hni
      exact absurd (hset ▸ hi) hni

/-- A group of the weights' sums to the peer `j` along `z`. -/
theorem wp_zl {Q : α → sProp 𝕄} (g j a : ℕ) (hg : g < 2) (hj : j < 3) (ha : a = 4 * g) {n : Dev nD} (hn : n = peer (px 1 j) c)
    {i1 e1 i2 e2 f2} {sS sR : DmaSem sig} {hsc hsrc hdst hsem}
    {k : PUnit → Prog (TpuEff nD τ sig (Elt F) Λ₀ .tc) α} {O : CellTallies nD τ sig Unit}
    (hS : sS = xsem (6 * 2 + 3 * g + j)) (hR : sR = xsem (6 * 3 + 3 * g + j)) :
    iprop(invs m K ∗ owesAny c (O + tallyAt (pcell (peer (px 1 j) c) 3 g j) () (NX 3)) ∗ x0 (F := F) c 1 g j
        ∗ xPay m c 2 g j ∗ land (F := F) c 1 g j)
      ⊢ iprop(((owesAny c O ∗ xw (F := F) c 2 g j) -∗ wpc c (k ⟨⟩) Q)
          -∗ wpc c (.op (.enqueueDma (lB.slice (Rect.unit (s := S8x32x8) ![a, 0, 0] S4x32x8.size i1) e1)
              (.remote (Dev.tc n : Thread nD τ) ((rlB.slice (Rect.unit (s := S3x8x32x8) ![j, a, 0, 0] S1x4x32x8.size i2) e2).squeeze S4x32x8 f2) (.dma sS) hsc)
              (.dma sR) hsrc hdst hsem) k) Q) := by
  subst hn
  have hset : (((rlB.slice (Rect.unit (s := S3x8x32x8) ![j, a, 0, 0] S1x4x32x8.size i2) e2).squeeze S4x32x8 f2).view).set = rlSet j g := by
    show (((View.whole _).slice _).reshape _ _).set = _
    rw [View.set_reshape, View.set_slice_whole]; exact rlSet_rect j g a ha i2
  have hsrcset : ((lB.slice (Rect.unit (s := S8x32x8) ![a, 0, 0] S4x32x8.size i1) e1).view).set = lSet g := by
    show ((View.whole _).slice _).set = _
    rw [View.set_slice_whole]; exact lSet_rect g a ha i1
  refine wp_xsend m K 1 g j (by decide) hg hj rfl
    (src := lB.slice (Rect.unit (s := S8x32x8) ![a, 0, 0] S4x32x8.size i1) e1)
    (dst := (rlB.slice (Rect.unit (s := S3x8x32x8) ![j, a, 0, 0] S1x4x32x8.size i2) e2).squeeze S4x32x8 f2)
    hS hR ((show _ = NL from rfl).trans NX_3.symm) (NX_2.trans NX_3.symm) (lC m c 32) (sh j) ?_ ?_ ?_
  · rw [hsrcset]; rfl
  · rw [hset]; rfl
  · intro fd
    rw [hset]
    refine Entails.of_eq ?_
    refine pointsTo_congr (write_agrees (F := F) ((rlB.slice (Rect.unit (s := S3x8x32x8) ![j, a, 0, 0] S1x4x32x8.size i2) e2).squeeze S4x32x8 f2).view fd (rlC m (peer (px 1 j) c)) _ _ ?_ ?_)
    · funext x
      obtain ⟨x0, x1, x2, rfl⟩ : ∃ (x0 : Fin 4) (x1 : Fin 32) (x2 : Fin 8), x = ix3 x0 x1 x2 := ⟨x 0, x 1, x 2, eq_ix3 x⟩
      show rlC m (peer (px 1 j) c) ((Rect.unit (s := S3x8x32x8) ![j, a, 0, 0] S1x4x32x8.size i2).emb (Shape.reshapeEquiv _ (ix3 x0 x1 x2)))
        = lC m c 32 ((Rect.unit (s := S8x32x8) ![a, 0, 0] S4x32x8.size i1).emb (ix3 x0 x1 x2))
      erw [reshapeEquiv_ix3_1abc]
      have hz : ∀ z : Fin 3, z.val = j → peer (zp z) (peer (px 1 j) c) = c := by
        rintro z rfl
        rw [px_zp 1 (by decide)]; exact peer_peer _ _
      have he : ∀ (z : Fin 3) y y', z.val = j → y = y' → lC m (peer (zp z) (peer (px 1 j) c)) 32 y = lC m c 32 y' := by
        intro z y y' hzj hy
        rw [hz z hzj, hy]
      unfold rlC
      refine he _ _ _ (show j + 1 * 0 = j by omega) (funext fun b => ?_)
      match b with
      | ⟨0, _⟩ => rfl
      | ⟨1, _⟩ => rfl
      | ⟨2, _⟩ => rfl
    · intro i hi hni
      exact absurd (hset ▸ hi) hni

/-- A group of heads of the own row of the result to the peer `j` across `x` and `y`. -/
theorem wp_gather {Q : α → sProp 𝕄} (g j : ℕ) (hg : g < 2) (hj : j < 3) {n : Dev nD} (hn : n = peer (px 2 j) c) {off : Fin 4 → ℕ}
    (hoff : off = ![c.val / 4, 0, 4 * g, 0]) {i1 e1 f1 i2 e2 f2} {sS sR : DmaSem sig} {hsc hsrc hdst hsem}
    {k : PUnit → Prog (TpuEff nD τ sig (Elt F) Λ₀ .tc) α} {O : CellTallies nD τ sig Unit}
    (hS : sS = xsem (6 * 4 + 3 * g + j)) (hR : sR = xsem (6 * 5 + 3 * g + j)) :
    iprop(invs m K ∗ owesAny c (O + tallyAt (pcell (peer (px 2 j) c) 5 g j) () (NX 5)) ∗ x0 (F := F) c 2 g j
        ∗ xPay m c 4 g j ∗ land (F := F) c 2 g j)
      ⊢ iprop(((owesAny c O ∗ xw (F := F) c 4 g j) -∗ wpc c (k ⟨⟩) Q)
          -∗ wpc c (.op (.enqueueDma ((oB.slice (Rect.unit (s := S4x32x8x128) off S1x32x4x128.size i1) e1).squeeze S32x4x128 f1)
              (.remote (Dev.tc n : Thread nD τ) ((oB.slice (Rect.unit (s := S4x32x8x128) off S1x32x4x128.size i2) e2).squeeze S32x4x128 f2) (.dma sS) hsc)
              (.dma sR) hsrc hdst hsem) k) Q) := by
  subst hn hoff
  have hset : ∀ i2 e2 f2, (((oB.slice (Rect.unit (s := S4x32x8x128) ![c.val / 4, 0, 4 * g, 0] S1x32x4x128.size i2) e2).squeeze S32x4x128 f2).view).set = oSet (c.val / 4) g := by
    intro i2 e2 f2
    show (((View.whole _).slice _).reshape _ _).set = _
    rw [View.set_reshape, View.set_slice_whole]; exact oSet_rect _ g _ rfl i2
  refine wp_xsend m K 2 g j (by decide) hg hj rfl
    (src := ((oB.slice (Rect.unit (s := S4x32x8x128) _ S1x32x4x128.size i1) e1).squeeze S32x4x128 f1))
    (dst := ((oB.slice (Rect.unit (s := S4x32x8x128) _ S1x32x4x128.size i2) e2).squeeze S32x4x128 f2))
    hS hR rfl rfl (oC m c) (sh j) ?_ ?_ ?_
  · rw [hset]; rfl
  · rw [hset]; rfl
  · intro fd
    rw [hset]
    show _ ⊢ (lcO (peer (px 2 j) c) ↦[oSet ((peer (px 2 j) (peer (px 2 j) c)).val / 4) g]{fullShare} oC m (peer (px 2 j) c) : sProp 𝕄)
    rw [peer_peer, oC_peer]
    refine Entails.of_eq ?_
    refine pointsTo_congr (write_agrees (F := F) ((oB.slice (Rect.unit (s := S4x32x8x128) ![c.val / 4, 0, 4 * g, 0] S1x32x4x128.size i2) e2).squeeze S32x4x128 f2).view fd (oC m c) _ _ rfl ?_)
    intro i hi hni
    exact absurd ((hset i2 e2 f2) ▸ hi) hni

end Sends

end Cert.KernelIdeal.Run

end
-- ==== Proof.Run.Phase.lean ====
/-
# The exchanges, a group of heads at a time

Six copies to the peers along `z` and the twelve waits that end them; three copies across `x` and `y` and the six waits that end those.
-/
module

public import proofs.«01_k».proof.Proof.Run.Xfer

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 37 → ℕ)

/-- The same for each of three peers. -/
def tri (P : ℕ → sProp 𝕄) : sProp 𝕄 := iprop(P 0 ∗ P 1 ∗ P 2)

/-- The two copies to peer `j` along `z`: before, in flight, and after. -/
def zs0 (c : Dev nD) (g j : ℕ) : sProp 𝕄 := iprop(x0 c 0 g j ∗ x0 c 1 g j ∗ land c 0 g j ∗ land c 1 g j)
def zs1 (c : Dev nD) (g j : ℕ) : sProp 𝕄 := iprop(xw c 0 g j ∗ xw c 2 g j)
def zr1 (c : Dev nD) (g j : ℕ) : sProp 𝕄 := iprop(xw c 1 g j ∗ xw c 3 g j)
def z2 (c : Dev nD) (g j : ℕ) : sProp 𝕄 := iprop(xz c 0 g j ∗ xz c 1 g j ∗ xz c 2 g j ∗ xz c 3 g j)
/-- What has come from peer `j` along `z`. -/
def zr2 (c : Dev nD) (g j : ℕ) : sProp 𝕄 := iprop(xPay m c 1 g j ∗ xPay m c 3 g j)
theorem zr2_eq (c : Dev nD) (g j : ℕ) : zr2 m c g j = iprop((lcR c ↦[rSet j g]{fullShare} rC m c) ∗ (lcRl c ↦[rlSet j g]{fullShare} rlC m c)) := rfl

/-- The copy to peer `j` across `x` and `y`: before and after; and what has come from it. -/
def gs0 (c : Dev nD) (g j : ℕ) : sProp 𝕄 := iprop(x0 c 2 g j ∗ land c 2 g j)
def g2 (c : Dev nD) (g j : ℕ) : sProp 𝕄 := iprop(xz c 4 g j ∗ xz c 5 g j)
def gr2 (c : Dev nD) (g j : ℕ) : sProp 𝕄 := xPay m c 5 g j
theorem gr2_eq (c : Dev nD) (g j : ℕ) : gr2 m c g j = (lcO c ↦[oSet ((peer (px 2 j) c).val / 4) g]{fullShare} oC m c : sProp 𝕄) := rfl

/-- The group of weighted sums, of the weights' sums, and of the own row of the result, in thirds and whole. -/
def sPts (c : Dev nD) (g : ℕ) : sProp 𝕄 := lcS c ↦[sSet g]{fullShare} sC m c
def oPts (c : Dev nD) (g : ℕ) : sProp 𝕄 := lcO c ↦[oSet (c.val / 4) g]{fullShare} oC m c

omit [FloatOps F] in
theorem thirds {ℓ : Loc nD τ sig} (S : Finset (Idx ℓ)) (f : Buf (Elt F) ℓ) :
    (ℓ ↦[S]{fullShare} f : sProp 𝕄) = tri fun j => ℓ ↦[S]{sh j} f := by
  rw [pointsTo_deal (Finset.univ : Finset (Fin 3)) Finset.univ_nonempty fullShare, bigSep_univ_eq_bigSepL [0, 1, 2] (by decide) (by decide)]
  rfl

theorem sPts_thirds (c : Dev nD) (g : ℕ) : sPts m c g = tri fun j => xPay m c 0 g j := thirds _ _
theorem lPts_thirds (c : Dev nD) (g : ℕ) : lPts m c g 32 = tri fun j => xPay m c 2 g j := thirds _ _
theorem oPts_thirds (c : Dev nD) (g : ℕ) : oPts m c g = tri fun j => xPay m c 4 g j := thirds _ _

omit [FloatOps F] in
theorem NX_4 : NX 4 = NO := by unfold NX; rw [if_neg (by decide), if_neg (by decide)]
omit [FloatOps F] in
theorem NX_5 : NX 5 = NO := by unfold NX; rw [if_neg (by decide), if_neg (by decide)]

omit [FloatOps F] in
theorem cr_0 (a : ℕ) (i e) : (sB.slice (Rect.unit (s := S8x32x128) ![a, 0, 0] S4x32x128.size i) e).view.dmaCredit = NX 0 := (show _ = NA from rfl).trans NX_0.symm
omit [FloatOps F] in
theorem cr_1 (j a : ℕ) (i e f) : ((rB.slice (Rect.unit (s := S3x8x32x128) ![j, a, 0, 0] S1x4x32x128.size i) e).squeeze S4x32x128 f).view.dmaCredit = NX 1 := (show _ = NA from rfl).trans NX_1.symm
omit [FloatOps F] in
theorem cr_2 (a : ℕ) (i e) : (lB.slice (Rect.unit (s := S8x32x8) ![a, 0, 0] S4x32x8.size i) e).view.dmaCredit = NX 2 := (show _ = NL from rfl).trans NX_2.symm
omit [FloatOps F] in
theorem cr_3 (j a : ℕ) (i e f) : ((rlB.slice (Rect.unit (s := S3x8x32x8) ![j, a, 0, 0] S1x4x32x8.size i) e).squeeze S4x32x8 f).view.dmaCredit = NX 3 := (show _ = NL from rfl).trans NX_3.symm
omit [FloatOps F] in
theorem cr_4 (off : Fin 4 → ℕ) (i e f) : ((oB.slice (Rect.unit (s := S4x32x8x128) off S1x32x4x128.size i) e).squeeze S32x4x128 f).view.dmaCredit = NX 4 := (show _ = NO from rfl).trans NX_4.symm
omit [FloatOps F] in
theorem cr_5 (off : Fin 4 → ℕ) (i e f) : ((oB.slice (Rect.unit (s := S4x32x8x128) off S1x32x4x128.size i) e).squeeze S32x4x128 f).view.dmaCredit = NX 5 := (show _ = NO from rfl).trans NX_5.symm

theorem ow_z (c : Dev nD) {p g j : ℕ} (hp : p < 2) (hg : g < 2) (hj : j < 3) :
    OwD c (18 - (6 * g + 2 * j + p)) = OwD c (17 - (6 * g + 2 * j + p)) + tallyAt (pcell (peer (px p j) c) (2 * p + 1) g j) () (NX (2 * p + 1)) := by
  rw [ow_step c (by omega)]
  have h1 : ordP (6 * g + 2 * j + p) = p := by unfold ordP; rw [if_pos (by omega)]; omega
  have h2 : ordG (6 * g + 2 * j + p) = g := by unfold ordG; rw [if_pos (by omega)]; omega
  have h3 : ordJ (6 * g + 2 * j + p) = j := by unfold ordJ; rw [if_pos (by omega)]; omega
  unfold tgt
  rw [h1, h2, h3]
theorem ow_g (c : Dev nD) {g j : ℕ} (hg : g < 2) (hj : j < 3) :
    OwD c (6 - (3 * g + j)) = OwD c (5 - (3 * g + j)) + tallyAt (pcell (peer (px 2 j) c) 5 g j) () (NX 5) := by
  have h := ow_step c (k := 12 + (3 * g + j)) (by omega)
  have h1 : ordP (12 + (3 * g + j)) = 2 := by unfold ordP; rw [if_neg (by omega)]
  have h2 : ordG (12 + (3 * g + j)) = g := by unfold ordG; rw [if_neg (by omega)]; omega
  have h3 : ordJ (12 + (3 * g + j)) = j := by unfold ordJ; rw [if_neg (by omega)]; omega
  unfold tgt at h
  rw [h1, h2, h3, show 18 - (12 + (3 * g + j)) = 6 - (3 * g + j) by omega, show 17 - (12 + (3 * g + j)) = 5 - (3 * g + j) by omega] at h
  exact h

section Phase

variable {c : Dev nD} {α : Type}

theorem wp_zsend2 {Q : α → sProp 𝕄} (g j a : ℕ) (hg : g < 2) (hj : j < 3) (ha : a = 4 * g)
    {n1 n2 : Dev nD} {i1 e1 i2 e2 f2 i3 e3 i4 e4 f4} {sS1 sR1 sS2 sR2 : DmaSem sig} {hc1 ha1 hb1 hd1 hc2 ha2 hb2 hd2}
    {k : Prog (TpuEff nD τ sig (Elt F) Λ₀ .tc) α}
    (hn1 : n1 = peer (px 0 j) c) (hn2 : n2 = peer (px 1 j) c)
    (hS1 : sS1 = xsem (6 * 0 + 3 * g + j)) (hR1 : sR1 = xsem (6 * 1 + 3 * g + j)) (hS2 : sS2 = xsem (6 * 2 + 3 * g + j)) (hR2 : sR2 = xsem (6 * 3 + 3 * g + j)) :
    iprop(invs m K ∗ owesAny c (OwD c (18 - (6 * g + 2 * j))) ∗ zs0 (F := F) c g j ∗ xPay m c 0 g j ∗ xPay m c 2 g j)
      ⊢ iprop(((owesAny c (OwD c (16 - (6 * g + 2 * j))) ∗ zs1 (F := F) c g j) -∗ wpc c k Q) -∗ wpc c
        (.op (.enqueueDma (sB.slice (Rect.unit (s := S8x32x128) ![a, 0, 0] S4x32x128.size i1) e1) (.remote (Dev.tc n1 : Thread nD τ) ((rB.slice (Rect.unit (s := S3x8x32x128) ![j, a, 0, 0] S1x4x32x128.size i2) e2).squeeze S4x32x128 f2) (.dma sS1) hc1) (.dma sR1) ha1 hb1 hd1) fun _ =>
        .op (.enqueueDma (lB.slice (Rect.unit (s := S8x32x8) ![a, 0, 0] S4x32x8.size i3) e3) (.remote (Dev.tc n2 : Thread nD τ) ((rlB.slice (Rect.unit (s := S3x8x32x8) ![j, a, 0, 0] S1x4x32x8.size i4) e4).squeeze S4x32x8 f4) (.dma sS2) hc2) (.dma sR2) ha2 hb2 hd2) fun _ =>
        k) Q) := by
  unfold zs0 zs1
  iintro ⟨#HI, HO, ⟨Hx, Hx', Hd, Hd'⟩, Hs, Hs'⟩ HK
  ihave HO := (Entails.of_eq (congrArg (owesAny (F := F) c) (ow_z c (p := 0) (by decide) hg hj))) $$ HO
  iapply (wp_zacc m K g j a hg hj ha hn1 hS1 hR1) $$ [HO Hx Hd Hs]
  · isplitr; · iexact HI
    isplitl [HO]; · iexact HO
    isplitl [Hx]; · iexact Hx
    isplitl [Hs] <;> iassumption
  iintro ⟨HO, Hx⟩
  ihave HO := (Entails.of_eq (congrArg (owesAny (F := F) c) ((congrArg (OwD c) (show 17 - (6 * g + 2 * j + 0) = 18 - (6 * g + 2 * j + 1) by omega)).trans (ow_z c (p := 1) (by decide) hg hj)))) $$ HO
  iapply (wp_zl m K g j a hg hj ha hn2 hS2 hR2) $$ [HO Hx' Hd' Hs']
  · isplitr; · iexact HI
    isplitl [HO]; · iexact HO
    isplitl [Hx']; · iexact Hx'
    isplitl [Hs'] <;> iassumption
  iintro ⟨HO, Hx'⟩
  ihave HO := (Entails.of_eq (congrArg (owesAny (F := F) c) (congrArg (OwD c) (show 17 - (6 * g + 2 * j + 1) = 16 - (6 * g + 2 * j) by omega)))) $$ HO
  iapply HK
  isplitl [HO]; · iexact HO
  isplitl [Hx] <;> iassumption

/-- The six copies of group `g` along `z`. -/
theorem wp_zsend6 {Q : α → sProp 𝕄} (g a : ℕ) (hg : g < 2) (ha : a = 4 * g)
    {n1_0 n2_0 : Dev nD} {i1_0 e1_0 i2_0 e2_0 f2_0 i3_0 e3_0 i4_0 e4_0 f4_0} {sS1_0 sR1_0 sS2_0 sR2_0 : DmaSem sig} {hc1_0 ha1_0 hb1_0 hd1_0 hc2_0 ha2_0 hb2_0 hd2_0}
    {n1_1 n2_1 : Dev nD} {i1_1 e1_1 i2_1 e2_1 f2_1 i3_1 e3_1 i4_1 e4_1 f4_1} {sS1_1 sR1_1 sS2_1 sR2_1 : DmaSem sig} {hc1_1 ha1_1 hb1_1 hd1_1 hc2_1 ha2_1 hb2_1 hd2_1}
    {n1_2 n2_2 : Dev nD} {i1_2 e1_2 i2_2 e2_2 f2_2 i3_2 e3_2 i4_2 e4_2 f4_2} {sS1_2 sR1_2 sS2_2 sR2_2 : DmaSem sig} {hc1_2 ha1_2 hb1_2 hd1_2 hc2_2 ha2_2 hb2_2 hd2_2}
    {k : Prog (TpuEff nD τ sig (Elt F) Λ₀ .tc) α}
    (hn1_0 : n1_0 = peer (px 0 0) c) (hn2_0 : n2_0 = peer (px 1 0) c)
    (hS1_0 : sS1_0 = xsem (6 * 0 + 3 * g + 0)) (hR1_0 : sR1_0 = xsem (6 * 1 + 3 * g + 0)) (hS2_0 : sS2_0 = xsem (6 * 2 + 3 * g + 0)) (hR2_0 : sR2_0 = xsem (6 * 3 + 3 * g + 0))
    (hn1_1 : n1_1 = peer (px 0 1) c) (hn2_1 : n2_1 = peer (px 1 1) c)
    (hS1_1 : sS1_1 = xsem (6 * 0 + 3 * g + 1)) (hR1_1 : sR1_1 = xsem (6 * 1 + 3 * g + 1)) (hS2_1 : sS2_1 = xsem (6 * 2 + 3 * g + 1)) (hR2_1 : sR2_1 = xsem (6 * 3 + 3 * g + 1))
    (hn1_2 : n1_2 = peer (px 0 2) c) (hn2_2 : n2_2 = peer (px 1 2) c)
    (hS1_2 : sS1_2 = xsem (6 * 0 + 3 * g + 2)) (hR1_2 : sR1_2 = xsem (6 * 1 + 3 * g + 2)) (hS2_2 : sS2_2 = xsem (6 * 2 + 3 * g + 2)) (hR2_2 : sR2_2 = xsem (6 * 3 + 3 * g + 2)) :
    iprop(invs m K ∗ owesAny c (OwD c (18 - 6 * g)) ∗ tri (zs0 (F := F) c g) ∗ sPts m c g ∗ lPts m c g 32)
      ⊢ iprop(((owesAny c (OwD c (12 - 6 * g)) ∗ tri (zs1 (F := F) c g)) -∗ wpc c k Q) -∗ wpc c
        (.op (.enqueueDma (sB.slice (Rect.unit (s := S8x32x128) ![a, 0, 0] S4x32x128.size i1_0) e1_0) (.remote (Dev.tc n1_0 : Thread nD τ) ((rB.slice (Rect.unit (s := S3x8x32x128) ![0, a, 0, 0] S1x4x32x128.size i2_0) e2_0).squeeze S4x32x128 f2_0) (.dma sS1_0) hc1_0) (.dma sR1_0) ha1_0 hb1_0 hd1_0) fun _ =>
        .op (.enqueueDma (lB.slice (Rect.unit (s := S8x32x8) ![a, 0, 0] S4x32x8.size i3_0) e3_0) (.remote (Dev.tc n2_0 : Thread nD τ) ((rlB.slice (Rect.unit (s := S3x8x32x8) ![0, a, 0, 0] S1x4x32x8.size i4_0) e4_0).squeeze S4x32x8 f4_0) (.dma sS2_0) hc2_0) (.dma sR2_0) ha2_0 hb2_0 hd2_0) fun _ =>
        .op (.enqueueDma (sB.slice (Rect.unit (s := S8x32x128) ![a, 0, 0] S4x32x128.size i1_1) e1_1) (.remote (Dev.tc n1_1 : Thread nD τ) ((rB.slice (Rect.unit (s := S3x8x32x128) ![1, a, 0, 0] S1x4x32x128.size i2_1) e2_1).squeeze S4x32x128 f2_1) (.dma sS1_1) hc1_1) (.dma sR1_1) ha1_1 hb1_1 hd1_1) fun _ =>
        .op (.enqueueDma (lB.slice (Rect.unit (s := S8x32x8) ![a, 0, 0] S4x32x8.size i3_1) e3_1) (.remote (Dev.tc n2_1 : Thread nD τ) ((rlB.slice (Rect.unit (s := S3x8x32x8) ![1, a, 0, 0] S1x4x32x8.size i4_1) e4_1).squeeze S4x32x8 f4_1) (.dma sS2_1) hc2_1) (.dma sR2_1) ha2_1 hb2_1 hd2_1) fun _ =>
        .op (.enqueueDma (sB.slice (Rect.unit (s := S8x32x128) ![a, 0, 0] S4x32x128.size i1_2) e1_2) (.remote (Dev.tc n1_2 : Thread nD τ) ((rB.slice (Rect.unit (s := S3x8x32x128) ![2, a, 0, 0] S1x4x32x128.size i2_2) e2_2).squeeze S4x32x128 f2_2) (.dma sS1_2) hc1_2) (.dma sR1_2) ha1_2 hb1_2 hd1_2) fun _ =>
        .op (.enqueueDma (lB.slice (Rect.unit (s := S8x32x8) ![a, 0, 0] S4x32x8.size i3_2) e3_2) (.remote (Dev.tc n2_2 : Thread nD τ) ((rlB.slice (Rect.unit (s := S3x8x32x8) ![2, a, 0, 0] S1x4x32x8.size i4_2) e4_2).squeeze S4x32x8 f4_2) (.dma sS2_2) hc2_2) (.dma sR2_2) ha2_2 hb2_2 hd2_2) fun _ =>
        k) Q) := by
  rw [sPts_thirds, lPts_thirds]
  unfold tri
  iintro ⟨#HI, HO, ⟨Hz0, Hz1, Hz2⟩, ⟨Hs0, Hs1, Hs2⟩, ⟨Hl0, Hl1, Hl2⟩⟩ HK
  iapply (wp_zsend2 m K g 0 a hg (by decide) ha hn1_0 hn2_0 hS1_0 hR1_0 hS2_0 hR2_0) $$ [HO Hz0 Hs0 Hl0]
  · isplitr; · iexact HI
    isplitl [HO]; · iexact HO
    isplitl [Hz0]; · iexact Hz0
    isplitl [Hs0] <;> iassumption
  iintro ⟨HO, Hz0⟩
  ihave HO := (Entails.of_eq (congrArg (owesAny (F := F) c) (congrArg (OwD c) (show 16 - (6 * g + 2 * 0) = 18 - (6 * g + 2 * 1) by omega)))) $$ HO
  iapply (wp_zsend2 m K g 1 a hg (by decide) ha hn1_1 hn2_1 hS1_1 hR1_1 hS2_1 hR2_1) $$ [HO Hz1 Hs1 Hl1]
  · isplitr; · iexact HI
    isplitl [HO]; · iexact HO
    isplitl [Hz1]; · iexact Hz1
    isplitl [Hs1] <;> iassumption
  iintro ⟨HO, Hz1⟩
  ihave HO := (Entails.of_eq (congrArg (owesAny (F := F) c) (congrArg (OwD c) (show 16 - (6 * g + 2 * 1) = 18 - (6 * g + 2 * 2) by omega)))) $$ HO
  iapply (wp_zsend2 m K g 2 a hg (by decide) ha hn1_2 hn2_2 hS1_2 hR1_2 hS2_2 hR2_2) $$ [HO Hz2 Hs2 Hl2]
  · isplitr; · iexact HI
    isplitl [HO]; · iexact HO
    isplitl [Hz2]; · iexact Hz2
    isplitl [Hs2] <;> iassumption
  iintro ⟨HO, Hz2⟩
  ihave HO := (Entails.of_eq (congrArg (owesAny (F := F) c) (congrArg (OwD c) (show 16 - (6 * g + 2 * 2) = 12 - 6 * g by omega)))) $$ HO
  iapply HK
  isplitl [HO]; · iexact HO
  isplitl [Hz0]; · iexact Hz0
  isplitl [Hz1] <;> iassumption

theorem wp_zwait4 {Q : α → sProp 𝕄} (g j a : ℕ) (hg : g < 2) (hj : j < 3) {O : CellTallies nD τ sig Unit} (hO : Above 3 O)
    {p0 : Space} {s0 : Shape} {t0 : EltTy} {r0 : Memref sig .tc p0 s0 t0} {i0 e0 ha0 hb0} {w0 : DmaSem sig}
    {p1 : Space} {s1 : Shape} {t1 : EltTy} {r1 : Memref sig .tc p1 s1 t1} {i1 e1 f1 ha1 hb1} {w1 : DmaSem sig}
    {p2 : Space} {s2 : Shape} {t2 : EltTy} {r2 : Memref sig .tc p2 s2 t2} {i2 e2 ha2 hb2} {w2 : DmaSem sig}
    {p3 : Space} {s3 : Shape} {t3 : EltTy} {r3 : Memref sig .tc p3 s3 t3} {i3 e3 f3 ha3 hb3} {w3 : DmaSem sig}
    {k : Prog (TpuEff nD τ sig (Elt F) Λ₀ .tc) α}
    (hw0 : w0 = xsem (6 * 0 + 3 * g + j)) (hw1 : w1 = xsem (6 * 1 + 3 * g + j)) (hw2 : w2 = xsem (6 * 2 + 3 * g + j)) (hw3 : w3 = xsem (6 * 3 + 3 * g + j)) :
    iprop(invs m K ∗ levAts L lv ∗ owesAny c O ∗ zs1 (F := F) c g j ∗ zr1 (F := F) c g j)
      ⊢ iprop(((owesAny c O ∗ z2 (F := F) c g j ∗ xPay m c 0 g j ∗ xPay m c 2 g j ∗ zr2 m c g j) -∗ wpc c k Q) -∗ wpc c
        (.op (.waitDma2 w0 r0 (sB.slice (Rect.unit (s := S8x32x128) ![a, 0, 0] S4x32x128.size i0) e0) ha0 hb0) fun _ =>
        .op (.waitDma2 w1 r1 ((rB.slice (Rect.unit (s := S3x8x32x128) ![j, a, 0, 0] S1x4x32x128.size i1) e1).squeeze S4x32x128 f1) ha1 hb1) fun _ =>
        .op (.waitDma2 w2 r2 (lB.slice (Rect.unit (s := S8x32x8) ![a, 0, 0] S4x32x8.size i2) e2) ha2 hb2) fun _ =>
        .op (.waitDma2 w3 r3 ((rlB.slice (Rect.unit (s := S3x8x32x8) ![j, a, 0, 0] S1x4x32x8.size i3) e3).squeeze S4x32x8 f3) ha3 hb3) fun _ =>
        k) Q) := by
  unfold zs1 zr1 z2
  iintro ⟨#HI, #Hlev, HO, ⟨H0, H2⟩, H1, H3⟩ HK
  iapply (wp_xwait m K 0 g j 2 (by decide) hg hj hO (by decide) hw0 (cr_0 _ _ _ )) $$ [HO H0]
  · isplitr; · iexact HI
    isplitr; · iexact Hlev
    isplitl [HO] <;> iassumption
  iintro ⟨HO, H0, P0⟩
  iapply (wp_xwait m K 1 g j 2 (by decide) hg hj hO (by decide) hw1 (cr_1 _ _ _ _ _)) $$ [HO H1]
  · isplitr; · iexact HI
    isplitr; · iexact Hlev
    isplitl [HO] <;> iassumption
  iintro ⟨HO, H1, P1⟩
  iapply (wp_xwait m K 2 g j 2 (by decide) hg hj hO (by decide) hw2 (cr_2 _ _ _ )) $$ [HO H2]
  · isplitr; · iexact HI
    isplitr; · iexact Hlev
    isplitl [HO] <;> iassumption
  iintro ⟨HO, H2, P2⟩
  iapply (wp_xwait m K 3 g j 2 (by decide) hg hj hO (by decide) hw3 (cr_3 _ _ _ _ _)) $$ [HO H3]
  · isplitr; · iexact HI
    isplitr; · iexact Hlev
    isplitl [HO] <;> iassumption
  iintro ⟨HO, H3, P3⟩
  iapply HK
  isplitl [HO]; · iexact HO
  isplitl [H0 H1 H2 H3]
  · isplitl [H0]; · iexact H0
    isplitl [H1]; · iexact H1
    isplitl [H2] <;> iassumption
  isplitl [P0]; · iexact P0
  isplitl [P2]; · iexact P2
  unfold zr2
  isplitl [P1]; · iexact P1
  iexact P3

/-- The twelve waits of group `g` along `z`. -/
theorem wp_zwait12 {Q : α → sProp 𝕄} (g a : ℕ) (hg : g < 2) {O : CellTallies nD τ sig Unit} (hO : Above 3 O)
    {p0_0 : Space} {s0_0 : Shape} {t0_0 : EltTy} {r0_0 : Memref sig .tc p0_0 s0_0 t0_0} {i0_0 e0_0 ha0_0 hb0_0} {w0_0 : DmaSem sig}
    {p1_0 : Space} {s1_0 : Shape} {t1_0 : EltTy} {r1_0 : Memref sig .tc p1_0 s1_0 t1_0} {i1_0 e1_0 f1_0 ha1_0 hb1_0} {w1_0 : DmaSem sig}
    {p2_0 : Space} {s2_0 : Shape} {t2_0 : EltTy} {r2_0 : Memref sig .tc p2_0 s2_0 t2_0} {i2_0 e2_0 ha2_0 hb2_0} {w2_0 : DmaSem sig}
    {p3_0 : Space} {s3_0 : Shape} {t3_0 : EltTy} {r3_0 : Memref sig .tc p3_0 s3_0 t3_0} {i3_0 e3_0 f3_0 ha3_0 hb3_0} {w3_0 : DmaSem sig}
    {p0_1 : Space} {s0_1 : Shape} {t0_1 : EltTy} {r0_1 : Memref sig .tc p0_1 s0_1 t0_1} {i0_1 e0_1 ha0_1 hb0_1} {w0_1 : DmaSem sig}
    {p1_1 : Space} {s1_1 : Shape} {t1_1 : EltTy} {r1_1 : Memref sig .tc p1_1 s1_1 t1_1} {i1_1 e1_1 f1_1 ha1_1 hb1_1} {w1_1 : DmaSem sig}
    {p2_1 : Space} {s2_1 : Shape} {t2_1 : EltTy} {r2_1 : Memref sig .tc p2_1 s2_1 t2_1} {i2_1 e2_1 ha2_1 hb2_1} {w2_1 : DmaSem sig}
    {p3_1 : Space} {s3_1 : Shape} {t3_1 : EltTy} {r3_1 : Memref sig .tc p3_1 s3_1 t3_1} {i3_1 e3_1 f3_1 ha3_1 hb3_1} {w3_1 : DmaSem sig}
    {p0_2 : Space} {s0_2 : Shape} {t0_2 : EltTy} {r0_2 : Memref sig .tc p0_2 s0_2 t0_2} {i0_2 e0_2 ha0_2 hb0_2} {w0_2 : DmaSem sig}
    {p1_2 : Space} {s1_2 : Shape} {t1_2 : EltTy} {r1_2 : Memref sig .tc p1_2 s1_2 t1_2} {i1_2 e1_2 f1_2 ha1_2 hb1_2} {w1_2 : DmaSem sig}
    {p2_2 : Space} {s2_2 : Shape} {t2_2 : EltTy} {r2_2 : Memref sig .tc p2_2 s2_2 t2_2} {i2_2 e2_2 ha2_2 hb2_2} {w2_2 : DmaSem sig}
    {p3_2 : Space} {s3_2 : Shape} {t3_2 : EltTy} {r3_2 : Memref sig .tc p3_2 s3_2 t3_2} {i3_2 e3_2 f3_2 ha3_2 hb3_2} {w3_2 : DmaSem sig}
    {k : Prog (TpuEff nD τ sig (Elt F) Λ₀ .tc) α}
    (hw0_0 : w0_0 = xsem (6 * 0 + 3 * g + 0)) (hw1_0 : w1_0 = xsem (6 * 1 + 3 * g + 0)) (hw2_0 : w2_0 = xsem (6 * 2 + 3 * g + 0)) (hw3_0 : w3_0 = xsem (6 * 3 + 3 * g + 0))
    (hw0_1 : w0_1 = xsem (6 * 0 + 3 * g + 1)) (hw1_1 : w1_1 = xsem (6 * 1 + 3 * g + 1)) (hw2_1 : w2_1 = xsem (6 * 2 + 3 * g + 1)) (hw3_1 : w3_1 = xsem (6 * 3 + 3 * g + 1))
    (hw0_2 : w0_2 = xsem (6 * 0 + 3 * g + 2)) (hw1_2 : w1_2 = xsem (6 * 1 + 3 * g + 2)) (hw2_2 : w2_2 = xsem (6 * 2 + 3 * g + 2)) (hw3_2 : w3_2 = xsem (6 * 3 + 3 * g + 2)) :
    iprop(invs m K ∗ levAts L lv ∗ owesAny c O ∗ tri (zs1 (F := F) c g) ∗ tri (zr1 (F := F) c g))
      ⊢ iprop(((owesAny c O ∗ tri (z2 (F := F) c g) ∗ sPts m c g ∗ lPts m c g 32 ∗ tri (zr2 m c g)) -∗ wpc c k Q) -∗ wpc c
        (.op (.waitDma2 w0_0 r0_0 (sB.slice (Rect.unit (s := S8x32x128) ![a, 0, 0] S4x32x128.size i0_0) e0_0) ha0_0 hb0_0) fun _ =>
        .op (.waitDma2 w1_0 r1_0 ((rB.slice (Rect.unit (s := S3x8x32x128) ![0, a, 0, 0] S1x4x32x128.size i1_0) e1_0).squeeze S4x32x128 f1_0) ha1_0 hb1_0) fun _ =>
        .op (.waitDma2 w2_0 r2_0 (lB.slice (Rect.unit (s := S8x32x8) ![a, 0, 0] S4x32x8.size i2_0) e2_0) ha2_0 hb2_0) fun _ =>
        .op (.waitDma2 w3_0 r3_0 ((rlB.slice (Rect.unit (s := S3x8x32x8) ![0, a, 0, 0] S1x4x32x8.size i3_0) e3_0).squeeze S4x32x8 f3_0) ha3_0 hb3_0) fun _ =>
        .op (.waitDma2 w0_1 r0_1 (sB.slice (Rect.unit (s := S8x32x128) ![a, 0, 0] S4x32x128.size i0_1) e0_1) ha0_1 hb0_1) fun _ =>
        .op (.waitDma2 w1_1 r1_1 ((rB.slice (Rect.unit (s := S3x8x32x128) ![1, a, 0, 0] S1x4x32x128.size i1_1) e1_1).squeeze S4x32x128 f1_1) ha1_1 hb1_1) fun _ =>
        .op (.waitDma2 w2_1 r2_1 (lB.slice (Rect.unit (s := S8x32x8) ![a, 0, 0] S4x32x8.size i2_1) e2_1) ha2_1 hb2_1) fun _ =>
        .op (.waitDma2 w3_1 r3_1 ((rlB.slice (Rect.unit (s := S3x8x32x8) ![1, a, 0, 0] S1x4x32x8.size i3_1) e3_1).squeeze S4x32x8 f3_1) ha3_1 hb3_1) fun _ =>
        .op (.waitDma2 w0_2 r0_2 (sB.slice (Rect.unit (s := S8x32x128) ![a, 0, 0] S4x32x128.size i0_2) e0_2) ha0_2 hb0_2) fun _ =>
        .op (.waitDma2 w1_2 r1_2 ((rB.slice (Rect.unit (s := S3x8x32x128) ![2, a, 0, 0] S1x4x32x128.size i1_2) e1_2).squeeze S4x32x128 f1_2) ha1_2 hb1_2) fun _ =>
        .op (.waitDma2 w2_2 r2_2 (lB.slice (Rect.unit (s := S8x32x8) ![a, 0, 0] S4x32x8.size i2_2) e2_2) ha2_2 hb2_2) fun _ =>
        .op (.waitDma2 w3_2 r3_2 ((rlB.slice (Rect.unit (s := S3x8x32x8) ![2, a, 0, 0] S1x4x32x8.size i3_2) e3_2).squeeze S4x32x8 f3_2) ha3_2 hb3_2) fun _ =>
        k) Q) := by
  rw [sPts_thirds, lPts_thirds]
  unfold tri
  iintro ⟨#HI, #Hlev, HO, ⟨H0, H1, H2⟩, G0, G1, G2⟩ HK
  iapply (wp_zwait4 m K g 0 a hg (by decide) hO hw0_0 hw1_0 hw2_0 hw3_0) $$ [HO H0 G0]
  · isplitr; · iexact HI
    isplitr; · iexact Hlev
    isplitl [HO]; · iexact HO
    isplitl [H0] <;> iassumption
  iintro ⟨HO, Z0, S0, T0, R0⟩
  iapply (wp_zwait4 m K g 1 a hg (by decide) hO hw0_1 hw1_1 hw2_1 hw3_1) $$ [HO H1 G1]
  · isplitr; · iexact HI
    isplitr; · iexact Hlev
    isplitl [HO]; · iexact HO
    isplitl [H1] <;> iassumption
  iintro ⟨HO, Z1, S1, T1, R1⟩
  iapply (wp_zwait4 m K g 2 a hg (by decide) hO hw0_2 hw1_2 hw2_2 hw3_2) $$ [HO H2 G2]
  · isplitr; · iexact HI
    isplitr; · iexact Hlev
    isplitl [HO]; · iexact HO
    isplitl [H2] <;> iassumption
  iintro ⟨HO, Z2, S2, T2, R2⟩
  iapply HK
  isplitl [HO]; · iexact HO
  isplitl [Z0 Z1 Z2]
  · isplitl [Z0]; · iexact Z0
    isplitl [Z1] <;> iassumption
  isplitl [S0 S1 S2]
  · isplitl [S0]; · iexact S0
    isplitl [S1] <;> iassumption
  isplitl [T0 T1 T2]
  · isplitl [T0]; · iexact T0
    isplitl [T1] <;> iassumption
  isplitl [R0]; · iexact R0
  isplitl [R1] <;> iassumption

/-- The three copies of group `g` of the own row across `x` and `y`. -/
theorem wp_gsend3 {Q : α → sProp 𝕄} (g : ℕ) (hg : g < 2) {off : Fin 4 → ℕ} (hoff : off = ![c.val / 4, 0, 4 * g, 0])
    {n_0 : Dev nD} {i1_0 e1_0 f1_0 i2_0 e2_0 f2_0} {sS_0 sR_0 : DmaSem sig} {hc_0 ha_0 hb_0 hd_0}
    {n_1 : Dev nD} {i1_1 e1_1 f1_1 i2_1 e2_1 f2_1} {sS_1 sR_1 : DmaSem sig} {hc_1 ha_1 hb_1 hd_1}
    {n_2 : Dev nD} {i1_2 e1_2 f1_2 i2_2 e2_2 f2_2} {sS_2 sR_2 : DmaSem sig} {hc_2 ha_2 hb_2 hd_2}
    {k : Prog (TpuEff nD τ sig (Elt F) Λ₀ .tc) α}
    (hn_0 : n_0 = peer (px 2 0) c) (hS_0 : sS_0 = xsem (6 * 4 + 3 * g + 0)) (hR_0 : sR_0 = xsem (6 * 5 + 3 * g + 0))
    (hn_1 : n_1 = peer (px 2 1) c) (hS_1 : sS_1 = xsem (6 * 4 + 3 * g + 1)) (hR_1 : sR_1 = xsem (6 * 5 + 3 * g + 1))
    (hn_2 : n_2 = peer (px 2 2) c) (hS_2 : sS_2 = xsem (6 * 4 + 3 * g + 2)) (hR_2 : sR_2 = xsem (6 * 5 + 3 * g + 2)) :
    iprop(invs m K ∗ owesAny c (OwD c (6 - 3 * g)) ∗ tri (gs0 (F := F) c g) ∗ oPts m c g)
      ⊢ iprop(((owesAny c (OwD c (3 - 3 * g)) ∗ tri (fun j => xw (F := F) c 4 g j)) -∗ wpc c k Q) -∗ wpc c
        (.op (.enqueueDma ((oB.slice (Rect.unit (s := S4x32x8x128) off S1x32x4x128.size i1_0) e1_0).squeeze S32x4x128 f1_0) (.remote (Dev.tc n_0 : Thread nD τ) ((oB.slice (Rect.unit (s := S4x32x8x128) off S1x32x4x128.size i2_0) e2_0).squeeze S32x4x128 f2_0) (.dma sS_0) hc_0) (.dma sR_0) ha_0 hb_0 hd_0) fun _ =>
        .op (.enqueueDma ((oB.slice (Rect.unit (s := S4x32x8x128) off S1x32x4x128.size i1_1) e1_1).squeeze S32x4x128 f1_1) (.remote (Dev.tc n_1 : Thread nD τ) ((oB.slice (Rect.unit (s := S4x32x8x128) off S1x32x4x128.size i2_1) e2_1).squeeze S32x4x128 f2_1) (.dma sS_1) hc_1) (.dma sR_1) ha_1 hb_1 hd_1) fun _ =>
        .op (.enqueueDma ((oB.slice (Rect.unit (s := S4x32x8x128) off S1x32x4x128.size i1_2) e1_2).squeeze S32x4x128 f1_2) (.remote (Dev.tc n_2 : Thread nD τ) ((oB.slice (Rect.unit (s := S4x32x8x128) off S1x32x4x128.size i2_2) e2_2).squeeze S32x4x128 f2_2) (.dma sS_2) hc_2) (.dma sR_2) ha_2 hb_2 hd_2) fun _ =>
        k) Q) := by
  rw [oPts_thirds]
  unfold tri gs0
  iintro ⟨#HI, HO, ⟨⟨H0, D0⟩, ⟨H1, D1⟩, H2, D2⟩, S0, S1, S2⟩ HK
  ihave HO := (Entails.of_eq (congrArg (owesAny (F := F) c) (ow_g c (j := 0) hg (by decide)))) $$ HO
  iapply (wp_gather m K g 0 hg (by decide) hn_0 hoff hS_0 hR_0) $$ [HO H0 D0 S0]
  · isplitr; · iexact HI
    isplitl [HO]; · iexact HO
    isplitl [H0]; · iexact H0
    isplitl [S0] <;> iassumption
  iintro ⟨HO, H0⟩
  ihave HO := (Entails.of_eq (congrArg (owesAny (F := F) c) ((congrArg (OwD c) (show 5 - (3 * g + 0) = 6 - (3 * g + 1) by omega)).trans (ow_g c (j := 1) hg (by decide))))) $$ HO
  iapply (wp_gather m K g 1 hg (by decide) hn_1 hoff hS_1 hR_1) $$ [HO H1 D1 S1]
  · isplitr; · iexact HI
    isplitl [HO]; · iexact HO
    isplitl [H1]; · iexact H1
    isplitl [S1] <;> iassumption
  iintro ⟨HO, H1⟩
  ihave HO := (Entails.of_eq (congrArg (owesAny (F := F) c) ((congrArg (OwD c) (show 5 - (3 * g + 1) = 6 - (3 * g + 2) by omega)).trans (ow_g c (j := 2) hg (by decide))))) $$ HO
  iapply (wp_gather m K g 2 hg (by decide) hn_2 hoff hS_2 hR_2) $$ [HO H2 D2 S2]
  · isplitr; · iexact HI
    isplitl [HO]; · iexact HO
    isplitl [H2]; · iexact H2
    isplitl [S2] <;> iassumption
  iintro ⟨HO, H2⟩
  ihave HO := (Entails.of_eq (congrArg (owesAny (F := F) c) (congrArg (OwD c) (show 5 - (3 * g + 2) = 3 - 3 * g by omega)))) $$ HO
  iapply HK
  isplitl [HO]; · iexact HO
  isplitl [H0]; · iexact H0
  isplitl [H1] <;> iassumption

/-- The six waits of group `g` across `x` and `y`. -/
theorem wp_gwait6 {Q : α → sProp 𝕄} (g : ℕ) (hg : g < 2) {O : CellTallies nD τ sig Unit} (hO : Above 4 O)
    {p4_0 : Space} {s4_0 : Shape} {t4_0 : EltTy} {r4_0 : Memref sig .tc p4_0 s4_0 t4_0} {o4_0 : Fin 4 → ℕ} {i4_0 e4_0 f4_0 ha4_0 hb4_0} {w4_0 : DmaSem sig}
    {p5_0 : Space} {s5_0 : Shape} {t5_0 : EltTy} {r5_0 : Memref sig .tc p5_0 s5_0 t5_0} {o5_0 : Fin 4 → ℕ} {i5_0 e5_0 f5_0 ha5_0 hb5_0} {w5_0 : DmaSem sig}
    {p4_1 : Space} {s4_1 : Shape} {t4_1 : EltTy} {r4_1 : Memref sig .tc p4_1 s4_1 t4_1} {o4_1 : Fin 4 → ℕ} {i4_1 e4_1 f4_1 ha4_1 hb4_1} {w4_1 : DmaSem sig}
    {p5_1 : Space} {s5_1 : Shape} {t5_1 : EltTy} {r5_1 : Memref sig .tc p5_1 s5_1 t5_1} {o5_1 : Fin 4 → ℕ} {i5_1 e5_1 f5_1 ha5_1 hb5_1} {w5_1 : DmaSem sig}
    {p4_2 : Space} {s4_2 : Shape} {t4_2 : EltTy} {r4_2 : Memref sig .tc p4_2 s4_2 t4_2} {o4_2 : Fin 4 → ℕ} {i4_2 e4_2 f4_2 ha4_2 hb4_2} {w4_2 : DmaSem sig}
    {p5_2 : Space} {s5_2 : Shape} {t5_2 : EltTy} {r5_2 : Memref sig .tc p5_2 s5_2 t5_2} {o5_2 : Fin 4 → ℕ} {i5_2 e5_2 f5_2 ha5_2 hb5_2} {w5_2 : DmaSem sig}
    {k : Prog (TpuEff nD τ sig (Elt F) Λ₀ .tc) α}
    (hw4_0 : w4_0 = xsem (6 * 4 + 3 * g + 0)) (hw5_0 : w5_0 = xsem (6 * 5 + 3 * g + 0))
    (hw4_1 : w4_1 = xsem (6 * 4 + 3 * g + 1)) (hw5_1 : w5_1 = xsem (6 * 5 + 3 * g + 1))
    (hw4_2 : w4_2 = xsem (6 * 4 + 3 * g + 2)) (hw5_2 : w5_2 = xsem (6 * 5 + 3 * g + 2)) :
    iprop(invs m K ∗ levAts L lv ∗ owesAny c O ∗ tri (fun j => xw (F := F) c 4 g j) ∗ tri (fun j => xw (F := F) c 5 g j))
      ⊢ iprop(((owesAny c O ∗ tri (g2 (F := F) c g) ∗ oPts m c g ∗ tri (gr2 m c g)) -∗ wpc c k Q) -∗ wpc c
        (.op (.waitDma2 w4_0 r4_0 ((oB.slice (Rect.unit (s := S4x32x8x128) o4_0 S1x32x4x128.size i4_0) e4_0).squeeze S32x4x128 f4_0) ha4_0 hb4_0) fun _ =>
        .op (.waitDma2 w5_0 r5_0 ((oB.slice (Rect.unit (s := S4x32x8x128) o5_0 S1x32x4x128.size i5_0) e5_0).squeeze S32x4x128 f5_0) ha5_0 hb5_0) fun _ =>
        .op (.waitDma2 w4_1 r4_1 ((oB.slice (Rect.unit (s := S4x32x8x128) o4_1 S1x32x4x128.size i4_1) e4_1).squeeze S32x4x128 f4_1) ha4_1 hb4_1) fun _ =>
        .op (.waitDma2 w5_1 r5_1 ((oB.slice (Rect.unit (s := S4x32x8x128) o5_1 S1x32x4x128.size i5_1) e5_1).squeeze S32x4x128 f5_1) ha5_1 hb5_1) fun _ =>
        .op (.waitDma2 w4_2 r4_2 ((oB.slice (Rect.unit (s := S4x32x8x128) o4_2 S1x32x4x128.size i4_2) e4_2).squeeze S32x4x128 f4_2) ha4_2 hb4_2) fun _ =>
        .op (.waitDma2 w5_2 r5_2 ((oB.slice (Rect.unit (s := S4x32x8x128) o5_2 S1x32x4x128.size i5_2) e5_2).squeeze S32x4x128 f5_2) ha5_2 hb5_2) fun _ =>
        k) Q) := by
  rw [oPts_thirds]
  unfold tri g2
  iintro ⟨#HI, #Hlev, HO, ⟨A0, A1, A2⟩, B0, B1, B2⟩ HK
  iapply (wp_xwait m K 4 g 0 3 (by decide) hg (by decide) hO (by decide) hw4_0 (cr_4 _ _ _ _)) $$ [HO A0]
  · isplitr; · iexact HI
    isplitr; · iexact Hlev
    isplitl [HO] <;> iassumption
  iintro ⟨HO, A0, S0⟩
  iapply (wp_xwait m K 5 g 0 3 (by decide) hg (by decide) hO (by decide) hw5_0 (cr_5 _ _ _ _)) $$ [HO B0]
  · isplitr; · iexact HI
    isplitr; · iexact Hlev
    isplitl [HO] <;> iassumption
  iintro ⟨HO, B0, R0⟩
  iapply (wp_xwait m K 4 g 1 3 (by decide) hg (by decide) hO (by decide) hw4_1 (cr_4 _ _ _ _)) $$ [HO A1]
  · isplitr; · iexact HI
    isplitr; · iexact Hlev
    isplitl [HO] <;> iassumption
  iintro ⟨HO, A1, S1⟩
  iapply (wp_xwait m K 5 g 1 3 (by decide) hg (by decide) hO (by decide) hw5_1 (cr_5 _ _ _ _)) $$ [HO B1]
  · isplitr; · iexact HI
    isplitr; · iexact Hlev
    isplitl [HO] <;> iassumption
  iintro ⟨HO, B1, R1⟩
  iapply (wp_xwait m K 4 g 2 3 (by decide) hg (by decide) hO (by decide) hw4_2 (cr_4 _ _ _ _)) $$ [HO A2]
  · isplitr; · iexact HI
    isplitr; · iexact Hlev
    isplitl [HO] <;> iassumption
  iintro ⟨HO, A2, S2⟩
  iapply (wp_xwait m K 5 g 2 3 (by decide) hg (by decide) hO (by decide) hw5_2 (cr_5 _ _ _ _)) $$ [HO B2]
  · isplitr; · iexact HI
    isplitr; · iexact Hlev
    isplitl [HO] <;> iassumption
  iintro ⟨HO, B2, R2⟩
  iapply HK
  isplitl [HO]; · iexact HO
  isplitl [A0 A1 A2 B0 B1 B2]
  · isplitl [A0 B0]
    · isplitl [A0] <;> iassumption
    isplitl [A1 B1]
    · isplitl [A1] <;> iassumption
    isplitl [A2] <;> iassumption
  isplitl [S0 S1 S2]
  · isplitl [S0]; · iexact S0
    isplitl [S1] <;> iassumption
  unfold gr2
  isplitl [R0]; · iexact R0
  isplitl [R1]; · iexact R1
  iexact R2

end Phase

end Cert.KernelIdeal.Run

end
-- ==== Proof.Run.Heads.lean ====
/-
# Packing a group's sums, adding what the peers sent, and dividing

The steps between the exchanges: a group of weighted sums narrowed into the send buffer; the peers' contributions added to
a group of weighted sums and of weights' sums; and one head's quotient stored into the own row of the result, whose
two-head words are read and written back whole.
-/
module

public import proofs.«01_k».proof.Proof.Run.Phase

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable {c : Dev nD} {α : Type}

omit [FloatOps F] in
theorem sB_acc (r : Rect S8x32x128) : (sB.access r : View sig .tc _ _ _).set = r.set := View.set_slice_whole _ _
omit [FloatOps F] in
theorem oB_acc (r : Rect S4x32x8x128) : (oB.access r : View sig .tc _ _ _).set = r.set := View.set_slice_whole _ _

/-- Indices outside a group's window. -/
theorem win_off {e : ℕ} (g a : ℕ) (ha : a = 4 * g) (inb) (i : (⟨3, ![8, 32, e]⟩ : Shape).Idx)
    (hi : i ∉ (Rect.unit (s := ⟨3, ![8, 32, e]⟩) ![a, 0, 0] (⟨3, ![4, 32, e]⟩ : Shape).size inb).set) : (i 0).val / 4 ≠ g := fun e0 => hi (by
  rw [Rect.mem_set_unit]; intro b
  have h1 := (i 1).isLt; have h2 := (i 2).isLt
  match b with
  | ⟨0, _⟩ => simp; omega
  | ⟨1, _⟩ => simp; exact h1
  | ⟨2, _⟩ => simp; exact h2)

/-- A group's window of the weighted sums. -/
theorem aB_win (g a n : ℕ) (ha : a = 4 * g) (hn : ∀ i < 4, cnt n (4 * g + i) = 4) (inb) :
    aB.view.readAt (Elt F) (Rect.unit (s := S8x32x128) ![a, 0, 0] S4x32x128.size inb).toLoadRect (aC m c n) = aWin m c g := by
  subst ha; funext x
  have h0 : (x 0).val < 4 := (x 0).isLt
  show aVal m c (4 * g + 1 * (x 0).val) (cnt n (4 * g + 1 * (x 0).val)) _ = aVal m c (4 * g + (x 0).val) 4 _
  rw [Nat.one_mul, hn _ h0]
  refine congrArg (aVal m c (4 * g + (x 0).val) 4) (funext fun b => ?_)
  match b with
  | ⟨0, _⟩ => rfl
  | ⟨1, _⟩ => exact Fin.ext (show 0 + 1 * (x 1).val = (x 1).val by omega)
  | ⟨2, _⟩ => exact Fin.ext (show 0 + 1 * (x 2).val = (x 2).val by omega)

/-- Packing: the group's weighted sums, narrowed, into the send buffer. -/
theorem wp_spack {Q : α → sProp 𝕄} (g a n : ℕ) (ha : a = 4 * g) (hn : ∀ i < 4, cnt n (4 * g + i) = 4) {i1 i2 l1 l2 x1 y1}
    {P : Vec F S4x32x128 .f32 → FVec F S4x32x128 .bf16} (hP : ∀ v, P v = k0_pay68 v)
    {k : Prog (TpuEff nD τ sig (Elt F) Λ₀ .tc) α} :
    iprop(aPts m c n ∗ (∃ f, lcS c ↦[sSet g]{fullShare} f))
      ⊢ iprop(((aPts m c n ∗ sPts m c g) -∗ wpc c k Q)
      -∗ wpc c (.op (.load aB (Rect.unit (s := S8x32x128) ![a, 0, 0] S4x32x128.size i1).toLoadRect l1) fun v =>
          .op (.load sB (Rect.unit (s := S8x32x128) ![a, 0, 0] S4x32x128.size i2).toLoadRect l2) fun _ =>
          .op (.store sB (Rect.unit (s := S8x32x128) ![a, 0, 0] S4x32x128.size i2) (P v) Finset.univ x1 y1) fun _ => k) Q) := by
  unfold aPts sPts
  iintro ⟨Ha, ⟨%f, Hs⟩⟩ HK
  iapply (wp_ld (m := aB) (aWin m c g) (Finset.subset_univ _) (aB_win m g a n ha hn i1)) $$ Ha; iintro Ha
  iapply (wp_ld (m := sB) (S := sSet g) _ ((le_of_eq (whole_setOn _ _)).trans (le_of_eq (sSet_rect g a ha i2))) rfl) $$ Hs; iintro Hs
  iapply (wp_st (c := c) (m := sB) (r := Rect.unit (s := S8x32x128) ![a, 0, 0] S4x32x128.size i2) (S := sSet g) (f := f) (sC m c)
    ((le_of_eq (sB_acc _)).trans (le_of_eq (sSet_rect g a ha i2))) ?_ ?_) $$ Hs
  · rw [hP]; subst ha; funext x
    have h0 : (x 0).val < 4 := (x 0).isLt
    show k0_pay68 (aWin m c ((4 * g + 1 * (x 0).val) / 4)) (ix3 _ _ _) = k0_pay68 (aWin m c g) x
    rw [show (4 * g + 1 * (x 0).val) / 4 = g by omega]
    refine congrArg (k0_pay68 (aWin m c g)) (funext fun b => ?_)
    match b with
    | ⟨0, _⟩ => exact Fin.ext (show (4 * g + 1 * (x 0).val) % 4 = (x 0).val by omega)
    | ⟨1, _⟩ => exact Fin.ext (show 0 + 1 * (x 1).val = (x 1).val by omega)
    | ⟨2, _⟩ => exact Fin.ext (show 0 + 1 * (x 2).val = (x 2).val by omega)
  · intro i hi hm
    exact absurd (Finset.mem_filter.1 hi).2 (win_off g a ha i2 i (fun h => hm (by rw [sB_acc]; exact h)))
  iintro Hs
  iapply HK
  isplitl [Ha] <;> iassumption

/-- The accumulators with groups below `g` summed. -/
def afPts (c : Dev nD) (g : ℕ) : sProp 𝕄 := lcA c ↦{fullShare} aF m c g
def lfPts (c : Dev nD) (g : ℕ) : sProp 𝕄 := lcL c ↦[lSet g]{fullShare} lF m c

theorem afPts_zero : aPts m c 32 = afPts m c 0 := by
  unfold aPts afPts
  refine congrArg (fun f => (lcA c ↦{fullShare} f : sProp 𝕄)) (funext fun i => ?_)
  exact (if_neg (Nat.not_lt_zero _)).symm

theorem aF_win (g a : ℕ) (ha : a = 4 * g) (hg : g < 2) (inb) :
    aB.view.readAt (Elt F) (Rect.unit (s := S8x32x128) ![a, 0, 0] S4x32x128.size inb).toLoadRect (aF m c g) = aWin m c g := by
  have hn : ∀ i < 4, cnt 32 (4 * g + i) = 4 := by revert g; intro g _ hg; interval_cases g <;> decide
  refine Eq.trans ?_ (aB_win m g a 32 ha hn inb)
  subst ha; funext x
  have h0 : (x 0).val < 4 := (x 0).isLt
  exact if_neg (show ¬ (4 * g + 1 * (x 0).val) / 4 < g by omega)

theorem rB_win (g a : ℕ) (j : Fin 3) (ha : a = 4 * g) (inb) :
    rB.view.readAt (Elt F) (Rect.unit (s := S3x8x32x128) ![j.val, a, 0, 0] S1x4x32x128.size inb).toLoadRect (rC m c) = rWin m c g j := by
  subst ha; funext x
  have h0 : (x 0).val = 0 := by have : (x 0).val < 1 := (x 0).isLt; omega
  have h1 : (x 1).val < 4 := (x 1).isLt
  have he : ∀ (z : Fin 3) (p : Vec F S4x32x128 .f32) (y y' : S4x32x128.Idx), z = j → p = aWin m (peer (zp j) c) g → y = y' →
      k0_pay68 p y = k0_pay68 (aWin m (peer (zp j) c) g) y' := fun z p y y' _ hp hy => by rw [hp, hy]
  have hz : (⟨j.val + 1 * (x 0).val, by have := j.isLt; omega⟩ : Fin 3) = j := Fin.ext (show j.val + 1 * (x 0).val = j.val by omega)
  show k0_pay68 (aWin m (peer (zp ⟨j.val + 1 * (x 0).val, _⟩) c) ((4 * g + 1 * (x 1).val) / 4)) (ix3 _ _ _) = _
  refine he j _ _ _ rfl (by rw [hz, show (4 * g + 1 * (x 1).val) / 4 = g by omega]) (funext fun b => ?_)
  match b with
  | ⟨0, _⟩ => exact Fin.ext (show (4 * g + 1 * (x 1).val) % 4 = (x 1).val by omega)
  | ⟨1, _⟩ => exact Fin.ext (show 0 + 1 * (x 2).val = (x 2).val by omega)
  | ⟨2, _⟩ => exact Fin.ext (show 0 + 1 * (x 3).val = (x 3).val by omega)

theorem cnt_full : ∀ h < 8, cnt 32 h = 4 := by decide

theorem rlB_win (g a : ℕ) (j : Fin 3) (ha : a = 4 * g) (hg : g < 2) (inb) :
    rlB.view.readAt (Elt F) (Rect.unit (s := S3x8x32x8) ![j.val, a, 0, 0] S1x4x32x8.size inb).toLoadRect (rlC m c) = rlWin m c g j := by
  subst ha; funext x
  have h0 : (x 0).val = 0 := by have : (x 0).val < 1 := (x 0).isLt; omega
  have h1 : (x 1).val < 4 := (x 1).isLt
  have hz : (⟨j.val + 1 * (x 0).val, by have := j.isLt; omega⟩ : Fin 3) = j := Fin.ext (show j.val + 1 * (x 0).val = j.val by omega)
  show lVal m (peer (zp ⟨j.val + 1 * (x 0).val, _⟩) c) (4 * g + 1 * (x 1).val) (cnt 32 (4 * g + 1 * (x 1).val)) (ix3 _ _ _) = lVal m (peer (zp j) c) (4 * g + (x 1).val) 4 _
  rw [hz, Nat.one_mul, cnt_full _ (by omega)]
  refine congrArg (lVal m (peer (zp j) c) (4 * g + (x 1).val) 4) (funext fun b => ?_)
  match b with
  | ⟨0, _⟩ => rfl
  | ⟨1, _⟩ => exact Fin.ext (show 0 + 1 * (x 2).val = (x 2).val by omega)
  | ⟨2, _⟩ => exact Fin.ext (show 0 + 1 * (x 3).val = (x 3).val by omega)

theorem lB_win (g a : ℕ) (ha : a = 4 * g) (hg : g < 2) (inb) :
    lB.view.readAt (Elt F) (Rect.unit (s := S8x32x8) ![a, 0, 0] S4x32x8.size inb).toLoadRect (lC m c 32) = lWin m c g := by
  subst ha; funext x
  have h0 : (x 0).val < 4 := (x 0).isLt
  show lVal m c (4 * g + 1 * (x 0).val) (cnt 32 (4 * g + 1 * (x 0).val)) _ = lVal m c (4 * g + (x 0).val) 4 _
  rw [Nat.one_mul, cnt_full _ (by omega)]
  refine congrArg (lVal m c (4 * g + (x 0).val) 4) (funext fun b => ?_)
  match b with
  | ⟨0, _⟩ => rfl
  | ⟨1, _⟩ => exact Fin.ext (show 0 + 1 * (x 1).val = (x 1).val by omega)
  | ⟨2, _⟩ => exact Fin.ext (show 0 + 1 * (x 2).val = (x 2).val by omega)

/-- Adding the peers' weighted sums to a group's. -/
theorem wp_asum {Q : α → sProp 𝕄} (g a : ℕ) (ha : a = 4 * g) (hg : g < 2) {i1 i2 i3 i4 i5 l1 l2 l3 l4 l5 x1 y1}
    {P : Vec F S4x32x128 .f32 → Vec F S1x4x32x128 .bf16 → Vec F S1x4x32x128 .bf16 → Vec F S1x4x32x128 .bf16 → FVec F S4x32x128 .f32}
    (hP : ∀ v r0 r1 r2, P v r0 r1 r2 = k0_pay133 v r0 r1 r2)
    {k : Prog (TpuEff nD τ sig (Elt F) Λ₀ .tc) α} :
    iprop(afPts m c g ∗ tri (zr2 m c g))
      ⊢ iprop(((afPts m c (g + 1) ∗ tri (zr2 m c g)) -∗ wpc c k Q)
      -∗ wpc c (.op (.load aB (Rect.unit (s := S8x32x128) ![a, 0, 0] S4x32x128.size i1).toLoadRect l1) fun v =>
          .op (.load rB (Rect.unit (s := S3x8x32x128) ![0, a, 0, 0] S1x4x32x128.size i2).toLoadRect l2) fun r0 =>
          .op (.load rB (Rect.unit (s := S3x8x32x128) ![1, a, 0, 0] S1x4x32x128.size i3).toLoadRect l3) fun r1 =>
          .op (.load rB (Rect.unit (s := S3x8x32x128) ![2, a, 0, 0] S1x4x32x128.size i4).toLoadRect l4) fun r2 =>
          .op (.load aB (Rect.unit (s := S8x32x128) ![a, 0, 0] S4x32x128.size i5).toLoadRect l5) fun _ =>
          .op (.store aB (Rect.unit (s := S8x32x128) ![a, 0, 0] S4x32x128.size i5) (P v r0 r1 r2) Finset.univ x1 y1) fun _ => k) Q) := by
  unfold afPts tri
  rw [zr2_eq, zr2_eq, zr2_eq]
  iintro ⟨Ha, ⟨H0, H0'⟩, ⟨H1, H1'⟩, ⟨H2, H2'⟩⟩ HK
  iapply (wp_ld (m := aB) (aWin m c g) (Finset.subset_univ _) (aF_win m g a ha hg i1)) $$ Ha; iintro Ha
  iapply (wp_ld (m := rB) (S := rSet 0 g) (rWin m c g 0) ((le_of_eq (whole_setOn _ _)).trans (le_of_eq (rSet_rect 0 g a ha i2))) (rB_win m g a 0 ha i2)) $$ H0; iintro H0
  iapply (wp_ld (m := rB) (S := rSet 1 g) (rWin m c g 1) ((le_of_eq (whole_setOn _ _)).trans (le_of_eq (rSet_rect 1 g a ha i3))) (rB_win m g a 1 ha i3)) $$ H1; iintro H1
  iapply (wp_ld (m := rB) (S := rSet 2 g) (rWin m c g 2) ((le_of_eq (whole_setOn _ _)).trans (le_of_eq (rSet_rect 2 g a ha i4))) (rB_win m g a 2 ha i4)) $$ H2; iintro H2
  iapply (wp_ld (m := aB) (aWin m c g) (Finset.subset_univ _) (aF_win m g a ha hg i5)) $$ Ha; iintro Ha
  iapply (wp_st (c := c) (m := aB) (r := Rect.unit (s := S8x32x128) ![a, 0, 0] S4x32x128.size i5) (S := Finset.univ) (f := aF m c g) (aF m c (g + 1))
    (Finset.subset_univ _) ?_ ?_) $$ Ha
  · rw [hP]; subst ha; funext x
    have h0 : (x 0).val < 4 := (x 0).isLt
    show (if (4 * g + 1 * (x 0).val) / 4 < g + 1 then aSum m c ((4 * g + 1 * (x 0).val) / 4) (ix3 _ _ _) else _) = aSum m c g x
    rw [if_pos (by omega), show (4 * g + 1 * (x 0).val) / 4 = g by omega]
    refine congrArg (aSum m c g) (funext fun b => ?_)
    match b with
    | ⟨0, _⟩ => exact Fin.ext (show (4 * g + 1 * (x 0).val) % 4 = (x 0).val by omega)
    | ⟨1, _⟩ => exact Fin.ext (show 0 + 1 * (x 1).val = (x 1).val by omega)
    | ⟨2, _⟩ => exact Fin.ext (show 0 + 1 * (x 2).val = (x 2).val by omega)
  · intro i _ hm
    have h0 := win_off g a ha i5 i (fun h => hm (by rw [aB_acc]; exact h))
    show (if (i 0).val / 4 < g then _ else _) = (if (i 0).val / 4 < g + 1 then _ else _)
    by_cases h : (i 0).val / 4 < g
    · rw [if_pos h, if_pos (by omega)]
    · rw [if_neg h, if_neg (by omega)]
  iintro Ha
  iapply HK
  isplitl [Ha]; · iexact Ha
  isplitl [H0 H0']; · isplitl [H0] <;> iassumption
  isplitl [H1 H1']; · isplitl [H1] <;> iassumption
  isplitl [H2] <;> iassumption

/-- Adding the peers' weights' sums to a group's. -/
theorem wp_lsum {Q : α → sProp 𝕄} (g a : ℕ) (ha : a = 4 * g) (hg : g < 2) {i1 i2 i3 i4 i5 l1 l2 l3 l4 l5 x1 y1}
    {P : Vec F S4x32x8 .f32 → Vec F S1x4x32x8 .f32 → Vec F S1x4x32x8 .f32 → Vec F S1x4x32x8 .f32 → FVec F S4x32x8 .f32}
    (hP : ∀ v r0 r1 r2, P v r0 r1 r2 = k0_pay135 (k0_pay134 v r0 r1) r2)
    {k : Prog (TpuEff nD τ sig (Elt F) Λ₀ .tc) α} :
    iprop(lPts m c g 32 ∗ tri (zr2 m c g))
      ⊢ iprop(((lfPts m c g ∗ tri (zr2 m c g)) -∗ wpc c k Q)
      -∗ wpc c (.op (.load lB (Rect.unit (s := S8x32x8) ![a, 0, 0] S4x32x8.size i1).toLoadRect l1) fun v =>
          .op (.load rlB (Rect.unit (s := S3x8x32x8) ![0, a, 0, 0] S1x4x32x8.size i2).toLoadRect l2) fun r0 =>
          .op (.load rlB (Rect.unit (s := S3x8x32x8) ![1, a, 0, 0] S1x4x32x8.size i3).toLoadRect l3) fun r1 =>
          .op (.load rlB (Rect.unit (s := S3x8x32x8) ![2, a, 0, 0] S1x4x32x8.size i4).toLoadRect l4) fun r2 =>
          .op (.load lB (Rect.unit (s := S8x32x8) ![a, 0, 0] S4x32x8.size i5).toLoadRect l5) fun _ =>
          .op (.store lB (Rect.unit (s := S8x32x8) ![a, 0, 0] S4x32x8.size i5) (P v r0 r1 r2) Finset.univ x1 y1) fun _ => k) Q) := by
  unfold lPts lfPts tri
  rw [zr2_eq, zr2_eq, zr2_eq]
  iintro ⟨Ha, ⟨H0', H0⟩, ⟨H1', H1⟩, ⟨H2', H2⟩⟩ HK
  iapply (wp_ld (m := lB) (S := lSet g) (lWin m c g) ((le_of_eq (whole_setOn _ _)).trans (le_of_eq (lSet_rect g a ha i1))) (lB_win m g a ha hg i1)) $$ Ha; iintro Ha
  iapply (wp_ld (m := rlB) (S := rlSet 0 g) (rlWin m c g 0) ((le_of_eq (whole_setOn _ _)).trans (le_of_eq (rlSet_rect 0 g a ha i2))) (rlB_win m g a 0 ha hg i2)) $$ H0; iintro H0
  iapply (wp_ld (m := rlB) (S := rlSet 1 g) (rlWin m c g 1) ((le_of_eq (whole_setOn _ _)).trans (le_of_eq (rlSet_rect 1 g a ha i3))) (rlB_win m g a 1 ha hg i3)) $$ H1; iintro H1
  iapply (wp_ld (m := rlB) (S := rlSet 2 g) (rlWin m c g 2) ((le_of_eq (whole_setOn _ _)).trans (le_of_eq (rlSet_rect 2 g a ha i4))) (rlB_win m g a 2 ha hg i4)) $$ H2; iintro H2
  iapply (wp_ld (m := lB) (S := lSet g) (lWin m c g) ((le_of_eq (whole_setOn _ _)).trans (le_of_eq (lSet_rect g a ha i5))) (lB_win m g a ha hg i5)) $$ Ha; iintro Ha
  iapply (wp_st (c := c) (m := lB) (r := Rect.unit (s := S8x32x8) ![a, 0, 0] S4x32x8.size i5) (S := lSet g) (f := lC m c 32) (lF m c)
    ((le_of_eq (lB_acc _)).trans (le_of_eq (lSet_rect g a ha i5))) ?_ ?_) $$ Ha
  · rw [hP]; subst ha; funext x
    have h0 : (x 0).val < 4 := (x 0).isLt
    show lSum m c ((4 * g + 1 * (x 0).val) / 4) (ix3 _ _ _) = lSum m c g x
    rw [show (4 * g + 1 * (x 0).val) / 4 = g by omega]
    refine congrArg (lSum m c g) (funext fun b => ?_)
    match b with
    | ⟨0, _⟩ => exact Fin.ext (show (4 * g + 1 * (x 0).val) % 4 = (x 0).val by omega)
    | ⟨1, _⟩ => exact Fin.ext (show 0 + 1 * (x 1).val = (x 1).val by omega)
    | ⟨2, _⟩ => exact Fin.ext (show 0 + 1 * (x 2).val = (x 2).val by omega)
  · intro i hi hm
    exact absurd (Finset.mem_filter.1 hi).2 (win_off g a ha i5 i (fun h => hm (by rw [lB_acc]; exact h)))
  iintro Ha
  iapply HK
  isplitl [Ha]; · iexact Ha
  isplitl [H0 H0']; · isplitl [H0'] <;> iassumption
  isplitl [H1 H1']; · isplitl [H1'] <;> iassumption
  isplitl [H2'] <;> iassumption

/-- The own row of the result once the heads below `n` are stored. -/
def oPart (c : Dev nD) (g n : ℕ) : sProp 𝕄 :=
  iprop(∃ f, ⌜∀ i ∈ oSet (c.val / 4) g, (i 2).val < n → f i = oC m c i⌝ ∗ (lcO c ↦[oSet (c.val / 4) g]{fullShare} f))

theorem oPart_start (g : ℕ) : iprop(∃ f, lcO c ↦[oSet (c.val / 4) g]{fullShare} f) ⊢ oPart m c g (4 * g) := by
  unfold oPart
  iintro ⟨%f, H⟩
  iexists f
  isplitr
  · ipureintro
    intro i hi h
    have := (Finset.mem_filter.1 hi).2.2
    omega
  iexact H

theorem oPart_end (g : ℕ) : oPart m c g (4 * g + 4) ⊢ oPts m c g := by
  unfold oPart oPts
  iintro ⟨%f, %hf, H⟩
  iapply (Entails.of_eq (pointsTo_congr (f := f) (g := oC m c) fun i hi => hf i hi (by
    have := (Finset.mem_filter.1 hi).2.2
    omega)))
  iexact H

set_option backward.proofsInPublic true in
theorem devOf_self (c : Dev nD) : devOf (c.val / 4) (c.val % 4) = c := by revert c; decide

/-- One head's quotient stored into the own row. -/
theorem wp_head {Q : α → sProp 𝕄} (h g : ℕ) (hh : h < 8) (hg : g = h / 4) {off1 off2 : Fin 4 → ℕ}
    (ho1 : off1 = ![c.val / 4, 0, h, 0]) (ho2 : off2 = ![c.val / 4, 0, 2 * (h / 2), 0]) {i1 i2 i3 i4 l1 l2 l3 l4 x1 y1}
    {W : Vec F S1x32x8 .f32 → Vec F S1x32x128 .f32 → Vec F S1x32x2x128 .bf16 → Vec F S1x32x2x128 .bf16}
    {P : Vec F S1x32x8 .f32 → Vec F S1x32x128 .f32 → FVec F S1x32x1x128 .bf16}
    {off3 : Fin 4 → ℕ} (ho3 : off3 = ![0, 0, h % 2, 0]) {hsl : S1x32x2x128.Slices off3 S1x32x1x128}
    (hW : ∀ l a old, W l a old = updateSlice old (P l a) off3 hsl) (hP : ∀ l a, P l a = k0_pay136 l a)
    {k : Prog (TpuEff nD τ sig (Elt F) Λ₀ .tc) α} :
    iprop(lfPts m c g ∗ afPts m c (g + 1) ∗ oPart m c g h)
      ⊢ iprop(((lfPts m c g ∗ afPts m c (g + 1) ∗ oPart m c g (h + 1)) -∗ wpc c k Q)
      -∗ wpc c (.op (.load lB (Rect.unit (s := S8x32x8) ![h, 0, 0] S1x32x8.size i1).toLoadRect l1) fun l =>
          .op (.load aB (Rect.unit (s := S8x32x128) ![h, 0, 0] S1x32x128.size i2).toLoadRect l2) fun a =>
          .op (.load oB (Rect.unit (s := S4x32x8x128) off1 S1x32x1x128.size i3).toLoadRect l3) fun _ =>
          .op (.load oB (Rect.unit (s := S4x32x8x128) off2 S1x32x2x128.size i4).toLoadRect l4) fun old =>
          .op (.store oB (Rect.unit (s := S4x32x8x128) off2 S1x32x2x128.size i4) (W l a old) Finset.univ x1 y1) fun _ => k) Q) := by
  subst ho1 ho2 ho3
  have eL : lB.view.readAt (Elt F) (Rect.unit (s := S8x32x8) ![h, 0, 0] S1x32x8.size i1).toLoadRect (lF m c) = lRow m c h := by
    funext x
    have h0 : (x 0).val = 0 := by have : (x 0).val < 1 := (x 0).isLt; omega
    show lSum m c ((h + 1 * (x 0).val) / 4) (ix3 _ _ _) = lSum m c (h / 4) _
    rw [h0, Nat.mul_zero, Nat.add_zero]
    refine congrArg (lSum m c (h / 4)) (funext fun b => ?_)
    match b with
    | ⟨0, _⟩ => exact Fin.ext (show (h + 1 * (x 0).val) % 4 = h % 4 by omega)
    | ⟨1, _⟩ => exact Fin.ext (show 0 + 1 * (x 1).val = (x 1).val by omega)
    | ⟨2, _⟩ => exact Fin.ext (show 0 + 1 * (x 2).val = (x 2).val by omega)
  have eA : aB.view.readAt (Elt F) (Rect.unit (s := S8x32x128) ![h, 0, 0] S1x32x128.size i2).toLoadRect (aF m c (g + 1)) = aRow m c h := by
    funext x
    have h0 : (x 0).val = 0 := by have : (x 0).val < 1 := (x 0).isLt; omega
    show (if (h + 1 * (x 0).val) / 4 < g + 1 then aSum m c ((h + 1 * (x 0).val) / 4) (ix3 _ _ _) else _) = aSum m c (h / 4) _
    rw [if_pos (by omega), h0, Nat.mul_zero, Nat.add_zero]
    refine congrArg (aSum m c (h / 4)) (funext fun b => ?_)
    match b with
    | ⟨0, _⟩ => exact Fin.ext (show (h + 1 * (x 0).val) % 4 = h % 4 by omega)
    | ⟨1, _⟩ => exact Fin.ext (show 0 + 1 * (x 1).val = (x 1).val by omega)
    | ⟨2, _⟩ => exact Fin.ext (show 0 + 1 * (x 2).val = (x 2).val by omega)
  have sL : (Rect.unit (s := S8x32x8) ![h, 0, 0] S1x32x8.size i1).set ⊆ lSet g := fun i hi => by
    have h0 := Rect.mem_set_unit.1 hi 0
    simp at h0
    exact Finset.mem_filter.2 ⟨Finset.mem_univ _, by omega⟩
  have sO1 : (Rect.unit (s := S4x32x8x128) ![c.val / 4, 0, h, 0] S1x32x1x128.size i3).set ⊆ oSet (c.val / 4) g := fun i hi => by
    have h0 := Rect.mem_set_unit.1 hi 0
    have h2 := Rect.mem_set_unit.1 hi 2
    simp at h0 h2
    exact Finset.mem_filter.2 ⟨Finset.mem_univ _, by omega, by omega⟩
  have sO2 : (Rect.unit (s := S4x32x8x128) ![c.val / 4, 0, 2 * (h / 2), 0] S1x32x2x128.size i4).set ⊆ oSet (c.val / 4) g := fun i hi => by
    have h0 := Rect.mem_set_unit.1 hi 0
    have h2 := Rect.mem_set_unit.1 hi 2
    simp at h0 h2
    exact Finset.mem_filter.2 ⟨Finset.mem_univ _, by omega, by omega⟩
  unfold lfPts afPts oPart
  iintro ⟨Hl, Ha, %f, %hf, Ho⟩ HK
  iapply (wp_ld (m := lB) (S := lSet g) (lRow m c h) ((le_of_eq (whole_setOn _ _)).trans sL) eL) $$ Hl; iintro Hl
  iapply (wp_ld (m := aB) (aRow m c h) (Finset.subset_univ _) eA) $$ Ha; iintro Ha
  iapply (wp_ld (m := oB) (S := oSet (c.val / 4) g) _ ((le_of_eq (whole_setOn _ _)).trans sO1) rfl) $$ Ho; iintro Ho
  iapply (wp_ld (m := oB) (S := oSet (c.val / 4) g) _ ((le_of_eq (whole_setOn _ _)).trans sO2) rfl) $$ Ho; iintro Ho
  iapply (wp_st (c := c) (m := oB) (r := Rect.unit (s := S4x32x8x128) ![c.val / 4, 0, 2 * (h / 2), 0] S1x32x2x128.size i4) (S := oSet (c.val / 4) g) (f := f)
    (fun i : S4x32x8x128.Idx => if (i 2).val = h then oC m c i else f i) ((le_of_eq (oB_acc _)).trans sO2) ?_ ?_) $$ Ho
  · rw [hW, hP]; funext x
    have h0 : (x 0).val = 0 := by have : (x 0).val < 1 := (x 0).isLt; omega
    have h2 : (x 2).val < 2 := (x 2).isLt
    have h1 : (x 1).val < 32 := (x 1).isLt
    have h3 : (x 3).val < 128 := (x 3).isLt
    show (if 2 * (h / 2) + 1 * (x 2).val = h then oVec m (devOf (c.val / 4 + 1 * (x 0).val) (c.val % 4)) (2 * (h / 2) + 1 * (x 2).val) (ix4 0 _ 0 _) else _) = _
    unfold updateSlice
    by_cases he : (x 2).val = h % 2
    · rw [if_pos (by omega), dif_pos (by
        intro a
        match a with
        | ⟨0, _⟩ => exact ⟨Nat.zero_le _, by show (x 0).val < 0 + 1; omega⟩
        | ⟨1, _⟩ => exact ⟨Nat.zero_le _, by show (x 1).val < 0 + 32; omega⟩
        | ⟨2, _⟩ => exact ⟨by show h % 2 ≤ (x 2).val; omega, by show (x 2).val < h % 2 + 1; omega⟩
        | ⟨3, _⟩ => exact ⟨Nat.zero_le _, by show (x 3).val < 0 + 128; omega⟩)]
      have hv : ∀ (d d' : Dev nD) (n n' : ℕ) (y y' : S1x32x1x128.Idx), d = d' → n = n' → y = y' → oVec m d n y = oVec m d' n' y' :=
        fun d d' n n' y y' e1 e2 e3 => by rw [e1, e2, e3]
      refine hv _ c _ h _ _ ((congrArg (fun b => devOf b (c.val % 4)) (show c.val / 4 + 1 * (x 0).val = c.val / 4 by omega)).trans (devOf_self c)) (by omega) (funext fun b => ?_)
      match b with
      | ⟨0, _⟩ => exact Fin.ext (show 0 = (x 0).val - 0 by omega)
      | ⟨1, _⟩ => exact Fin.ext (show 0 + 1 * (x 1).val = (x 1).val - 0 by omega)
      | ⟨2, _⟩ => exact Fin.ext (show 0 = (x 2).val - h % 2 by omega)
      | ⟨3, _⟩ => exact Fin.ext (show 0 + 1 * (x 3).val = (x 3).val - 0 by omega)
    · rw [if_neg (by omega), dif_neg (by
        intro hall
        have := hall 2
        have ha : h % 2 ≤ (x 2).val := this.1
        have hb : (x 2).val < h % 2 + 1 := this.2
        omega)]
      rfl
  · intro i hi hm
    have hb := (Finset.mem_filter.1 hi).2.1
    refine (if_neg fun e => hm ?_).symm
    rw [oB_acc, Rect.mem_set_unit]; intro a
    have h1 := (i 1).isLt; have h3 := (i 3).isLt
    match a with
    | ⟨0, _⟩ => simp; omega
    | ⟨1, _⟩ => simp; exact h1
    | ⟨2, _⟩ => simp; omega
    | ⟨3, _⟩ => simp; exact h3
  iintro Ho
  iapply HK
  isplitl [Hl]; · iexact Hl
  isplitl [Ha]; · iexact Ha
  iexists _
  isplitr
  · ipureintro
    show ∀ i ∈ oSet (c.val / 4) g, (i 2).val < h + 1 → (if (i 2).val = h then oC m c i else f i) = oC m c i
    intro i hi hlt
    by_cases e : (i 2).val = h
    · rw [if_pos e]
    · rw [if_neg e]; exact hf i hi (by omega)
  iexact Ho

/-- Between the groups: group 0's sums are complete after 16 blocks, and group 1's have not begun. -/
theorem cnt_low : ∀ h < 4, cnt 16 h = cnt 32 h := by decide
theorem cnt_high : ∀ h < 8, 4 ≤ h → cnt 0 h = cnt 16 h := by decide

theorem lPts_low : lPts m c 0 16 = lPts m c 0 32 := by
  unfold lPts
  refine pointsTo_congr fun i hi => ?_
  have := (Finset.mem_filter.1 hi).2
  show lVal m c (i 0).val (cnt 16 (i 0).val) _ = lVal m c (i 0).val (cnt 32 (i 0).val) _
  rw [cnt_low _ (by omega)]

theorem lPts_high : lPts m c 1 0 = lPts m c 1 16 := by
  unfold lPts
  refine pointsTo_congr fun i hi => ?_
  have := (Finset.mem_filter.1 hi).2
  show lVal m c (i 0).val (cnt 0 (i 0).val) _ = lVal m c (i 0).val (cnt 16 (i 0).val) _
  rw [cnt_high _ (i 0).isLt (by omega)]

end Cert.KernelIdeal.Run

end
-- ==== Proof.Run.Ends.lean ====
/-
# The body's first and last steps, and the four blocks of a stage

The query row is scaled into its buffer and the two accumulators are cleared; at the end the gathered result is widened into
the output window. A stage's four blocks are the one block at its four heads.
-/
module

public import proofs.«01_k».proof.Proof.Run.Heads

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable {c : Dev nD} {α : Type}

abbrev lcQ (c : Dev nD) : Loc nD τ sig := (c : Thread nD τ).loc cc0_stg0_0
abbrev lcOut (c : Dev nD) : Loc nD τ sig := (c : Thread nD τ).loc cc0_stg1_0

theorem off_z3 : (![0, 0, 0] : Fin 3 → ℕ) = fun _ => 0 := funext fun a => by fin_cases a <;> rfl
theorem off_z4 : (![0, 0, 0, 0] : Fin 4 → ℕ) = fun _ => 0 := funext fun a => by fin_cases a <;> rfl

omit [FloatOps F] in
/-- The two groups' sets make up the sums' buffer. -/
theorem l_split (f : Buf (Elt F) (lcL c)) :
    (lcL c ↦{fullShare} f : sProp 𝕄) ⊣⊢ iprop((lcL c ↦[lSet 0]{fullShare} f) ∗ (lcL c ↦[lSet 1]{fullShare} f)) := by
  have hd : Disjoint (lSet 0) (lSet 1) := Finset.disjoint_left.2 fun i h h' => by
    have h0 := (Finset.mem_filter.1 h).2; have h1 := (Finset.mem_filter.1 h').2; omega
  have hu : (Finset.univ : Finset S8x32x8.Idx) = lSet 0 ∪ lSet 1 := by
    ext i
    have h0 : (i 0).val < 8 := (i 0).isLt
    simp only [Finset.mem_univ, Finset.mem_union, lSet, Finset.mem_filter, true_and, true_iff]
    omega
  show (lcL c ↦[(Finset.univ : Finset S8x32x8.Idx)]{fullShare} f : sProp 𝕄) ⊣⊢ _
  rw [hu]
  exact pointsTo_union hd

/-- The query row scaled and stored, the accumulators cleared. -/
theorem wp_init {Q : α → sProp 𝕄} {off : Fin 4 → ℕ} (hoff : off = ![c.val / 4, 0, 0, 0]) {i0 i1 i2 i3 i4 i5 i6 l0 l1 l2 l3 x1 y1 x2 y2 x3 y3}
    {P : Vec F S1x32x8x128 .f32 → FVec F S32x8x128 .bf16} {PA : FVec F S8x32x128 .f32} {PL : FVec F S8x32x8 .f32}
    (hP : ∀ v, P v = k0_pay3 (k0_pay2 v)) (hPA : PA = k0_pay4) (hPL : PL = k0_pay5)
    {k : Prog (TpuEff nD τ sig (Elt F) Λ₀ .tc) α} :
    iprop((lcQ c ↦{fullShare} Qm m c) ∗ (∃ f, lcQb c ↦{fullShare} f) ∗ (∃ f, lcA c ↦{fullShare} f) ∗ (∃ f, lcL c ↦{fullShare} f))
      ⊢ iprop((((lcQ c ↦{fullShare} Qm m c) ∗ qPts m c ∗ aPts m c 0 ∗ lPts m c 0 0 ∗ lPts m c 1 0) -∗ wpc c k Q)
      -∗ wpc c (.op (.load qM (Rect.unit (s := S4x32x8x128) off S1x32x8x128.size i0).toLoadRect l0) fun v =>
          .op (.load qB (Rect.unit (s := S32x8x128) ![0, 0, 0] S32x8x128.size i1).toLoadRect l1) fun _ =>
          .op (.store qB (Rect.unit (s := S32x8x128) ![0, 0, 0] S32x8x128.size i2) (P v) Finset.univ x1 y1) fun _ =>
          .op (.load aB (Rect.unit (s := S8x32x128) ![0, 0, 0] S8x32x128.size i3).toLoadRect l2) fun _ =>
          .op (.store aB (Rect.unit (s := S8x32x128) ![0, 0, 0] S8x32x128.size i4) PA Finset.univ x2 y2) fun _ =>
          .op (.load lB (Rect.unit (s := S8x32x8) ![0, 0, 0] S8x32x8.size i5).toLoadRect l3) fun _ =>
          .op (.store lB (Rect.unit (s := S8x32x8) ![0, 0, 0] S8x32x8.size i6) PL Finset.univ x3 y3) fun _ => k) Q) := by
  subst hoff hPA hPL
  have hc : c.val < 16 := c.isLt
  have eQ : qM.view.readAt (Elt F) (Rect.unit (s := S4x32x8x128) ![c.val / 4, 0, 0, 0] S1x32x8x128.size i0).toLoadRect (Qm m c) = qRow m c := by
    funext x
    have h0 : (x 0).val = 0 := by have : (x 0).val < 1 := (x 0).isLt; omega
    refine congrArg (Qm m c) (funext fun a => ?_)
    match a with
    | ⟨0, _⟩ => exact Fin.ext (show c.val / 4 + 1 * (x 0).val = c.val / 4 % 4 by omega)
    | ⟨1, _⟩ => exact Fin.ext (show 0 + 1 * (x 1).val = (x 1).val by omega)
    | ⟨2, _⟩ => exact Fin.ext (show 0 + 1 * (x 2).val = (x 2).val by omega)
    | ⟨3, _⟩ => exact Fin.ext (show 0 + 1 * (x 3).val = (x 3).val by omega)
  have hcnt : ∀ h < 8, cnt 0 h = 0 := by decide
  unfold qPts aPts lPts
  iintro ⟨HQ, ⟨%f0, Hq⟩, ⟨%f1, Ha⟩, ⟨%f2, Hl⟩⟩ HK
  iapply (wp_ld (m := qM) (qRow m c) (Finset.subset_univ _) eQ) $$ HQ; iintro HQ
  iapply (wp_ld (m := qB) _ (Finset.subset_univ _) rfl) $$ Hq; iintro Hq
  iapply (wp_st (c := c) (m := qB) (r := Rect.unit (s := S32x8x128) ![0, 0, 0] S32x8x128.size i2) (S := Finset.univ) (f := f0) (qC m c) (Finset.subset_univ _) ?_ ?_) $$ Hq
  · rw [hP]; exact Memref.readAt_unit_zero (Elt F) cc0_scratch0 off_z3 _ _
  · intro i _ hi
    refine absurd ?_ hi
    rw [show ((qB.access (Rect.unit (s := S32x8x128) ![0, 0, 0] S32x8x128.size i2) : View sig .tc _ _ _).set) = _ from View.set_slice_whole _ _, Rect.mem_set_unit]
    intro a
    match a with
    | ⟨0, _⟩ => exact ⟨Nat.zero_le _, by simp; exact (i 0).isLt⟩
    | ⟨1, _⟩ => exact ⟨Nat.zero_le _, by simp; exact (i 1).isLt⟩
    | ⟨2, _⟩ => exact ⟨Nat.zero_le _, by simp; exact (i 2).isLt⟩
  iintro Hq
  iapply (wp_ld (m := aB) _ (Finset.subset_univ _) rfl) $$ Ha; iintro Ha
  iapply (wp_st (c := c) (m := aB) (r := Rect.unit (s := S8x32x128) ![0, 0, 0] S8x32x128.size i4) (S := Finset.univ) (f := f1) (aC m c 0) (Finset.subset_univ _) ?_ ?_) $$ Ha
  · refine (Memref.readAt_unit_zero (Elt F) cc0_scratch3 off_z3 _ _).trans (funext fun i => ?_)
    show aVal m c (i 0).val (cnt 0 (i 0).val) _ = _
    rw [hcnt _ (i 0).isLt]
    refine congrArg (k0_pay4 (F := F)) (funext fun a => ?_)
    match a with
    | ⟨0, _⟩ => exact Fin.ext (Nat.mod_eq_of_lt (i 0).isLt)
    | ⟨1, _⟩ => rfl
    | ⟨2, _⟩ => rfl
  · intro i _ hi
    refine absurd ?_ hi
    rw [aB_acc, Rect.mem_set_unit]
    intro a
    match a with
    | ⟨0, _⟩ => exact ⟨Nat.zero_le _, by simp; exact (i 0).isLt⟩
    | ⟨1, _⟩ => exact ⟨Nat.zero_le _, by simp; exact (i 1).isLt⟩
    | ⟨2, _⟩ => exact ⟨Nat.zero_le _, by simp; exact (i 2).isLt⟩
  iintro Ha
  iapply (wp_ld (m := lB) _ (Finset.subset_univ _) rfl) $$ Hl; iintro Hl
  iapply (wp_st (c := c) (m := lB) (r := Rect.unit (s := S8x32x8) ![0, 0, 0] S8x32x8.size i6) (S := Finset.univ) (f := f2) (lC m c 0) (Finset.subset_univ _) ?_ ?_) $$ Hl
  · refine (Memref.readAt_unit_zero (Elt F) cc0_scratch4 off_z3 _ _).trans (funext fun i => ?_)
    show lVal m c (i 0).val (cnt 0 (i 0).val) _ = _
    rw [hcnt _ (i 0).isLt]
    refine congrArg (k0_pay5 (F := F)) (funext fun a => ?_)
    match a with
    | ⟨0, _⟩ => exact Fin.ext (Nat.mod_eq_of_lt (i 0).isLt)
    | ⟨1, _⟩ => rfl
    | ⟨2, _⟩ => rfl
  · intro i _ hi
    refine absurd ?_ hi
    rw [lB_acc, Rect.mem_set_unit]
    intro a
    match a with
    | ⟨0, _⟩ => exact ⟨Nat.zero_le _, by simp; exact (i 0).isLt⟩
    | ⟨1, _⟩ => exact ⟨Nat.zero_le _, by simp; exact (i 1).isLt⟩
    | ⟨2, _⟩ => exact ⟨Nat.zero_le _, by simp; exact (i 2).isLt⟩
  iintro Hl
  ihave Hl := (l_split (lC m c 0)).1 $$ Hl
  icases Hl with ⟨Hl0, Hl1⟩
  iapply HK
  isplitl [HQ]; · iexact HQ
  isplitl [Hq]; · iexact Hq
  isplitl [Ha]; · iexact Ha
  isplitl [Hl0] <;> iassumption

/-- The gathered result, widened, into the output window. -/
theorem wp_out {Q : α → sProp 𝕄} {i1 i2 i3 l1 l2 x1 y1} {P : Vec F S4x32x8x128 .bf16 → FVec F S4x32x8x128 .f32} (hP : ∀ v, P v = k0_pay1 v)
    {k : Prog (TpuEff nD τ sig (Elt F) Λ₀ .tc) α} :
    iprop((lcO c ↦{fullShare} oC m c) ∗ (∃ f, lcOut c ↦{fullShare} f))
      ⊢ iprop((((lcO c ↦{fullShare} oC m c) ∗ (lcOut c ↦{fullShare} outC m c)) -∗ wpc c k Q)
      -∗ wpc c (.op (.load oB (Rect.unit (s := S4x32x8x128) ![0, 0, 0, 0] S4x32x8x128.size i1).toLoadRect l1) fun v =>
          .op (.load outM (Rect.unit (s := S4x32x8x128) ![0, 0, 0, 0] S4x32x8x128.size i2).toLoadRect l2) fun _ =>
          .op (.store outM (Rect.unit (s := S4x32x8x128) ![0, 0, 0, 0] S4x32x8x128.size i3) (P v) Finset.univ x1 y1) fun _ => k) Q) := by
  iintro ⟨Ho, ⟨%f, Hw⟩⟩ HK
  iapply (wp_ld (m := oB) (oC m c) (Finset.subset_univ _) (Memref.readAt_unit_zero (Elt F) cc0_scratch8 off_z4 _ _)) $$ Ho; iintro Ho
  iapply (wp_ld (m := outM) _ (Finset.subset_univ _) rfl) $$ Hw; iintro Hw
  iapply (wp_st (c := c) (m := outM) (r := Rect.unit (s := S4x32x8x128) ![0, 0, 0, 0] S4x32x8x128.size i3) (S := Finset.univ) (f := f) (outC m c) (Finset.subset_univ _) ?_ ?_) $$ Hw
  · rw [hP]; exact Memref.readAt_unit_zero (Elt F) cc0_stg1_0 off_z4 _ _
  · intro i _ hi
    refine absurd ?_ hi
    rw [show ((outM.access (Rect.unit (s := S4x32x8x128) ![0, 0, 0, 0] S4x32x8x128.size i3) : View sig .tc _ _ _).set) = _ from View.set_slice_whole _ _, Rect.mem_set_unit]
    intro a
    match a with
    | ⟨0, _⟩ => exact ⟨Nat.zero_le _, by simp; exact (i 0).isLt⟩
    | ⟨1, _⟩ => exact ⟨Nat.zero_le _, by simp; exact (i 1).isLt⟩
    | ⟨2, _⟩ => exact ⟨Nat.zero_le _, by simp; exact (i 2).isLt⟩
    | ⟨3, _⟩ => exact ⟨Nat.zero_le _, by simp; exact (i 3).isLt⟩
  iintro Hw
  iapply HK
  isplitl [Ho] <;> iassumption

/-- A stage's four blocks. -/
theorem wp_stage4 {Q : α → sProp 𝕄} (s t n n' g h0 h1 h2 h3 : ℕ) (ht : t < 8) (hn : n = 4 * t) (hn' : n' = 4 * t + 4) (hg : g = t / 4)
    {i1_0 i2_0 i3_0 i4_0 i5_0 i6_0 i7_0 l1_0 l2_0 l3_0 l4_0 l5_0 l6_0 l7_0 x1_0 x2_0 y1_0 y2_0 i1_1 i2_1 i3_1 i4_1 i5_1 i6_1 i7_1 l1_1 l2_1 l3_1 l4_1 l5_1 l6_1 l7_1 x1_1 x2_1 y1_1 y2_1 i1_2 i2_2 i3_2 i4_2 i5_2 i6_2 i7_2 l1_2 l2_2 l3_2 l4_2 l5_2 l6_2 l7_2 x1_2 x2_2 y1_2 y2_2 i1_3 i2_3 i3_3 i4_3 i5_3 i6_3 i7_3 l1_3 l2_3 l3_3 l4_3 l5_3 l6_3 l7_3 x1_3 x2_3 y1_3 y2_3}
    {PL0 PL1 PL2 PL3 : Vec F S1x1x1024x128 .f32 → Vec F S32x1x128 .bf16 → Vec F S1x32x8 .f32 → FVec F S1x32x8 .f32}
    {PA0 PA1 PA2 PA3 : Vec F S1x1x1024x128 .f32 → Vec F S32x1x128 .bf16 → Vec F S1x1x1024x128 .f32 → Vec F S1x32x128 .f32 → FVec F S1x32x128 .f32}
    {k : Prog (TpuEff nD τ sig (Elt F) Λ₀ .tc) α}
    (hh0 : h0 = 4 * (t / 4) + 0) (hPL0 : ∀ a b l, PL0 a b l = k0_pay8 (k0_pay6 a) b l) (hPA0 : ∀ a b v l, PA0 a b v l = k0_pay9 (k0_pay6 a) b v l)
    (hh1 : h1 = 4 * (t / 4) + 1) (hPL1 : ∀ a b l, PL1 a b l = k0_pay8 (k0_pay6 a) b l) (hPA1 : ∀ a b v l, PA1 a b v l = k0_pay9 (k0_pay6 a) b v l)
    (hh2 : h2 = 4 * (t / 4) + 2) (hPL2 : ∀ a b l, PL2 a b l = k0_pay8 (k0_pay6 a) b l) (hPA2 : ∀ a b v l, PA2 a b v l = k0_pay9 (k0_pay6 a) b v l)
    (hh3 : h3 = 4 * (t / 4) + 3) (hPL3 : ∀ a b l, PL3 a b l = k0_pay8 (k0_pay6 a) b l) (hPA3 : ∀ a b v l, PA3 a b v l = k0_pay9 (k0_pay6 a) b v l) :
    iprop(slotGot m c s t ∗ qPts m c ∗ lPts m c g n ∗ aPts m c n)
      ⊢ iprop(((slotIdle m c s ∗ qPts m c ∗ lPts m c g n' ∗ aPts m c n') -∗ wpc c k Q)
      -∗ wpc c (.op (.load kB (Rect.unit (s := S2x4x1024x128) ![s, 0, 0, 0] S1x1x1024x128.size i1_0).toLoadRect l1_0) fun kv0 =>
          .op (.load qB (Rect.unit (s := S32x8x128) ![0, h0, 0] S32x1x128.size i2_0).toLoadRect l2_0) fun qv0 =>
          .op (.load lB (Rect.unit (s := S8x32x8) ![h0, 0, 0] S1x32x8.size i3_0).toLoadRect l3_0) fun lv0 =>
          .op (.load lB (Rect.unit (s := S8x32x8) ![h0, 0, 0] S1x32x8.size i4_0).toLoadRect l4_0) fun _ =>
          .op (.store lB (Rect.unit (s := S8x32x8) ![h0, 0, 0] S1x32x8.size i4_0) (PL0 kv0 qv0 lv0) Finset.univ x1_0 y1_0) fun _ =>
          .op (.load vB (Rect.unit (s := S2x4x1024x128) ![s, 0, 0, 0] S1x1x1024x128.size i5_0).toLoadRect l5_0) fun vv0 =>
          .op (.load aB (Rect.unit (s := S8x32x128) ![h0, 0, 0] S1x32x128.size i6_0).toLoadRect l6_0) fun av0 =>
          .op (.load aB (Rect.unit (s := S8x32x128) ![h0, 0, 0] S1x32x128.size i7_0).toLoadRect l7_0) fun _ =>
          .op (.store aB (Rect.unit (s := S8x32x128) ![h0, 0, 0] S1x32x128.size i7_0) (PA0 kv0 qv0 vv0 av0) Finset.univ x2_0 y2_0) fun _ => .op (.load kB (Rect.unit (s := S2x4x1024x128) ![s, 1, 0, 0] S1x1x1024x128.size i1_1).toLoadRect l1_1) fun kv1 =>
          .op (.load qB (Rect.unit (s := S32x8x128) ![0, h1, 0] S32x1x128.size i2_1).toLoadRect l2_1) fun qv1 =>
          .op (.load lB (Rect.unit (s := S8x32x8) ![h1, 0, 0] S1x32x8.size i3_1).toLoadRect l3_1) fun lv1 =>
          .op (.load lB (Rect.unit (s := S8x32x8) ![h1, 0, 0] S1x32x8.size i4_1).toLoadRect l4_1) fun _ =>
          .op (.store lB (Rect.unit (s := S8x32x8) ![h1, 0, 0] S1x32x8.size i4_1) (PL1 kv1 qv1 lv1) Finset.univ x1_1 y1_1) fun _ =>
          .op (.load vB (Rect.unit (s := S2x4x1024x128) ![s, 1, 0, 0] S1x1x1024x128.size i5_1).toLoadRect l5_1) fun vv1 =>
          .op (.load aB (Rect.unit (s := S8x32x128) ![h1, 0, 0] S1x32x128.size i6_1).toLoadRect l6_1) fun av1 =>
          .op (.load aB (Rect.unit (s := S8x32x128) ![h1, 0, 0] S1x32x128.size i7_1).toLoadRect l7_1) fun _ =>
          .op (.store aB (Rect.unit (s := S8x32x128) ![h1, 0, 0] S1x32x128.size i7_1) (PA1 kv1 qv1 vv1 av1) Finset.univ x2_1 y2_1) fun _ => .op (.load kB (Rect.unit (s := S2x4x1024x128) ![s, 2, 0, 0] S1x1x1024x128.size i1_2).toLoadRect l1_2) fun kv2 =>
          .op (.load qB (Rect.unit (s := S32x8x128) ![0, h2, 0] S32x1x128.size i2_2).toLoadRect l2_2) fun qv2 =>
          .op (.load lB (Rect.unit (s := S8x32x8) ![h2, 0, 0] S1x32x8.size i3_2).toLoadRect l3_2) fun lv2 =>
          .op (.load lB (Rect.unit (s := S8x32x8) ![h2, 0, 0] S1x32x8.size i4_2).toLoadRect l4_2) fun _ =>
          .op (.store lB (Rect.unit (s := S8x32x8) ![h2, 0, 0] S1x32x8.size i4_2) (PL2 kv2 qv2 lv2) Finset.univ x1_2 y1_2) fun _ =>
          .op (.load vB (Rect.unit (s := S2x4x1024x128) ![s, 2, 0, 0] S1x1x1024x128.size i5_2).toLoadRect l5_2) fun vv2 =>
          .op (.load aB (Rect.unit (s := S8x32x128) ![h2, 0, 0] S1x32x128.size i6_2).toLoadRect l6_2) fun av2 =>
          .op (.load aB (Rect.unit (s := S8x32x128) ![h2, 0, 0] S1x32x128.size i7_2).toLoadRect l7_2) fun _ =>
          .op (.store aB (Rect.unit (s := S8x32x128) ![h2, 0, 0] S1x32x128.size i7_2) (PA2 kv2 qv2 vv2 av2) Finset.univ x2_2 y2_2) fun _ => .op (.load kB (Rect.unit (s := S2x4x1024x128) ![s, 3, 0, 0] S1x1x1024x128.size i1_3).toLoadRect l1_3) fun kv3 =>
          .op (.load qB (Rect.unit (s := S32x8x128) ![0, h3, 0] S32x1x128.size i2_3).toLoadRect l2_3) fun qv3 =>
          .op (.load lB (Rect.unit (s := S8x32x8) ![h3, 0, 0] S1x32x8.size i3_3).toLoadRect l3_3) fun lv3 =>
          .op (.load lB (Rect.unit (s := S8x32x8) ![h3, 0, 0] S1x32x8.size i4_3).toLoadRect l4_3) fun _ =>
          .op (.store lB (Rect.unit (s := S8x32x8) ![h3, 0, 0] S1x32x8.size i4_3) (PL3 kv3 qv3 lv3) Finset.univ x1_3 y1_3) fun _ =>
          .op (.load vB (Rect.unit (s := S2x4x1024x128) ![s, 3, 0, 0] S1x1x1024x128.size i5_3).toLoadRect l5_3) fun vv3 =>
          .op (.load aB (Rect.unit (s := S8x32x128) ![h3, 0, 0] S1x32x128.size i6_3).toLoadRect l6_3) fun av3 =>
          .op (.load aB (Rect.unit (s := S8x32x128) ![h3, 0, 0] S1x32x128.size i7_3).toLoadRect l7_3) fun _ =>
          .op (.store aB (Rect.unit (s := S8x32x128) ![h3, 0, 0] S1x32x128.size i7_3) (PA3 kv3 qv3 vv3 av3) Finset.univ x2_3 y2_3) fun _ => k) Q) := by
  subst hn hn'
  unfold slotGot four
  iintro ⟨⟨H0, H1, H2, H3⟩, Hq, Hl, Ha⟩ HK
  iapply (wp_block1 m s t 0 h0 (4 * t + 0) g rfl ht (by decide) hh0 hg hPL0 hPA0) $$ [H0 Hq Hl Ha]
  · isplitl [H0]; · iexact H0
    isplitl [Hq]; · iexact Hq
    isplitl [Hl] <;> iassumption
  iintro ⟨H0, Hq, Hl, Ha⟩
  iapply (wp_block1 m s t 1 h1 (4 * t + 1) g rfl ht (by decide) hh1 hg hPL1 hPA1) $$ [H1 Hq Hl Ha]
  · isplitl [H1]; · iexact H1
    isplitl [Hq]; · iexact Hq
    isplitl [Hl] <;> iassumption
  iintro ⟨H1, Hq, Hl, Ha⟩
  iapply (wp_block1 m s t 2 h2 (4 * t + 2) g rfl ht (by decide) hh2 hg hPL2 hPA2) $$ [H2 Hq Hl Ha]
  · isplitl [H2]; · iexact H2
    isplitl [Hq]; · iexact Hq
    isplitl [Hl] <;> iassumption
  iintro ⟨H2, Hq, Hl, Ha⟩
  iapply (wp_block1 m s t 3 h3 (4 * t + 3) g rfl ht (by decide) hh3 hg hPL3 hPA3) $$ [H3 Hq Hl Ha]
  · isplitl [H3]; · iexact H3
    isplitl [Hq]; · iexact Hq
    isplitl [Hl] <;> iassumption
  iintro ⟨H3, Hq, Hl, Ha⟩
  iapply HK
  isplitl [H0 H1 H2 H3]
  · iapply (slotGot_idle m c s t)
    unfold slotGot four
    isplitl [H0]; · iexact H0
    isplitl [H1]; · iexact H1
    isplitl [H2] <;> iassumption
  isplitl [Hq]; · iexact Hq
  isplitl [Hl] <;> iassumption

end Cert.KernelIdeal.Run

end
-- ==== Proof.Run.Body.lean ====
/-
# The body of the kernel at one device

The body runs once, at a symbolic device: the barrier's signals; eight stages of chunk copies, waits and blocks; the exchange
along `z` for each group of heads; the quotients; the exchange across `x` and `y`; and the output window.
-/
module

public import proofs.«01_k».proof.Proof.Run.Ends

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 37 → ℕ)

/-! ## What the body starts and ends with -/

/-- The barrier signal with `d` more to come: its duty and the landing pieces it hands over. -/
def sg (c : Dev nD) (d : ℕ) : sProp 𝕄 :=
  iprop(dutyTok ER (bcell (peer (sigPeer d) c)) 0 (sigPeer d) ∗ barPay (F := F) (peer (sigPeer d) c) (sigPeer d))
def sgs (c : Dev nD) : sProp 𝕄 := iprop(sg (F := F) c 5 ∗ sg (F := F) c 4 ∗ sg (F := F) c 3 ∗ sg (F := F) c 2 ∗ sg (F := F) c 1 ∗ sg (F := F) c 0)
/-- Before the copies to peer `j` along `z`: the duties. -/
def zx (c : Dev nD) (g j : ℕ) : sProp 𝕄 := iprop(x0 (F := F) c 0 g j ∗ x0 (F := F) c 1 g j)
def xs (c : Dev nD) : sProp 𝕄 :=
  iprop(tri (zx (F := F) c 0) ∗ tri (zx (F := F) c 1) ∗ tri (x0 (F := F) c 2 0) ∗ tri (x0 (F := F) c 2 1))
def rs (c : Dev nD) : sProp 𝕄 :=
  iprop(tri (zr1 (F := F) c 0) ∗ tri (zr1 (F := F) c 1) ∗ tri (fun j => xw (F := F) c 5 0 j) ∗ tri (fun j => xw (F := F) c 5 1 j))
def bufs (c : Dev nD) : sProp 𝕄 :=
  iprop(slotIdle m c 0 ∗ slotIdle m c 1 ∗ (∃ f, lcS c ↦[sSet 0]{fullShare} f) ∗ (∃ f, lcS c ↦[sSet 1]{fullShare} f)
    ∗ (∃ f, lcO c ↦[oSet (c.val / 4) 0]{fullShare} f) ∗ (∃ f, lcO c ↦[oSet (c.val / 4) 1]{fullShare} f)
    ∗ (∃ f, lcQb c ↦{fullShare} f) ∗ (∃ f, lcA c ↦{fullShare} f) ∗ (∃ f, lcL c ↦{fullShare} f))
def pre (c : Dev nD) : sProp 𝕄 :=
  iprop(invs m K ∗ levAts L lv ∗ owesAny c (OwB c 6) ∗ sgs (F := F) c ∗ (atPos ER (bcell c) 0 ∅ 0 ∗ cred (tallyAt (bcell c) () 6)) ∗ xs (F := F) c ∗ rs (F := F) c
    ∗ bufs m c ∗ (lcQ c ↦{fullShare} Qm m c) ∗ (∃ f, lcOut c ↦{fullShare} f))

/-- The counters back at zero. -/
def zeros (c : Dev nD) : sProp 𝕄 :=
  iprop(semVal (bcell c) 0 ∗ tri (z2 (F := F) c 0) ∗ tri (z2 (F := F) c 1) ∗ tri (g2 (F := F) c 0) ∗ tri (g2 (F := F) c 1))
def after (c : Dev nD) : sProp 𝕄 :=
  iprop(slotIdle m c 0 ∗ slotIdle m c 1 ∗ sPts m c 0 ∗ sPts m c 1 ∗ tri (zr2 m c 0) ∗ tri (zr2 m c 1)
    ∗ qPts m c ∗ afPts m c 2 ∗ lfPts m c 0 ∗ lfPts m c 1 ∗ (lcO c ↦{fullShare} oC m c))
def post (c : Dev nD) : sProp 𝕄 :=
  iprop(owesAny c 0 ∗ zeros (F := F) c ∗ after m c ∗ (lcQ c ↦{fullShare} Qm m c) ∗ (lcOut c ↦{fullShare} outC m c))

/-! ## Regrouping -/

omit [FloatOps F] in
theorem bar_split (c : Dev nD) :
    iprop(bigSep Finset.univ (barPay (F := F) c) ∗ xs (F := F) c)
      ⊢ iprop(tri (zs0 (F := F) c 0) ∗ tri (zs0 (F := F) c 1) ∗ tri (gs0 (F := F) c 0) ∗ tri (gs0 (F := F) c 1)) := by
  rw [bigSep_univ_eq_bigSepL [0, 1, 2, 3, 4, 5] (by decide) (by decide)]
  unfold xs tri zx zs0 gs0
  show iprop((iprop(land c 0 0 0 ∗ land c 0 1 0 ∗ land c 1 0 0 ∗ land c 1 1 0) ∗ iprop(land c 0 0 1 ∗ land c 0 1 1 ∗ land c 1 0 1 ∗ land c 1 1 1)
    ∗ iprop(land c 0 0 2 ∗ land c 0 1 2 ∗ land c 1 0 2 ∗ land c 1 1 2) ∗ iprop(land c 2 0 0 ∗ land c 2 1 0) ∗ iprop(land c 2 0 1 ∗ land c 2 1 1)
    ∗ iprop(land c 2 0 2 ∗ land c 2 1 2)) ∗ _) ⊢ _
  iintro ⟨⟨⟨A0, B0, C0, D0⟩, ⟨A1, B1, C1, D1⟩, ⟨A2, B2, C2, D2⟩, ⟨E0, F0⟩, ⟨E1, F1⟩, ⟨E2, F2⟩⟩,
    ⟨⟨⟨X0, Y0⟩, ⟨X1, Y1⟩, ⟨X2, Y2⟩⟩, ⟨⟨Z0, W0⟩, ⟨Z1, W1⟩, ⟨Z2, W2⟩⟩, ⟨G0, G1, G2⟩, ⟨H0, H1, H2⟩⟩⟩
  isplitl [A0 C0 X0 Y0 A1 C1 X1 Y1 A2 C2 X2 Y2]
  · isplitl [A0 C0 X0 Y0]
    · isplitl [X0]; · iexact X0
      isplitl [Y0]; · iexact Y0
      isplitl [A0] <;> iassumption
    isplitl [A1 C1 X1 Y1]
    · isplitl [X1]; · iexact X1
      isplitl [Y1]; · iexact Y1
      isplitl [A1] <;> iassumption
    isplitl [X2]; · iexact X2
    isplitl [Y2]; · iexact Y2
    isplitl [A2] <;> iassumption
  isplitl [B0 D0 Z0 W0 B1 D1 Z1 W1 B2 D2 Z2 W2]
  · isplitl [B0 D0 Z0 W0]
    · isplitl [Z0]; · iexact Z0
      isplitl [W0]; · iexact W0
      isplitl [B0] <;> iassumption
    isplitl [B1 D1 Z1 W1]
    · isplitl [Z1]; · iexact Z1
      isplitl [W1]; · iexact W1
      isplitl [B1] <;> iassumption
    isplitl [Z2]; · iexact Z2
    isplitl [W2]; · iexact W2
    isplitl [B2] <;> iassumption
  isplitl [E0 E1 E2 G0 G1 G2]
  · isplitl [E0 G0]; · isplitl [G0] <;> iassumption
    isplitl [E1 G1]; · isplitl [G1] <;> iassumption
    isplitl [G2] <;> iassumption
  isplitl [F0 H0]; · isplitl [H0] <;> iassumption
  isplitl [F1 H1]; · isplitl [H1] <;> iassumption
  isplitl [H2] <;> iassumption

set_option backward.proofsInPublic true in
/-- The row of piece `k` of the result on device `c`: its own, then its three peers' across `x` and `y`. -/
def orow (c : Dev nD) (k : Fin 4) : ℕ := if k.val = 0 then c.val / 4 else (peer (px 2 (k.val - 1)) c).val / 4
theorem orow_inj : ∀ (c : Dev nD) (k k' : Fin 4), orow c k = orow c k' → k = k' := by decide
theorem orow_surj : ∀ (c : Dev nD) (b : Fin 4), ∃ k, orow c k = b.val := by decide

omit [FloatOps F] in
/-- The result's buffer in its eight pieces. -/
theorem o_split (c : Dev nD) (f : Buf (Elt F) (lcO c)) :
    (lcO c ↦{fullShare} f : sProp 𝕄) = iprop(((lcO c ↦[oSet (c.val / 4) 0]{fullShare} f) ∗ (lcO c ↦[oSet (c.val / 4) 1]{fullShare} f))
      ∗ ((lcO c ↦[oSet ((peer (px 2 0) c).val / 4) 0]{fullShare} f) ∗ (lcO c ↦[oSet ((peer (px 2 0) c).val / 4) 1]{fullShare} f))
      ∗ ((lcO c ↦[oSet ((peer (px 2 1) c).val / 4) 0]{fullShare} f) ∗ (lcO c ↦[oSet ((peer (px 2 1) c).val / 4) 1]{fullShare} f))
      ∗ ((lcO c ↦[oSet ((peer (px 2 2) c).val / 4) 0]{fullShare} f) ∗ (lcO c ↦[oSet ((peer (px 2 2) c).val / 4) 1]{fullShare} f))) := by
  have hu : (Finset.univ : Finset S4x32x8x128.Idx) = (Finset.univ : Finset (Fin 4 × Fin 2)).biUnion fun t => oSet (orow c t.1) t.2.val := by
    ext i
    have h0 : (i 0).val < 4 := (i 0).isLt
    have h2 : (i 2).val < 8 := (i 2).isLt
    obtain ⟨k, hk⟩ := orow_surj c ⟨(i 0).val, h0⟩
    exact ⟨fun _ => Finset.mem_biUnion.2 ⟨(k, ⟨(i 2).val / 4, by omega⟩), Finset.mem_univ _, Finset.mem_filter.2 ⟨Finset.mem_univ _, hk.symm, rfl⟩⟩, fun _ => Finset.mem_univ _⟩
  have hd : ∀ t ∈ (Finset.univ : Finset (Fin 4 × Fin 2)), ∀ t' ∈ (Finset.univ : Finset (Fin 4 × Fin 2)), t ≠ t' →
      Disjoint (oSet (orow c t.1) t.2.val) (oSet (orow c t'.1) t'.2.val) := fun t _ t' _ hne => Finset.disjoint_left.2 fun i h h' => by
    have h1 := (Finset.mem_filter.1 h).2; have h2 := (Finset.mem_filter.1 h').2
    exact hne (Prod.ext (orow_inj c _ _ (h1.1.symm.trans h2.1)) (Fin.ext (h1.2.symm.trans h2.2)))
  show (lcO c ↦[(Finset.univ : Finset S4x32x8x128.Idx)]{fullShare} f : sProp 𝕄) = _
  rw [hu, pointsTo_biUnion _ _ hd, bigSep_univ_prod, bigSep_univ_eq_bigSepL [0, 1, 2, 3] (by decide) (by decide)]
  simp only [bigSep_univ_two]
  rfl

theorem o_join (c : Dev nD) :
    iprop(oPts m c 0 ∗ oPts m c 1 ∗ tri (gr2 m c 0) ∗ tri (gr2 m c 1)) ⊢ (lcO c ↦{fullShare} oC m c : sProp 𝕄) := by
  rw [o_split]
  unfold oPts tri
  rw [gr2_eq, gr2_eq, gr2_eq, gr2_eq, gr2_eq, gr2_eq]
  iintro ⟨A, B, ⟨C0, C1, C2⟩, ⟨D0, D1, D2⟩⟩
  isplitl [A B]; · isplitl [A] <;> iassumption
  isplitl [C0 D0]; · isplitl [C0] <;> iassumption
  isplitl [C1 D1]; · isplitl [C1] <;> iassumption
  isplitl [C2] <;> iassumption

/-! ## Devices and offsets -/

theorem off_row (c : Dev nD) {x y z : ℕ} : (![2 * (c.val / 8) + ((c.val / 4) % 2), x, y, z] : Fin 4 → ℕ) = ![c.val / 4, x, y, z] := by
  rw [show 2 * (c.val / 8) + ((c.val / 4) % 2) = c.val / 4 by omega]

theorem dv1 : ∀ c : Dev nD, (⟨k0_dev1 c, k0_dev1_lt c⟩ : Dev nD) = peer 0 c := by decide
theorem dv2 : ∀ c : Dev nD, (⟨k0_dev2 c, k0_dev2_lt c⟩ : Dev nD) = peer 1 c := by decide
theorem dv3 : ∀ c : Dev nD, (⟨k0_dev3 c, k0_dev3_lt c⟩ : Dev nD) = peer 2 c := by decide
theorem dv4 : ∀ c : Dev nD, (⟨k0_dev4 c, k0_dev4_lt c⟩ : Dev nD) = peer 3 c := by decide
theorem dv5 : ∀ c : Dev nD, (⟨k0_dev5 c, k0_dev5_lt c⟩ : Dev nD) = peer 4 c := by decide
theorem dv6 : ∀ c : Dev nD, (⟨k0_dev6 c, k0_dev6_lt c⟩ : Dev nD) = peer 5 c := by decide
theorem dv7 : ∀ c : Dev nD, (⟨k0_dev7 c, k0_dev7_lt c⟩ : Dev nD) = peer 0 c := by decide
theorem dv8 : ∀ c : Dev nD, (⟨k0_dev8 c, k0_dev8_lt c⟩ : Dev nD) = peer 0 c := by decide
theorem dv9 : ∀ c : Dev nD, (⟨k0_dev9 c, k0_dev9_lt c⟩ : Dev nD) = peer 1 c := by decide
theorem dv10 : ∀ c : Dev nD, (⟨k0_dev10 c, k0_dev10_lt c⟩ : Dev nD) = peer 1 c := by decide
theorem dv11 : ∀ c : Dev nD, (⟨k0_dev11 c, k0_dev11_lt c⟩ : Dev nD) = peer 2 c := by decide
theorem dv12 : ∀ c : Dev nD, (⟨k0_dev12 c, k0_dev12_lt c⟩ : Dev nD) = peer 2 c := by decide
theorem dv13 : ∀ c : Dev nD, (⟨k0_dev13 c, k0_dev13_lt c⟩ : Dev nD) = peer 0 c := by decide
theorem dv14 : ∀ c : Dev nD, (⟨k0_dev14 c, k0_dev14_lt c⟩ : Dev nD) = peer 0 c := by decide
theorem dv15 : ∀ c : Dev nD, (⟨k0_dev15 c, k0_dev15_lt c⟩ : Dev nD) = peer 1 c := by decide
theorem dv16 : ∀ c : Dev nD, (⟨k0_dev16 c, k0_dev16_lt c⟩ : Dev nD) = peer 1 c := by decide
theorem dv17 : ∀ c : Dev nD, (⟨k0_dev17 c, k0_dev17_lt c⟩ : Dev nD) = peer 2 c := by decide
theorem dv18 : ∀ c : Dev nD, (⟨k0_dev18 c, k0_dev18_lt c⟩ : Dev nD) = peer 2 c := by decide
theorem dv19 : ∀ c : Dev nD, (⟨k0_dev19 c, k0_dev19_lt c⟩ : Dev nD) = peer 3 c := by decide
theorem dv20 : ∀ c : Dev nD, (⟨k0_dev20 c, k0_dev20_lt c⟩ : Dev nD) = peer 4 c := by decide
theorem dv21 : ∀ c : Dev nD, (⟨k0_dev21 c, k0_dev21_lt c⟩ : Dev nD) = peer 5 c := by decide
theorem dv22 : ∀ c : Dev nD, (⟨k0_dev22 c, k0_dev22_lt c⟩ : Dev nD) = peer 3 c := by decide
theorem dv23 : ∀ c : Dev nD, (⟨k0_dev23 c, k0_dev23_lt c⟩ : Dev nD) = peer 4 c := by decide
theorem dv24 : ∀ c : Dev nD, (⟨k0_dev24 c, k0_dev24_lt c⟩ : Dev nD) = peer 5 c := by decide

section Body
variable {c : Dev nD}
set_option maxHeartbeats 4000000
set_option maxRecDepth 65536

/-- The body at device `c`. -/
theorem wp_body {Q : PUnit → sProp 𝕄} :
    iprop(pre m K c ∗ (post m c -∗ Q ⟨⟩)) ⊢ wpc c (cc0_body (F := F) qM (Memref.isWhole_whole _) kA (Memref.isWhole_whole _) vA (Memref.isWhole_whole _) outM (Memref.isWhole_whole _)
      qB (Memref.isWhole_whole _) kB (Memref.isWhole_whole _) vB (Memref.isWhole_whole _) aB (Memref.isWhole_whole _) lB (Memref.isWhole_whole _)
      sB (Memref.isWhole_whole _) rB (Memref.isWhole_whole _) rlB (Memref.isWhole_whole _) oB (Memref.isWhole_whole _)
      cc0_scratch9 cc0_scratch10 cc0_scratch11 cc0_scratch12 cc0_scratch13 cc0_scratch14 cc0_scratch15 cc0_scratch16) Q := by
  rw [cc0_body_eq_skeleton]
  unfold cc0_body_skel
  rw [k0_part95_eq_skeleton]
  unfold k0_part95_skel
  rw [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId]
  unfold pre sgs bufs rs
  iintro ⟨⟨#HI, #HL, HO, ⟨G5, G4, G3, G2, G1, G0⟩, ⟨Hb, Hbc⟩, Hx, ⟨R0, R1, RG0, RG1⟩, ⟨S0, S1, Hs0, Hs1, Ho0, Ho1, Hq, Ha, Hl⟩, HQ, Hw⟩, HK⟩
  unfold sg
  icases G5 with ⟨T, P⟩
  iapply (wp_sig m K 5 rfl (dv1 c)) $$ [HO T P]
  · isplitr; · iexact HI
    isplitl [HO]; · iexact HO
    isplitl [T]; · iexact T
    iexact P
  iintro HO
  skip
  icases G4 with ⟨T, P⟩
  iapply (wp_sig m K 4 rfl (dv2 c)) $$ [HO T P]
  · isplitr; · iexact HI
    isplitl [HO]; · iexact HO
    isplitl [T]; · iexact T
    iexact P
  iintro HO
  skip
  icases G3 with ⟨T, P⟩
  iapply (wp_sig m K 3 rfl (dv3 c)) $$ [HO T P]
  · isplitr; · iexact HI
    isplitl [HO]; · iexact HO
    isplitl [T]; · iexact T
    iexact P
  iintro HO
  skip
  icases G2 with ⟨T, P⟩
  iapply (wp_sig m K 2 rfl (dv4 c)) $$ [HO T P]
  · isplitr; · iexact HI
    isplitl [HO]; · iexact HO
    isplitl [T]; · iexact T
    iexact P
  iintro HO
  skip
  icases G1 with ⟨T, P⟩
  iapply (wp_sig m K 1 rfl (dv5 c)) $$ [HO T P]
  · isplitr; · iexact HI
    isplitl [HO]; · iexact HO
    isplitl [T]; · iexact T
    iexact P
  iintro HO
  skip
  icases G0 with ⟨T, P⟩
  iapply (wp_sig m K 0 rfl (dv6 c)) $$ [HO T P]
  · isplitr; · iexact HI
    isplitl [HO]; · iexact HO
    isplitl [T]; · iexact T
    iexact P
  iintro HO
  iapply (wp_init m ((k0_off1_eq c).trans (off_row c)) (fun _ => rfl) rfl rfl) $$ [HQ Hq Ha Hl]
  · isplitl [HQ]; · iexact HQ
    isplitl [Hq]; · iexact Hq
    isplitl [Ha]; · iexact Ha
    iexact Hl
  iintro ⟨HQ, Hq, Ha, Hl0, Hl1⟩
  rw [k0_part4_eq_skeleton, k0_part5_eq_skeleton, k0_part6_eq_skeleton, k0_part7_eq_skeleton]
  unfold k0_part4_skel k0_part5_skel k0_part6_skel k0_part7_skel
  simp only [semSignalWord, semWaitWord, storeSubelements, Prog.lift, Prog.bind_op, Prog.bind_ret, Prog.pure_eq_ret, wp_deviceId]
  iapply (wp_start8 m 0 0 (by decide) ((k0_off2_eq c).trans (off_row c)) ((k0_off3_eq c).trans (off_row c)) ((k0_off4_eq c).trans (off_row c)) ((k0_off5_eq c).trans (off_row c)) rfl rfl rfl rfl rfl rfl rfl rfl) $$ S0; iintro S0
  iapply (wp_start8 m 1 1 (by decide) ((k0_off6_eq c).trans (off_row c)) ((k0_off7_eq c).trans (off_row c)) ((k0_off8_eq c).trans (off_row c)) ((k0_off9_eq c).trans (off_row c)) rfl rfl rfl rfl rfl rfl rfl rfl) $$ S1; iintro S1
  rw [k0_part8_eq_skeleton, k0_part9_eq_skeleton]
  unfold k0_part8_skel k0_part9_skel
  simp only [semSignalWord, semWaitWord, storeSubelements, Prog.lift, Prog.bind_op, Prog.bind_ret, Prog.pure_eq_ret, wp_deviceId]
  iapply (wp_wait8 m 0 0 (above_D c 1 (by decide) 18 (le_refl _)) rfl rfl rfl rfl rfl rfl rfl rfl) $$ [HO S0]
  · isplitr; · iexact HL
    isplitl [HO]; · iexact HO
    iexact S0
  iintro ⟨HO, S0⟩
  rw [k0_part10_eq_skeleton, k0_part11_eq_skeleton, k0_part12_eq_skeleton, k0_part13_eq_skeleton]
  unfold k0_part10_skel k0_part11_skel k0_part12_skel k0_part13_skel
  simp only [semSignalWord, semWaitWord, storeSubelements, Prog.lift, Prog.bind_op, Prog.bind_ret, Prog.pure_eq_ret, wp_deviceId]
  iapply (wp_stage4 m 0 0 0 4 0 0 1 2 3 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S0 Hq Hl0 Ha]
  · isplitl [S0]; · iexact S0
    isplitl [Hq]; · iexact Hq
    isplitl [Hl0]; · iexact Hl0
    iexact Ha
  iintro ⟨S0, Hq, Hl0, Ha⟩
  rw [k0_part14_eq_skeleton, k0_part15_eq_skeleton]
  unfold k0_part14_skel k0_part15_skel
  simp only [semSignalWord, semWaitWord, storeSubelements, Prog.lift, Prog.bind_op, Prog.bind_ret, Prog.pure_eq_ret, wp_deviceId]
  iapply (wp_start8 m 0 2 (by decide) ((k0_off10_eq c).trans (off_row c)) ((k0_off11_eq c).trans (off_row c)) ((k0_off12_eq c).trans (off_row c)) ((k0_off13_eq c).trans (off_row c)) rfl rfl rfl rfl rfl rfl rfl rfl) $$ S0; iintro S0
  rw [k0_part16_eq_skeleton, k0_part17_eq_skeleton]
  unfold k0_part16_skel k0_part17_skel
  simp only [semSignalWord, semWaitWord, storeSubelements, Prog.lift, Prog.bind_op, Prog.bind_ret, Prog.pure_eq_ret, wp_deviceId]
  iapply (wp_wait8 m 1 1 (above_D c 1 (by decide) 18 (le_refl _)) rfl rfl rfl rfl rfl rfl rfl rfl) $$ [HO S1]
  · isplitr; · iexact HL
    isplitl [HO]; · iexact HO
    iexact S1
  iintro ⟨HO, S1⟩
  rw [k0_part18_eq_skeleton, k0_part19_eq_skeleton, k0_part20_eq_skeleton, k0_part21_eq_skeleton]
  unfold k0_part18_skel k0_part19_skel k0_part20_skel k0_part21_skel
  simp only [semSignalWord, semWaitWord, storeSubelements, Prog.lift, Prog.bind_op, Prog.bind_ret, Prog.pure_eq_ret, wp_deviceId]
  iapply (wp_stage4 m 1 1 4 8 0 0 1 2 3 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S1 Hq Hl0 Ha]
  · isplitl [S1]; · iexact S1
    isplitl [Hq]; · iexact Hq
    isplitl [Hl0]; · iexact Hl0
    iexact Ha
  iintro ⟨S1, Hq, Hl0, Ha⟩
  rw [k0_part22_eq_skeleton, k0_part23_eq_skeleton]
  unfold k0_part22_skel k0_part23_skel
  simp only [semSignalWord, semWaitWord, storeSubelements, Prog.lift, Prog.bind_op, Prog.bind_ret, Prog.pure_eq_ret, wp_deviceId]
  iapply (wp_start8 m 1 3 (by decide) ((k0_off14_eq c).trans (off_row c)) ((k0_off15_eq c).trans (off_row c)) ((k0_off16_eq c).trans (off_row c)) ((k0_off17_eq c).trans (off_row c)) rfl rfl rfl rfl rfl rfl rfl rfl) $$ S1; iintro S1
  rw [k0_part24_eq_skeleton, k0_part25_eq_skeleton]
  unfold k0_part24_skel k0_part25_skel
  simp only [semSignalWord, semWaitWord, storeSubelements, Prog.lift, Prog.bind_op, Prog.bind_ret, Prog.pure_eq_ret, wp_deviceId]
  iapply (wp_wait8 m 0 2 (above_D c 1 (by decide) 18 (le_refl _)) rfl rfl rfl rfl rfl rfl rfl rfl) $$ [HO S0]
  · isplitr; · iexact HL
    isplitl [HO]; · iexact HO
    iexact S0
  iintro ⟨HO, S0⟩
  rw [k0_part26_eq_skeleton, k0_part27_eq_skeleton, k0_part28_eq_skeleton, k0_part29_eq_skeleton]
  unfold k0_part26_skel k0_part27_skel k0_part28_skel k0_part29_skel
  simp only [semSignalWord, semWaitWord, storeSubelements, Prog.lift, Prog.bind_op, Prog.bind_ret, Prog.pure_eq_ret, wp_deviceId]
  iapply (wp_stage4 m 0 2 8 12 0 0 1 2 3 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S0 Hq Hl0 Ha]
  · isplitl [S0]; · iexact S0
    isplitl [Hq]; · iexact Hq
    isplitl [Hl0]; · iexact Hl0
    iexact Ha
  iintro ⟨S0, Hq, Hl0, Ha⟩
  rw [k0_part30_eq_skeleton, k0_part31_eq_skeleton]
  unfold k0_part30_skel k0_part31_skel
  simp only [semSignalWord, semWaitWord, storeSubelements, Prog.lift, Prog.bind_op, Prog.bind_ret, Prog.pure_eq_ret, wp_deviceId]
  iapply (wp_start8 m 0 4 (by decide) ((k0_off18_eq c).trans (off_row c)) ((k0_off19_eq c).trans (off_row c)) ((k0_off20_eq c).trans (off_row c)) ((k0_off21_eq c).trans (off_row c)) rfl rfl rfl rfl rfl rfl rfl rfl) $$ S0; iintro S0
  rw [k0_part32_eq_skeleton, k0_part33_eq_skeleton]
  unfold k0_part32_skel k0_part33_skel
  simp only [semSignalWord, semWaitWord, storeSubelements, Prog.lift, Prog.bind_op, Prog.bind_ret, Prog.pure_eq_ret, wp_deviceId]
  iapply (wp_wait8 m 1 3 (above_D c 1 (by decide) 18 (le_refl _)) rfl rfl rfl rfl rfl rfl rfl rfl) $$ [HO S1]
  · isplitr; · iexact HL
    isplitl [HO]; · iexact HO
    iexact S1
  iintro ⟨HO, S1⟩
  rw [k0_part34_eq_skeleton, k0_part35_eq_skeleton, k0_part36_eq_skeleton, k0_part37_eq_skeleton]
  unfold k0_part34_skel k0_part35_skel k0_part36_skel k0_part37_skel
  simp only [semSignalWord, semWaitWord, storeSubelements, Prog.lift, Prog.bind_op, Prog.bind_ret, Prog.pure_eq_ret, wp_deviceId]
  iapply (wp_stage4 m 1 3 12 16 0 0 1 2 3 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S1 Hq Hl0 Ha]
  · isplitl [S1]; · iexact S1
    isplitl [Hq]; · iexact Hq
    isplitl [Hl0]; · iexact Hl0
    iexact Ha
  iintro ⟨S1, Hq, Hl0, Ha⟩
  rw [k0_part38_eq_skeleton, k0_part39_eq_skeleton, k0_part40_eq_skeleton]
  unfold k0_part38_skel k0_part39_skel k0_part40_skel
  simp only [semSignalWord, semWaitWord, storeSubelements, Prog.lift, Prog.bind_op, Prog.bind_ret, Prog.pure_eq_ret, wp_deviceId]
  iapply (wp_spack m 0 0 16 rfl (by decide) (fun _ => rfl)) $$ [Ha Hs0]
  · isplitl [Ha]; · iexact Ha
    iexact Hs0
  iintro ⟨Ha, Hs0⟩
  ihave Hl0 := (Entails.of_eq (lPts_low m)) $$ Hl0
  ihave Hl1 := (Entails.of_eq (lPts_high m)) $$ Hl1
  iapply (wp_bar m K rfl) $$ [HO Hb Hbc]
  · isplitr; · iexact HI
    isplitr; · iexact HL
    isplitl [HO]; · iexact HO
    isplitl [Hb]; · iexact Hb
    iexact Hbc
  iintro ⟨HO, Hb, HP⟩
  ihave HZ := (bar_split c) $$ [HP Hx]
  · isplitl [HP] <;> iassumption
  icases HZ with ⟨Z0, Z1, Y0, Y1⟩
  iapply (wp_zsend6 m K 0 0 (by decide) rfl (dv7 c) (dv8 c) rfl rfl rfl rfl (dv9 c) (dv10 c) rfl rfl rfl rfl (dv11 c) (dv12 c) rfl rfl rfl rfl) $$ [HO Z0 Hs0 Hl0]
  · isplitr; · iexact HI
    isplitl [HO]; · iexact HO
    isplitl [Z0]; · iexact Z0
    isplitl [Hs0]; · iexact Hs0
    iexact Hl0
  iintro ⟨HO, Z0⟩
  rw [k0_part41_eq_skeleton, k0_part42_eq_skeleton]
  unfold k0_part41_skel k0_part42_skel
  simp only [semSignalWord, semWaitWord, storeSubelements, Prog.lift, Prog.bind_op, Prog.bind_ret, Prog.pure_eq_ret, wp_deviceId]
  iapply (wp_start8 m 1 5 (by decide) ((k0_off22_eq c).trans (off_row c)) ((k0_off23_eq c).trans (off_row c)) ((k0_off24_eq c).trans (off_row c)) ((k0_off25_eq c).trans (off_row c)) rfl rfl rfl rfl rfl rfl rfl rfl) $$ S1; iintro S1
  rw [k0_part43_eq_skeleton, k0_part44_eq_skeleton]
  unfold k0_part43_skel k0_part44_skel
  simp only [semSignalWord, semWaitWord, storeSubelements, Prog.lift, Prog.bind_op, Prog.bind_ret, Prog.pure_eq_ret, wp_deviceId]
  iapply (wp_wait8 m 0 4 (above_D c 1 (by decide) 12 (by decide)) rfl rfl rfl rfl rfl rfl rfl rfl) $$ [HO S0]
  · isplitr; · iexact HL
    isplitl [HO]; · iexact HO
    iexact S0
  iintro ⟨HO, S0⟩
  rw [k0_part45_eq_skeleton, k0_part46_eq_skeleton, k0_part47_eq_skeleton, k0_part48_eq_skeleton]
  unfold k0_part45_skel k0_part46_skel k0_part47_skel k0_part48_skel
  simp only [semSignalWord, semWaitWord, storeSubelements, Prog.lift, Prog.bind_op, Prog.bind_ret, Prog.pure_eq_ret, wp_deviceId]
  iapply (wp_stage4 m 0 4 16 20 1 4 5 6 7 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S0 Hq Hl1 Ha]
  · isplitl [S0]; · iexact S0
    isplitl [Hq]; · iexact Hq
    isplitl [Hl1]; · iexact Hl1
    iexact Ha
  iintro ⟨S0, Hq, Hl1, Ha⟩
  rw [k0_part49_eq_skeleton, k0_part50_eq_skeleton]
  unfold k0_part49_skel k0_part50_skel
  simp only [semSignalWord, semWaitWord, storeSubelements, Prog.lift, Prog.bind_op, Prog.bind_ret, Prog.pure_eq_ret, wp_deviceId]
  iapply (wp_start8 m 0 6 (by decide) ((k0_off26_eq c).trans (off_row c)) ((k0_off27_eq c).trans (off_row c)) ((k0_off28_eq c).trans (off_row c)) ((k0_off29_eq c).trans (off_row c)) rfl rfl rfl rfl rfl rfl rfl rfl) $$ S0; iintro S0
  rw [k0_part51_eq_skeleton, k0_part52_eq_skeleton]
  unfold k0_part51_skel k0_part52_skel
  simp only [semSignalWord, semWaitWord, storeSubelements, Prog.lift, Prog.bind_op, Prog.bind_ret, Prog.pure_eq_ret, wp_deviceId]
  iapply (wp_wait8 m 1 5 (above_D c 1 (by decide) 12 (by decide)) rfl rfl rfl rfl rfl rfl rfl rfl) $$ [HO S1]
  · isplitr; · iexact HL
    isplitl [HO]; · iexact HO
    iexact S1
  iintro ⟨HO, S1⟩
  rw [k0_part53_eq_skeleton, k0_part54_eq_skeleton, k0_part55_eq_skeleton, k0_part56_eq_skeleton]
  unfold k0_part53_skel k0_part54_skel k0_part55_skel k0_part56_skel
  simp only [semSignalWord, semWaitWord, storeSubelements, Prog.lift, Prog.bind_op, Prog.bind_ret, Prog.pure_eq_ret, wp_deviceId]
  iapply (wp_stage4 m 1 5 20 24 1 4 5 6 7 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S1 Hq Hl1 Ha]
  · isplitl [S1]; · iexact S1
    isplitl [Hq]; · iexact Hq
    isplitl [Hl1]; · iexact Hl1
    iexact Ha
  iintro ⟨S1, Hq, Hl1, Ha⟩
  rw [k0_part57_eq_skeleton, k0_part58_eq_skeleton]
  unfold k0_part57_skel k0_part58_skel
  simp only [semSignalWord, semWaitWord, storeSubelements, Prog.lift, Prog.bind_op, Prog.bind_ret, Prog.pure_eq_ret, wp_deviceId]
  iapply (wp_start8 m 1 7 (by decide) ((k0_off30_eq c).trans (off_row c)) ((k0_off31_eq c).trans (off_row c)) ((k0_off32_eq c).trans (off_row c)) ((k0_off33_eq c).trans (off_row c)) rfl rfl rfl rfl rfl rfl rfl rfl) $$ S1; iintro S1
  rw [k0_part59_eq_skeleton, k0_part60_eq_skeleton]
  unfold k0_part59_skel k0_part60_skel
  simp only [semSignalWord, semWaitWord, storeSubelements, Prog.lift, Prog.bind_op, Prog.bind_ret, Prog.pure_eq_ret, wp_deviceId]
  iapply (wp_wait8 m 0 6 (above_D c 1 (by decide) 12 (by decide)) rfl rfl rfl rfl rfl rfl rfl rfl) $$ [HO S0]
  · isplitr; · iexact HL
    isplitl [HO]; · iexact HO
    iexact S0
  iintro ⟨HO, S0⟩
  rw [k0_part96_eq_skeleton]
  unfold k0_part96_skel
  rw [k0_part61_eq_skeleton, k0_part62_eq_skeleton, k0_part63_eq_skeleton, k0_part64_eq_skeleton]
  unfold k0_part61_skel k0_part62_skel k0_part63_skel k0_part64_skel
  simp only [semSignalWord, semWaitWord, storeSubelements, Prog.lift, Prog.bind_op, Prog.bind_ret, Prog.pure_eq_ret, wp_deviceId]
  iapply (wp_stage4 m 0 6 24 28 1 4 5 6 7 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S0 Hq Hl1 Ha]
  · isplitl [S0]; · iexact S0
    isplitl [Hq]; · iexact Hq
    isplitl [Hl1]; · iexact Hl1
    iexact Ha
  iintro ⟨S0, Hq, Hl1, Ha⟩
  rw [k0_part65_eq_skeleton, k0_part66_eq_skeleton]
  unfold k0_part65_skel k0_part66_skel
  simp only [semSignalWord, semWaitWord, storeSubelements, Prog.lift, Prog.bind_op, Prog.bind_ret, Prog.pure_eq_ret, wp_deviceId]
  iapply (wp_wait8 m 1 7 (above_D c 1 (by decide) 12 (by decide)) rfl rfl rfl rfl rfl rfl rfl rfl) $$ [HO S1]
  · isplitr; · iexact HL
    isplitl [HO]; · iexact HO
    iexact S1
  iintro ⟨HO, S1⟩
  rw [k0_part67_eq_skeleton, k0_part68_eq_skeleton, k0_part69_eq_skeleton, k0_part70_eq_skeleton]
  unfold k0_part67_skel k0_part68_skel k0_part69_skel k0_part70_skel
  simp only [semSignalWord, semWaitWord, storeSubelements, Prog.lift, Prog.bind_op, Prog.bind_ret, Prog.pure_eq_ret, wp_deviceId]
  iapply (wp_stage4 m 1 7 28 32 1 4 5 6 7 (by decide) rfl rfl rfl rfl (fun _ _ _ => rfl) (fun _ _ _ _ => rfl) rfl (fun _ _ _ => rfl) (fun _ _ _ _ => rfl) rfl (fun _ _ _ => rfl) (fun _ _ _ _ => rfl) rfl (fun _ _ _ => rfl) (fun _ _ _ _ => rfl)) $$ [S1 Hq Hl1 Ha]
  · isplitl [S1]; · iexact S1
    isplitl [Hq]; · iexact Hq
    isplitl [Hl1]; · iexact Hl1
    iexact Ha
  iintro ⟨S1, Hq, Hl1, Ha⟩
  rw [k0_part71_eq_skeleton, k0_part72_eq_skeleton, k0_part73_eq_skeleton]
  unfold k0_part71_skel k0_part72_skel k0_part73_skel
  simp only [semSignalWord, semWaitWord, storeSubelements, Prog.lift, Prog.bind_op, Prog.bind_ret, Prog.pure_eq_ret, wp_deviceId]
  iapply (wp_spack m 1 4 32 rfl (by decide) (fun _ => rfl)) $$ [Ha Hs1]
  · isplitl [Ha]; · iexact Ha
    iexact Hs1
  iintro ⟨Ha, Hs1⟩
  iapply (wp_zsend6 m K 1 4 (by decide) rfl (dv13 c) (dv14 c) rfl rfl rfl rfl (dv15 c) (dv16 c) rfl rfl rfl rfl (dv17 c) (dv18 c) rfl rfl rfl rfl) $$ [HO Z1 Hs1 Hl1]
  · isplitr; · iexact HI
    isplitl [HO]; · iexact HO
    isplitl [Z1]; · iexact Z1
    isplitl [Hs1]; · iexact Hs1
    iexact Hl1
  iintro ⟨HO, Z1⟩
  rw [k0_part74_eq_skeleton, k0_part75_eq_skeleton, k0_part76_eq_skeleton, k0_part77_eq_skeleton, k0_part78_eq_skeleton]
  unfold k0_part74_skel k0_part75_skel k0_part76_skel k0_part77_skel k0_part78_skel
  simp only [semSignalWord, semWaitWord, storeSubelements, Prog.lift, Prog.bind_op, Prog.bind_ret, Prog.pure_eq_ret, wp_deviceId]
  iapply (wp_zwait12 m K 0 0 (by decide) (above_D6 c 6 (le_refl _)) rfl rfl rfl rfl rfl rfl rfl rfl rfl rfl rfl rfl) $$ [HO Z0 R0]
  · isplitr; · iexact HI
    isplitr; · iexact HL
    isplitl [HO]; · iexact HO
    isplitl [Z0]; · iexact Z0
    iexact R0
  iintro ⟨HO, Z0, Hs0, Hl0, R0⟩
  rw [k0_part79_eq_skeleton]
  unfold k0_part79_skel
  simp only [semSignalWord, semWaitWord, storeSubelements, Prog.lift, Prog.bind_op, Prog.bind_ret, Prog.pure_eq_ret, wp_deviceId]
  ihave Ha := (Entails.of_eq (afPts_zero m)) $$ Ha
  iapply (wp_asum m 0 0 rfl (by decide) (fun _ _ _ _ => rfl)) $$ [Ha R0]
  · isplitl [Ha]; · iexact Ha
    iexact R0
  iintro ⟨Ha, R0⟩
  iapply (wp_lsum m 0 0 rfl (by decide) (fun _ _ _ _ => rfl)) $$ [Hl0 R0]
  · isplitl [Hl0]; · iexact Hl0
    iexact R0
  iintro ⟨Hl0, R0⟩
  rw [k0_part80_eq_skeleton]
  unfold k0_part80_skel
  simp only [semSignalWord, semWaitWord, storeSubelements, Prog.lift, Prog.bind_op, Prog.bind_ret, Prog.pure_eq_ret, wp_deviceId]
  ihave Ho0 := (oPart_start m 0) $$ Ho0
  iapply (wp_head m 0 0 (by decide) rfl ((k0_off34_eq c).trans (off_row c)) ((k0_off35_eq c).trans (off_row c)) rfl (fun _ _ _ => rfl) (fun _ _ => rfl)) $$ [Hl0 Ha Ho0]
  · isplitl [Hl0]; · iexact Hl0
    isplitl [Ha]; · iexact Ha
    iexact Ho0
  iintro ⟨Hl0, Ha, Ho0⟩
  iapply (wp_head m 1 0 (by decide) rfl ((k0_off36_eq c).trans (off_row c)) ((k0_off37_eq c).trans (off_row c)) rfl (fun _ _ _ => rfl) (fun _ _ => rfl)) $$ [Hl0 Ha Ho0]
  · isplitl [Hl0]; · iexact Hl0
    isplitl [Ha]; · iexact Ha
    iexact Ho0
  iintro ⟨Hl0, Ha, Ho0⟩
  iapply (wp_head m 2 0 (by decide) rfl ((k0_off38_eq c).trans (off_row c)) ((k0_off39_eq c).trans (off_row c)) rfl (fun _ _ _ => rfl) (fun _ _ => rfl)) $$ [Hl0 Ha Ho0]
  · isplitl [Hl0]; · iexact Hl0
    isplitl [Ha]; · iexact Ha
    iexact Ho0
  iintro ⟨Hl0, Ha, Ho0⟩
  iapply (wp_head m 3 0 (by decide) rfl ((k0_off40_eq c).trans (off_row c)) ((k0_off41_eq c).trans (off_row c)) rfl (fun _ _ _ => rfl) (fun _ _ => rfl)) $$ [Hl0 Ha Ho0]
  · isplitl [Hl0]; · iexact Hl0
    isplitl [Ha]; · iexact Ha
    iexact Ho0
  iintro ⟨Hl0, Ha, Ho0⟩
  ihave Ho0 := (oPart_end m 0) $$ Ho0
  rw [k0_part81_eq_skeleton, k0_part82_eq_skeleton]
  unfold k0_part81_skel k0_part82_skel
  simp only [semSignalWord, semWaitWord, storeSubelements, Prog.lift, Prog.bind_op, Prog.bind_ret, Prog.pure_eq_ret, wp_deviceId]
  iapply (wp_gsend3 m K 0 (by decide) ((k0_off42_eq c).trans (off_row c)) (dv19 c) rfl rfl (dv20 c) rfl rfl (dv21 c) rfl rfl) $$ [HO Y0 Ho0]
  · isplitr; · iexact HI
    isplitl [HO]; · iexact HO
    isplitl [Y0]; · iexact Y0
    iexact Ho0
  iintro ⟨HO, Y0⟩
  rw [k0_part83_eq_skeleton, k0_part84_eq_skeleton, k0_part85_eq_skeleton, k0_part86_eq_skeleton]
  unfold k0_part83_skel k0_part84_skel k0_part85_skel k0_part86_skel
  simp only [semSignalWord, semWaitWord, storeSubelements, Prog.lift, Prog.bind_op, Prog.bind_ret, Prog.pure_eq_ret, wp_deviceId]
  iapply (wp_zwait12 m K 1 4 (by decide) (above_D6 c 3 (by decide)) rfl rfl rfl rfl rfl rfl rfl rfl rfl rfl rfl rfl) $$ [HO Z1 R1]
  · isplitr; · iexact HI
    isplitr; · iexact HL
    isplitl [HO]; · iexact HO
    isplitl [Z1]; · iexact Z1
    iexact R1
  iintro ⟨HO, Z1, Hs1, Hl1, R1⟩
  rw [k0_part87_eq_skeleton]
  unfold k0_part87_skel
  simp only [semSignalWord, semWaitWord, storeSubelements, Prog.lift, Prog.bind_op, Prog.bind_ret, Prog.pure_eq_ret, wp_deviceId]
  iapply (wp_asum m 1 4 rfl (by decide) (fun _ _ _ _ => rfl)) $$ [Ha R1]
  · isplitl [Ha]; · iexact Ha
    iexact R1
  iintro ⟨Ha, R1⟩
  iapply (wp_lsum m 1 4 rfl (by decide) (fun _ _ _ _ => rfl)) $$ [Hl1 R1]
  · isplitl [Hl1]; · iexact Hl1
    iexact R1
  iintro ⟨Hl1, R1⟩
  rw [k0_part88_eq_skeleton, k0_part89_eq_skeleton]
  unfold k0_part88_skel k0_part89_skel
  simp only [semSignalWord, semWaitWord, storeSubelements, Prog.lift, Prog.bind_op, Prog.bind_ret, Prog.pure_eq_ret, wp_deviceId]
  ihave Ho1 := (oPart_start m 1) $$ Ho1
  iapply (wp_head m 4 1 (by decide) rfl ((k0_off43_eq c).trans (off_row c)) ((k0_off44_eq c).trans (off_row c)) rfl (fun _ _ _ => rfl) (fun _ _ => rfl)) $$ [Hl1 Ha Ho1]
  · isplitl [Hl1]; · iexact Hl1
    isplitl [Ha]; · iexact Ha
    iexact Ho1
  iintro ⟨Hl1, Ha, Ho1⟩
  iapply (wp_head m 5 1 (by decide) rfl ((k0_off45_eq c).trans (off_row c)) ((k0_off46_eq c).trans (off_row c)) rfl (fun _ _ _ => rfl) (fun _ _ => rfl)) $$ [Hl1 Ha Ho1]
  · isplitl [Hl1]; · iexact Hl1
    isplitl [Ha]; · iexact Ha
    iexact Ho1
  iintro ⟨Hl1, Ha, Ho1⟩
  iapply (wp_head m 6 1 (by decide) rfl ((k0_off47_eq c).trans (off_row c)) ((k0_off48_eq c).trans (off_row c)) rfl (fun _ _ _ => rfl) (fun _ _ => rfl)) $$ [Hl1 Ha Ho1]
  · isplitl [Hl1]; · iexact Hl1
    isplitl [Ha]; · iexact Ha
    iexact Ho1
  iintro ⟨Hl1, Ha, Ho1⟩
  iapply (wp_head m 7 1 (by decide) rfl ((k0_off49_eq c).trans (off_row c)) ((k0_off50_eq c).trans (off_row c)) rfl (fun _ _ _ => rfl) (fun _ _ => rfl)) $$ [Hl1 Ha Ho1]
  · isplitl [Hl1]; · iexact Hl1
    isplitl [Ha]; · iexact Ha
    iexact Ho1
  iintro ⟨Hl1, Ha, Ho1⟩
  ihave Ho1 := (oPart_end m 1) $$ Ho1
  rw [k0_part90_eq_skeleton]
  unfold k0_part90_skel
  simp only [semSignalWord, semWaitWord, storeSubelements, Prog.lift, Prog.bind_op, Prog.bind_ret, Prog.pure_eq_ret, wp_deviceId]
  iapply (wp_gsend3 m K 1 (by decide) ((k0_off51_eq c).trans (off_row c)) (dv22 c) rfl rfl (dv23 c) rfl rfl (dv24 c) rfl rfl) $$ [HO Y1 Ho1]
  · isplitr; · iexact HI
    isplitl [HO]; · iexact HO
    isplitl [Y1]; · iexact Y1
    iexact Ho1
  iintro ⟨HO, Y1⟩
  rw [k0_part91_eq_skeleton, k0_part92_eq_skeleton, k0_part93_eq_skeleton, k0_part94_eq_skeleton]
  unfold k0_part91_skel k0_part92_skel k0_part93_skel k0_part94_skel
  simp only [semSignalWord, semWaitWord, storeSubelements, Prog.lift, Prog.bind_op, Prog.bind_ret, Prog.pure_eq_ret, wp_deviceId]
  iapply (wp_gwait6 m K 0 (by decide) (above_zero 4) rfl rfl rfl rfl rfl rfl) $$ [HO Y0 RG0]
  · isplitr; · iexact HI
    isplitr; · iexact HL
    isplitl [HO]; · iexact HO
    isplitl [Y0]; · iexact Y0
    iexact RG0
  iintro ⟨HO, Y0, Ho0, RG0⟩
  iapply (wp_gwait6 m K 1 (by decide) (above_zero 4) rfl rfl rfl rfl rfl rfl) $$ [HO Y1 RG1]
  · isplitr; · iexact HI
    isplitr; · iexact HL
    isplitl [HO]; · iexact HO
    isplitl [Y1]; · iexact Y1
    iexact RG1
  iintro ⟨HO, Y1, Ho1, RG1⟩
  ihave HOo := (o_join m c) $$ [Ho0 Ho1 RG0 RG1]
  · isplitl [Ho0]; · iexact Ho0
    isplitl [Ho1]; · iexact Ho1
    isplitl [RG0] <;> iassumption
  iapply (wp_out m (fun _ => rfl)) $$ [HOo Hw]
  · isplitl [HOo]; · iexact HOo
    iexact Hw
  iintro ⟨HOo, Hw⟩
  unfold wpc
  rw [wp_ret]
  imodintro
  iapply HK
  unfold post zeros after
  isplitl [HO]; · iexact HO
  isplitl [Hb Z0 Z1 Y0 Y1]
  · isplitl [Hb]; · iexact Hb
    isplitl [Z0]; · iexact Z0
    isplitl [Z1]; · iexact Z1
    isplitl [Y0]; · iexact Y0
    iexact Y1
  isplitr [HQ Hw]
  · isplitl [S0]; · iexact S0
    isplitl [S1]; · iexact S1
    isplitl [Hs0]; · iexact Hs0
    isplitl [Hs1]; · iexact Hs1
    isplitl [R0]; · iexact R0
    isplitl [R1]; · iexact R1
    isplitl [Hq]; · iexact Hq
    isplitl [Ha]; · iexact Ha
    isplitl [Hl0]; · iexact Hl0
    isplitl [Hl1]; · iexact Hl1
    iexact HOo
  isplitl [HQ] <;> iassumption

end Body

end Cert.KernelIdeal.Run

end
-- ==== Proof.Run.Pieces.lean ====
/-
# A device's buffers in pieces

The buffers the launch gives a device whole, each cut into the pieces the body works with, and the pieces of the end put
back together: the two slots of four chunks for the keys and the values, the two groups of the sums to send, and the
pieces of the landing buffers and of the result, some of which the device's barrier signals hand over.
-/
module

public import proofs.«01_k».proof.Proof.Run.Body

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Generic
variable {ℓ : Loc nD τ sig} {T : Type} [Fintype T] [DecidableEq T]

omit [FloatOps F] in
/-- A buffer at some contents, by pieces that partition it. -/
theorem ex_split (P : T → Finset (Idx ℓ)) (hu : (Finset.univ : Finset (Idx ℓ)) = Finset.univ.biUnion P)
    (hd : ∀ t t', t ≠ t' → Disjoint (P t) (P t')) :
    iprop(∃ f : Buf (Elt F) ℓ, ℓ ↦{fullShare} f) ⊢ (bigSep Finset.univ fun t => iprop(∃ f : Buf (Elt F) ℓ, ℓ ↦[P t]{fullShare} f) : sProp 𝕄) := by
  have h : ∀ f : Buf (Elt F) ℓ, (ℓ ↦{fullShare} f : sProp 𝕄) ⊢ bigSep Finset.univ fun t => iprop(∃ f : Buf (Elt F) ℓ, ℓ ↦[P t]{fullShare} f) := fun f => by
    have h1 : (ℓ ↦{fullShare} f : sProp 𝕄) = bigSep Finset.univ fun t => ℓ ↦[P t]{fullShare} f := by
      rw [← pointsTo_biUnion Finset.univ P fun t _ t' _ => hd t t', ← hu]
    rw [h1]
    exact bigSep_mono fun t _ => (show (ℓ ↦[P t]{fullShare} f : sProp 𝕄) ⊢ iprop(∃ f : Buf (Elt F) ℓ, ℓ ↦[P t]{fullShare} f) from by
      iintro H; iexists f; iexact H)
  iintro ⟨%f, H⟩
  iapply (h f)
  iexact H

theorem ex_join [∀ e, Nonempty (Elt F e)] (P : T → Finset (Idx ℓ)) (hu : (Finset.univ : Finset (Idx ℓ)) = Finset.univ.biUnion P)
    (hd : ∀ t t', t ≠ t' → Disjoint (P t) (P t')) :
    (bigSep Finset.univ fun t => iprop(∃ f : Buf (Elt F) ℓ, ℓ ↦[P t]{fullShare} f) : sProp 𝕄) ⊢ iprop(∃ f : Buf (Elt F) ℓ, ℓ ↦{fullShare} f) := by
  iintro H
  ihave H := (BI.bigSep_exists_pi Finset.univ (fun (t : T) (f : Buf (Elt F) ℓ) => (ℓ ↦[P t]{fullShare} f : sProp 𝕄))) $$ H
  icases H with ⟨%fs, H⟩
  ihave H := (pointsTo_biUnion_join Finset.univ P fs (Classical.arbitrary _) fun t _ t' _ => hd t t') $$ H
  icases H with ⟨%g, -, H⟩
  iexists g
  rw [← hu]
  iexact H
end Generic

/-! ## Groups of three -/

/-- One resource per group of heads and peer slot. -/
def gt (P : ℕ → ℕ → sProp 𝕄) : sProp 𝕄 := bigSep Finset.univ fun x : Fin 2 × Fin 3 => P x.1.val x.2.val

omit [FloatOps F] in
theorem gt_eq (P : ℕ → ℕ → sProp 𝕄) : gt P = iprop(tri (P 0) ∗ tri (P 1)) := by
  unfold gt tri
  rw [bigSep_univ_prod, bigSep_univ_two, bigSep_univ_eq_bigSepL [0, 1, 2] (by decide) (by decide), bigSep_univ_eq_bigSepL [0, 1, 2] (by decide) (by decide)]
  rfl
omit [FloatOps F] in
theorem gt_sep (P Q : ℕ → ℕ → sProp 𝕄) : gt (fun g j => iprop(P g j ∗ Q g j)) = iprop(gt P ∗ gt Q) := bigSep_sep' _ _ _
omit [FloatOps F] in
theorem gt_mono {P Q : ℕ → ℕ → sProp 𝕄} (h : ∀ g j, g < 2 → j < 3 → P g j ⊢ Q g j) : gt P ⊢ gt Q :=
  bigSep_mono fun x _ => h _ _ x.1.isLt x.2.isLt

/-! ## The chunks' slots -/

theorem slot_cover : (Finset.univ : Finset S2x4x1024x128.Idx) = (Finset.univ : Finset (Fin 2 × Fin 4)).biUnion fun t => slotSet t.1.val t.2.val := by
  ext i
  exact ⟨fun _ => Finset.mem_biUnion.2 ⟨(⟨(i 0).val, (i 0).isLt⟩, ⟨(i 1).val, (i 1).isLt⟩), Finset.mem_univ _, Finset.mem_filter.2 ⟨Finset.mem_univ _, rfl, rfl⟩⟩,
    fun _ => Finset.mem_univ _⟩
theorem slot_disj (t t' : Fin 2 × Fin 4) (h : t ≠ t') : Disjoint (slotSet t.1.val t.2.val) (slotSet t'.1.val t'.2.val) :=
  Finset.disjoint_left.2 fun i hi hi' => by
    have h1 := (Finset.mem_filter.1 hi).2; have h2 := (Finset.mem_filter.1 hi').2
    exact h (Prod.ext (Fin.ext (h1.1.symm.trans h2.1)) (Fin.ext (h1.2.symm.trans h2.2)))

/-- One resource per slot and local head. -/
def st (P : ℕ → ℕ → sProp 𝕄) : sProp 𝕄 := bigSep Finset.univ fun x : Fin 2 × Fin 4 => P x.1.val x.2.val

omit [FloatOps F] in
theorem st_sep (P Q : ℕ → ℕ → sProp 𝕄) : st (fun g j => iprop(P g j ∗ Q g j)) = iprop(st P ∗ st Q) := bigSep_sep' _ _ _
omit [FloatOps F] in
theorem st_eq8 (P : Fin 8 → sProp 𝕄) : st (fun s hl => P (slotIx s hl)) = bigSep Finset.univ P := by
  unfold st
  rw [bigSep_univ_equiv (finProdFinEquiv : Fin 2 × Fin 4 ≃ Fin 8) P]
  exact bigSep_congr fun x _ => congrArg P (by revert x; decide)
omit [FloatOps F] in
theorem st_share {ℓ : Loc nD τ sig} (f : Buf (Elt F) ℓ) : st (fun s hl => ℓ ↦{kvShare s hl} f) = (ℓ ↦{fullShare} f : sProp 𝕄) := by
  unfold kvShare
  rw [st_eq8 fun i => (ℓ ↦{dealOf fullShare (Finset.univ : Finset (Fin 8)) i} f : sProp 𝕄)]
  exact (pointsTo_deal Finset.univ Finset.univ_nonempty fullShare).symm

/-- The counters of the chunks' copies. -/
def kvSems (c : Dev nD) : sProp 𝕄 :=
  iprop(st (fun s hl => semVal ((c : Thread nD τ), .dma (kSem s hl)) 0) ∗ st (fun s hl => semVal ((c : Thread nD τ), .dma (vSem s hl)) 0))

omit [FloatOps F] in
theorem slots_st (c : Dev nD) : iprop(slotIdle m c 0 ∗ slotIdle m c 1) = st (fun s hl => kvIdle m c s hl) := by
  unfold slotIdle four st
  rw [bigSep_univ_prod, bigSep_univ_two, bigSep_univ_eq_bigSepL [0, 1, 2, 3] (by decide) (by decide), bigSep_univ_eq_bigSepL [0, 1, 2, 3] (by decide) (by decide)]
  rfl

omit [FloatOps F] in
theorem slots_eq (c : Dev nD) : iprop(slotIdle m c 0 ∗ slotIdle m c 1) =
    iprop((st (fun s hl => iprop(∃ f, lcKb c ↦[slotSet s hl]{fullShare} f)) ∗ (lcK c ↦{fullShare} Km m c) ∗ st (fun s hl => semVal ((c : Thread nD τ), .dma (kSem s hl)) 0))
      ∗ (st (fun s hl => iprop(∃ f, lcVb c ↦[slotSet s hl]{fullShare} f)) ∗ (lcV c ↦{fullShare} Vm m c) ∗ st (fun s hl => semVal ((c : Thread nD τ), .dma (vSem s hl)) 0))) := by
  rw [slots_st, ← st_share (ℓ := lcK c) (Km m c), ← st_share (ℓ := lcV c) (Vm m c), ← st_sep, ← st_sep, ← st_sep, ← st_sep, ← st_sep]
  rfl

omit [FloatOps F] in
theorem slots_intro (c : Dev nD) :
    iprop((∃ f, lcKb c ↦{fullShare} f) ∗ (∃ f, lcVb c ↦{fullShare} f) ∗ (lcK c ↦{fullShare} Km m c) ∗ (lcV c ↦{fullShare} Vm m c) ∗ kvSems c)
      ⊢ iprop(slotIdle m c 0 ∗ slotIdle m c 1) := by
  rw [slots_eq]
  unfold kvSems
  iintro ⟨HK, HV, HA, HB, HS, HT⟩
  ihave HK := (ex_split (F := F) (ℓ := lcKb c) (fun t : Fin 2 × Fin 4 => slotSet t.1.val t.2.val) slot_cover slot_disj) $$ HK
  ihave HV := (ex_split (F := F) (ℓ := lcVb c) (fun t : Fin 2 × Fin 4 => slotSet t.1.val t.2.val) slot_cover slot_disj) $$ HV
  isplitl [HK HA HS]
  · isplitl [HK]; · unfold st; iexact HK
    isplitl [HA] <;> iassumption
  isplitl [HV]; · unfold st; iexact HV
  isplitl [HB] <;> iassumption

theorem slots_elim (c : Dev nD) :
    iprop(slotIdle m c 0 ∗ slotIdle m c 1)
      ⊢ iprop((∃ f, lcKb c ↦{fullShare} f) ∗ (∃ f, lcVb c ↦{fullShare} f) ∗ (lcK c ↦{fullShare} Km m c) ∗ (lcV c ↦{fullShare} Vm m c) ∗ kvSems (F := F) c) := by
  rw [slots_eq]
  unfold kvSems
  iintro ⟨⟨HK, HA, HS⟩, HV, HB, HT⟩
  unfold st
  ihave HK := (ex_join (F := F) (ℓ := lcKb c) (fun t : Fin 2 × Fin 4 => slotSet t.1.val t.2.val) slot_cover slot_disj) $$ HK
  ihave HV := (ex_join (F := F) (ℓ := lcVb c) (fun t : Fin 2 × Fin 4 => slotSet t.1.val t.2.val) slot_cover slot_disj) $$ HV
  isplitl [HK]; · iexact HK
  isplitl [HV]; · iexact HV
  isplitl [HA]; · iexact HA
  isplitl [HB]; · iexact HB
  isplitl [HS] <;> iassumption

/-! ## The sums to send -/

theorem s_cover : (Finset.univ : Finset S8x32x128.Idx) = (Finset.univ : Finset (Fin 2)).biUnion fun t => sSet t.val := by
  ext i
  have h0 : (i 0).val < 8 := (i 0).isLt
  exact ⟨fun _ => Finset.mem_biUnion.2 ⟨⟨(i 0).val / 4, by omega⟩, Finset.mem_univ _, Finset.mem_filter.2 ⟨Finset.mem_univ _, rfl⟩⟩, fun _ => Finset.mem_univ _⟩
theorem s_disj (t t' : Fin 2) (h : t ≠ t') : Disjoint (sSet t.val) (sSet t'.val) :=
  Finset.disjoint_left.2 fun i hi hi' => h (Fin.ext ((Finset.mem_filter.1 hi).2.symm.trans (Finset.mem_filter.1 hi').2))

omit [FloatOps F] in
theorem s_intro (c : Dev nD) : iprop(∃ f, lcS c ↦{fullShare} f)
    ⊢ (iprop((∃ f : Buf (Elt F) (lcS c), lcS c ↦[sSet 0]{fullShare} f) ∗ (∃ f : Buf (Elt F) (lcS c), lcS c ↦[sSet 1]{fullShare} f)) : sProp 𝕄) :=
  (ex_split (F := F) (ℓ := lcS c) (fun t : Fin 2 => sSet t.val) s_cover s_disj).trans (Entails.of_eq (bigSep_univ_two _))

theorem s_elim (c : Dev nD) : iprop(sPts m c 0 ∗ sPts m c 1) ⊢ (iprop(∃ f, lcS c ↦{fullShare} f) : sProp 𝕄) := by
  have h := ex_join (F := F) (ℓ := lcS c) (fun t : Fin 2 => sSet t.val) s_cover s_disj
  rw [bigSep_univ_two] at h
  unfold sPts
  iintro ⟨H0, H1⟩
  iapply h
  isplitl [H0]
  · iexists _; iexact H0
  · iexists _; iexact H1

/-! ## The landing buffers -/

theorem r_cover : (Finset.univ : Finset S3x8x32x128.Idx) = (Finset.univ : Finset (Fin 2 × Fin 3)).biUnion fun t => rSet t.2.val t.1.val := by
  ext i
  have h1 : (i 1).val < 8 := (i 1).isLt
  exact ⟨fun _ => Finset.mem_biUnion.2 ⟨(⟨(i 1).val / 4, by omega⟩, ⟨(i 0).val, (i 0).isLt⟩), Finset.mem_univ _, Finset.mem_filter.2 ⟨Finset.mem_univ _, rfl, rfl⟩⟩, fun _ => Finset.mem_univ _⟩
theorem r_disj (t t' : Fin 2 × Fin 3) (h : t ≠ t') : Disjoint (rSet t.2.val t.1.val) (rSet t'.2.val t'.1.val) :=
  Finset.disjoint_left.2 fun i hi hi' => by
    have h1 := (Finset.mem_filter.1 hi).2; have h2 := (Finset.mem_filter.1 hi').2
    exact h (Prod.ext (Fin.ext (h1.2.symm.trans h2.2)) (Fin.ext (h1.1.symm.trans h2.1)))
theorem rl_cover : (Finset.univ : Finset S3x8x32x8.Idx) = (Finset.univ : Finset (Fin 2 × Fin 3)).biUnion fun t => rlSet t.2.val t.1.val := by
  ext i
  have h1 : (i 1).val < 8 := (i 1).isLt
  exact ⟨fun _ => Finset.mem_biUnion.2 ⟨(⟨(i 1).val / 4, by omega⟩, ⟨(i 0).val, (i 0).isLt⟩), Finset.mem_univ _, Finset.mem_filter.2 ⟨Finset.mem_univ _, rfl, rfl⟩⟩, fun _ => Finset.mem_univ _⟩
theorem rl_disj (t t' : Fin 2 × Fin 3) (h : t ≠ t') : Disjoint (rlSet t.2.val t.1.val) (rlSet t'.2.val t'.1.val) :=
  Finset.disjoint_left.2 fun i hi hi' => by
    have h1 := (Finset.mem_filter.1 hi).2; have h2 := (Finset.mem_filter.1 hi').2
    exact h (Prod.ext (Fin.ext (h1.2.symm.trans h2.2)) (Fin.ext (h1.1.symm.trans h2.1)))

omit [FloatOps F] in
theorem r_intro (c : Dev nD) : iprop(∃ f, lcR c ↦{fullShare} f) ⊢ gt (F := F) fun g j => iprop(∃ f, lcR c ↦[rSet j g]{fullShare} f) :=
  ex_split (F := F) (ℓ := lcR c) (fun t : Fin 2 × Fin 3 => rSet t.2.val t.1.val) r_cover r_disj
omit [FloatOps F] in
theorem rl_intro (c : Dev nD) : iprop(∃ f, lcRl c ↦{fullShare} f) ⊢ gt (F := F) fun g j => iprop(∃ f, lcRl c ↦[rlSet j g]{fullShare} f) :=
  ex_split (F := F) (ℓ := lcRl c) (fun t : Fin 2 × Fin 3 => rlSet t.2.val t.1.val) rl_cover rl_disj

theorem r_elim (c : Dev nD) : iprop(tri (zr2 m c 0) ∗ tri (zr2 m c 1)) ⊢ iprop((∃ f, lcR c ↦{fullShare} f) ∗ (∃ f, lcRl c ↦{fullShare} f)) := by
  rw [← gt_eq]
  have h : gt (zr2 m c) ⊢ gt fun g j => iprop((∃ f, lcR c ↦[rSet j g]{fullShare} f) ∗ (∃ f, lcRl c ↦[rlSet j g]{fullShare} f)) :=
    gt_mono fun g j _ _ => by
      rw [zr2_eq]
      iintro ⟨H0, H1⟩
      isplitl [H0]
      · iexists _; iexact H0
      · iexists _; iexact H1
  rw [gt_sep] at h
  refine h.trans ?_
  iintro ⟨H0, H1⟩
  isplitl [H0]
  · iapply (ex_join (F := F) (ℓ := lcR c) (fun t : Fin 2 × Fin 3 => rSet t.2.val t.1.val) r_cover r_disj); unfold gt; iexact H0
  · iapply (ex_join (F := F) (ℓ := lcRl c) (fun t : Fin 2 × Fin 3 => rlSet t.2.val t.1.val) rl_cover rl_disj); unfold gt; iexact H1

/-! ## What the barrier signals hand over -/

omit [FloatOps F] in
theorem land_own0 (c : Dev nD) (k : Fin 6) (g j : ℕ) (h : px 0 j = k) : land (F := F) (peer k c) 0 g j = iprop(∃ f, lcR c ↦[rSet j g]{fullShare} f) := by
  subst h
  show iprop(∃ f, lcR (peer (px 0 j) (peer (px 0 j) c)) ↦[rSet j g]{fullShare} f) = _
  rw [peer_peer]
omit [FloatOps F] in
theorem land_own1 (c : Dev nD) (k : Fin 6) (g j : ℕ) (h : px 1 j = k) : land (F := F) (peer k c) 1 g j = iprop(∃ f, lcRl c ↦[rlSet j g]{fullShare} f) := by
  subst h
  show iprop(∃ f, lcRl (peer (px 1 j) (peer (px 1 j) c)) ↦[rlSet j g]{fullShare} f) = _
  rw [peer_peer]
omit [FloatOps F] in
theorem land_own2 (c : Dev nD) (k : Fin 6) (g j : ℕ) (h : px 2 j = k) :
    land (F := F) (peer k c) 2 g j = iprop(∃ f, lcO c ↦[oSet ((peer (px 2 j) c).val / 4) g]{fullShare} f) := by
  subst h
  show iprop(∃ f, lcO (peer (px 2 j) (peer (px 2 j) c)) ↦[oSet ((peer (px 2 j) c).val / 4) g]{fullShare} f) = _
  rw [peer_peer]

/-- A device's own landing pieces of the result. -/
def oLand (c : Dev nD) : sProp 𝕄 := gt (F := F) fun g j => iprop(∃ f, lcO c ↦[oSet ((peer (px 2 j) c).val / 4) g]{fullShare} f)

omit [FloatOps F] in
theorem o_intro (c : Dev nD) : iprop(∃ f, lcO c ↦{fullShare} f)
    ⊢ iprop((∃ f, lcO c ↦[oSet (c.val / 4) 0]{fullShare} f) ∗ (∃ f, lcO c ↦[oSet (c.val / 4) 1]{fullShare} f) ∗ oLand (F := F) c) := by
  unfold oLand
  rw [gt_eq]
  unfold tri
  iintro ⟨%f, H⟩
  ihave H := (Entails.of_eq (o_split c f)) $$ H
  icases H with ⟨⟨A, B⟩, ⟨C0, D0⟩, ⟨C1, D1⟩, C2, D2⟩
  isplitl [A]; · iexists f; iexact A
  isplitl [B]; · iexists f; iexact B
  isplitl [C0 C1 C2]
  · isplitl [C0]; · iexists f; iexact C0
    isplitl [C1]; · iexists f; iexact C1
    iexists f; iexact C2
  isplitl [D0]; · iexists f; iexact D0
  isplitl [D1]; · iexists f; iexact D1
  iexists f; iexact D2

omit [FloatOps F] in
theorem bar_own (c : Dev nD) :
    iprop((gt (F := F) fun g j => iprop(∃ f, lcR c ↦[rSet j g]{fullShare} f)) ∗ (gt (F := F) fun g j => iprop(∃ f, lcRl c ↦[rlSet j g]{fullShare} f)) ∗ oLand (F := F) c)
      ⊢ bigSep Finset.univ fun k : Fin 6 => barPay (F := F) (peer k c) k := by
  rw [bigSep_univ_eq_bigSepL [0, 1, 2, 3, 4, 5] (by decide) (by decide)]
  show _ ⊢ iprop(iprop(land (peer 0 c) 0 0 0 ∗ land (peer 0 c) 0 1 0 ∗ land (peer 0 c) 1 0 0 ∗ land (peer 0 c) 1 1 0)
    ∗ iprop(land (peer 1 c) 0 0 1 ∗ land (peer 1 c) 0 1 1 ∗ land (peer 1 c) 1 0 1 ∗ land (peer 1 c) 1 1 1)
    ∗ iprop(land (peer 2 c) 0 0 2 ∗ land (peer 2 c) 0 1 2 ∗ land (peer 2 c) 1 0 2 ∗ land (peer 2 c) 1 1 2)
    ∗ iprop(land (peer 3 c) 2 0 0 ∗ land (peer 3 c) 2 1 0) ∗ iprop(land (peer 4 c) 2 0 1 ∗ land (peer 4 c) 2 1 1)
    ∗ iprop(land (peer 5 c) 2 0 2 ∗ land (peer 5 c) 2 1 2))
  simp only [land_own0 c 0 _ 0 rfl, land_own0 c 1 _ 1 rfl, land_own0 c 2 _ 2 rfl, land_own1 c 0 _ 0 rfl, land_own1 c 1 _ 1 rfl, land_own1 c 2 _ 2 rfl,
    land_own2 c 3 _ 0 rfl, land_own2 c 4 _ 1 rfl, land_own2 c 5 _ 2 rfl]
  unfold oLand
  rw [gt_eq, gt_eq, gt_eq]
  unfold tri
  iintro ⟨⟨⟨A0, A1, A2⟩, B0, B1, B2⟩, ⟨⟨C0, C1, C2⟩, D0, D1, D2⟩, ⟨E0, E1, E2⟩, G0, G1, G2⟩
  isplitl [A0 B0 C0 D0]
  · isplitl [A0]; · iexact A0
    isplitl [B0]; · iexact B0
    isplitl [C0]; · iexact C0
    iexact D0
  isplitl [A1 B1 C1 D1]
  · isplitl [A1]; · iexact A1
    isplitl [B1]; · iexact B1
    isplitl [C1]; · iexact C1
    iexact D1
  isplitl [A2 B2 C2 D2]
  · isplitl [A2]; · iexact A2
    isplitl [B2]; · iexact B2
    isplitl [C2]; · iexact C2
    iexact D2
  isplitl [E0 G0]
  · isplitl [E0]; · iexact E0
    iexact G0
  isplitl [E1 G1]
  · isplitl [E1]; · iexact E1
    iexact G1
  isplitl [E2]; · iexact E2
  iexact G2

/-! ## All of them -/

/-- The device's scratch buffers whole, at some contents. -/
def scr (c : Dev nD) : sProp 𝕄 :=
  iprop((∃ f, lcQb c ↦{fullShare} f) ∗ (∃ f, lcKb c ↦{fullShare} f) ∗ (∃ f, lcVb c ↦{fullShare} f) ∗ (∃ f, lcA c ↦{fullShare} f) ∗ (∃ f, lcL c ↦{fullShare} f)
    ∗ (∃ f, lcS c ↦{fullShare} f) ∗ (∃ f, lcR c ↦{fullShare} f) ∗ (∃ f, lcRl c ↦{fullShare} f) ∗ (∃ f : Buf (Elt F) (lcO c), lcO c ↦{fullShare} f))
/-- The two arguments no window stages, as launched. -/
def args (c : Dev nD) : sProp 𝕄 := iprop((lcK c ↦{fullShare} Km m c) ∗ (lcV c ↦{fullShare} Vm m c))

omit [FloatOps F] in
theorem bufs_intro (c : Dev nD) :
    iprop(scr (F := F) c ∗ args m c ∗ kvSems c) ⊢ iprop(bufs m c ∗ bigSep Finset.univ fun k : Fin 6 => barPay (F := F) (peer k c) k) := by
  unfold scr args bufs
  iintro ⟨⟨Hq, HK, HV, HA, HL, HS, HR, HRl, HO⟩, ⟨Ha, Hb⟩, Hs⟩
  ihave H := (slots_intro m c) $$ [HK HV Ha Hb Hs]
  · isplitl [HK]; · iexact HK
    isplitl [HV]; · iexact HV
    isplitl [Ha]; · iexact Ha
    isplitl [Hb] <;> iassumption
  icases H with ⟨H0, H1⟩
  ihave HS := (s_intro (F := F) c) $$ HS
  icases HS with ⟨HS0, HS1⟩
  ihave HO := (o_intro (F := F) c) $$ HO
  icases HO with ⟨HO0, HO1, HOl⟩
  ihave HR := (r_intro (F := F) c) $$ HR
  ihave HRl := (rl_intro (F := F) c) $$ HRl
  ihave HB := (bar_own (F := F) c) $$ [HR HRl HOl]
  · isplitl [HR]; · iexact HR
    isplitl [HRl] <;> iassumption
  isplitr [HB]
  · isplitl [H0]; · iexact H0
    isplitl [H1]; · iexact H1
    isplitl [HS0]; · iexact HS0
    isplitl [HS1]; · iexact HS1
    isplitl [HO0]; · iexact HO0
    isplitl [HO1]; · iexact HO1
    isplitl [Hq]; · iexact Hq
    isplitl [HA] <;> iassumption
  · iexact HB

theorem bufs_elim (c : Dev nD) : after m c ⊢ iprop(scr (F := F) c ∗ args m c ∗ kvSems c) := by
  unfold after
  iintro ⟨H0, H1, S0, S1, Z0, Z1, Hq, Ha, L0, L1, HO⟩
  ihave H := (slots_elim m c) $$ [H0 H1]
  · isplitl [H0] <;> iassumption
  icases H with ⟨HK, HV, HA, HB, HT⟩
  ihave HS := (s_elim m c) $$ [S0 S1]
  · isplitl [S0] <;> iassumption
  ihave HR := (r_elim m c) $$ [Z0 Z1]
  · isplitl [Z0] <;> iassumption
  icases HR with ⟨HR, HRl⟩
  unfold lfPts afPts qPts
  ihave HL := (l_split _).2 $$ [L0 L1]
  · isplitl [L0] <;> iassumption
  unfold scr args
  isplitr [HA HB HT]
  · isplitl [Hq]; · iexists _; iexact Hq
    isplitl [HK]; · iexact HK
    isplitl [HV]; · iexact HV
    isplitl [Ha]; · iexists _; iexact Ha
    isplitl [HL]; · iexists _; iexact HL
    isplitl [HS]; · iexact HS
    isplitl [HR]; · iexact HR
    isplitl [HRl]; · iexact HRl
    iexists _; iexact HO
  isplitr [HT]
  · isplitl [HA] <;> iassumption
  iexact HT

end Cert.KernelIdeal.Run

end
-- ==== Proof.Run.Ghost.lean ====
/-
# The protocol's ghost state

Every device's thirty-seven cells are opened at once, from the counters at zero; the duty tokens, minted by the cell they
belong to, go to the device that pays them; and the launch's credits are what the devices owe one another's cells.
-/
module

public import proofs.«01_k».proof.Proof.Run.Pieces

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's own semaphores -/

abbrev osem : Fin 52 → SemLoc sig := fun i => .dma ⟨2 + i.val, by have := i.isLt; show _ < 54; omega⟩

theorem ownSemFacts : Pipeline.OwnSemFacts cfg0.spec osem := by decide

/-- The counters of the transfers. -/
def xSems (c : Dev nD) : sProp 𝕄 := bigSep Finset.univ fun i : Fin 36 => semVal ((c : Thread nD τ), .dma (xsem i.val)) 0

set_option backward.proofsInPublic true in
/-- The own semaphores in their three runs. -/
def oeq : (Fin 8 ⊕ Fin 8) ⊕ Fin 36 ≃ Fin 52 := (Equiv.sumCongr finSumFinEquiv (Equiv.refl _)).trans finSumFinEquiv

omit [FloatOps F] in
theorem ownSems0_eq (c : Dev nD) : (Pipeline.ownSems0 (Ix := Unit) (Name := ℕ) (U := UU) (Lvl := ℕ) (Val := Elt F) (τ := τ) osem c : sProp 𝕄)
    = iprop(kvSems c ∗ xSems c) := by
  unfold Pipeline.ownSems0 kvSems xSems
  rw [bigSep_univ_equiv oeq, bigSep_univ_sum, bigSep_univ_sum]
  have h1 : ∀ i : Fin 8, osem (oeq (.inl (.inl i))) = .dma ⟨2 + i.val, by have := i.isLt; show _ < 54; omega⟩ := by decide
  have h2 : ∀ i : Fin 8, osem (oeq (.inl (.inr i))) = .dma ⟨10 + i.val, by have := i.isLt; show _ < 54; omega⟩ := by decide
  have h3 : ∀ i : Fin 36, osem (oeq (.inr i)) = .dma (xsem i.val) := by decide
  simp only [h1, h2, h3]
  rw [← st_eq8, ← st_eq8]
  rfl

omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl

/-! ## The transfers' cells by kind -/

set_option backward.proofsInPublic true in
def xeq : Fin 6 × (Fin 2 × Fin 3) ≃ Fin 36 := (Equiv.prodCongr (Equiv.refl _) finProdFinEquiv).trans finProdFinEquiv
theorem xeq_val (x : Fin 6 × (Fin 2 × Fin 3)) : (xeq x).val = 6 * x.1.val + 3 * x.2.1.val + x.2.2.val := by revert x; decide

omit [FloatOps F] in
/-- A resource per transfer cell, kind by kind. -/
theorem x_kinds (Φ : ℕ → sProp 𝕄) : (bigSep Finset.univ fun i : Fin 36 => Φ i.val)
    = iprop(gt (fun g j => Φ (6 * 0 + 3 * g + j)) ∗ gt (fun g j => Φ (6 * 1 + 3 * g + j)) ∗ gt (fun g j => Φ (6 * 2 + 3 * g + j))
      ∗ gt (fun g j => Φ (6 * 3 + 3 * g + j)) ∗ gt (fun g j => Φ (6 * 4 + 3 * g + j)) ∗ gt (fun g j => Φ (6 * 5 + 3 * g + j))) := by
  rw [bigSep_univ_equiv xeq, bigSep_univ_prod, bigSep_univ_eq_bigSepL [0, 1, 2, 3, 4, 5] (by decide) (by decide)]
  simp only [xeq_val]
  rfl

omit [FloatOps F] in
/-- A resource per cell: the barrier's, then the transfers' kind by kind. -/
theorem k_kinds (c : Dev nD) (Φ : GSem nD τ sig → sProp 𝕄) : (bigSep Finset.univ fun k : Fin 37 => Φ (kcell (c, k)))
    = iprop(Φ (bcell c) ∗ gt (fun g j => Φ (pcell c 0 g j)) ∗ gt (fun g j => Φ (pcell c 1 g j)) ∗ gt (fun g j => Φ (pcell c 2 g j))
      ∗ gt (fun g j => Φ (pcell c 3 g j)) ∗ gt (fun g j => Φ (pcell c 4 g j)) ∗ gt (fun g j => Φ (pcell c 5 g j))) := by
  have h : (bigSep Finset.univ fun k : Fin 37 => Φ (kcell (c, k)))
      = iprop(Φ (kcell (c, 0)) ∗ bigSep Finset.univ fun i : Fin 36 => Φ ((c : Thread nD τ), .dma (xsem i.val))) := by
    rw [bigSep_univ_equiv ((finSumFinEquiv : Fin 1 ⊕ Fin 36 ≃ Fin 37)), bigSep_univ_sum, bigSep_univ_eq_bigSepL [0] (by decide) (by decide)]
    exact congrArg (fun X => iprop(Φ (kcell (c, 0)) ∗ X)) (bigSep_congr fun i _ => congrArg Φ (by
      show (if ((finSumFinEquiv (.inr i) : Fin 37)).val = 0 then bcell c else _) = _
      rw [finSumFinEquiv_apply_right, Fin.val_natAdd, if_neg (by omega), Nat.add_sub_cancel_left]))
  rw [h, x_kinds fun n => Φ ((c : Thread nD τ), .dma (xsem n))]
  rfl

/-! ## Cells and duty tokens -/

theorem kcell_injective : Function.Injective (kcell : Dev nD × Fin 37 → GSem nD τ sig) := by
  rintro ⟨c, k⟩ ⟨c', k'⟩ h
  have h1 : c = c' := by
    have := congrArg (fun g : GSem nD τ sig => g.1.1) h
    dsimp only [kcell] at this
    split at this <;> split at this <;> exact this
  subst h1
  have h2 : (kcell (c, k)).2 = (kcell (c, k')).2 := congrArg Prod.snd h
  dsimp only [kcell] at h2
  have hk := k.isLt
  have hk' := k'.isLt
  split at h2 <;> split at h2
  · rename_i ha hb; exact congrArg _ (Fin.ext (ha.trans hb.symm))
  · exact absurd h2 (fun h => by cases h)
  · exact absurd h2 (fun h => by cases h)
  · rename_i ha hb
    have h3 : (xsem (k.val - 1)).val = (xsem (k'.val - 1)).val := congrArg Fin.val (SemLoc.dma.inj h2)
    change 18 + (k.val - 1) % 36 = 18 + (k'.val - 1) % 36 at h3
    rw [Nat.mod_eq_of_lt (by omega), Nat.mod_eq_of_lt (by omega)] at h3
    exact congrArg _ (Fin.ext (by omega))

def pcells : Finset (GSem nD τ sig) := Finset.univ.map ⟨kcell, kcell_injective⟩

/-- A device's own cells' duties: six of the barrier's, one of each transfer cell. -/
def tokOf (x : Dev nD × (Fin 6 ⊕ Fin 36)) : GSem nD τ sig × ℕ × Fin 6 := match x.2 with
  | .inl d => (bcell x.1, 0, d)
  | .inr i => (((x.1 : Thread nD τ), .dma (xsem i.val)), 0, 0)
theorem tokOf_injective : Function.Injective (tokOf : Dev nD × (Fin 6 ⊕ Fin 36) → GSem nD τ sig × ℕ × Fin 6) := by
  rintro ⟨c, x⟩ ⟨c', x'⟩ h
  have h1 : c = c' := by
    have := congrArg (fun g : GSem nD τ sig × ℕ × Fin 6 => g.1.1.1) h
    cases x <;> cases x' <;> exact this
  subst h1
  have h2 := congrArg (fun g : GSem nD τ sig × ℕ × Fin 6 => (g.1.2, g.2.2)) h
  rcases x with d | i <;> rcases x' with d' | i'
  · exact congrArg (fun d => (c, Sum.inl d)) (congrArg Prod.snd h2)
  · exact absurd (congrArg Prod.fst h2) (fun h => by cases h)
  · exact absurd (congrArg Prod.fst h2) (fun h => by cases h)
  · have h3 : (xsem i.val).val = (xsem i'.val).val := congrArg Fin.val (SemLoc.dma.inj (congrArg Prod.fst h2))
    change 18 + i.val % 36 = 18 + i'.val % 36 at h3
    rw [Nat.mod_eq_of_lt i.isLt, Nat.mod_eq_of_lt i'.isLt] at h3
    exact congrArg (fun i => (c, Sum.inr i)) (Fin.ext (by omega))
def ptoks : Finset (GSem nD τ sig × ℕ × Fin 6) := Finset.univ.map ⟨tokOf, tokOf_injective⟩

def u₀ : UU := (initOf (Pipeline.cells cfgs cellOf_inj) (Pipeline.launchToks cfgs cellOf_inj), (initOf pcells ptoks, 1))

/-- A duty token of each of a device's transfer cells of kind `κ`. -/
def ptok (c : Dev nD) (κ : ℕ) : sProp 𝕄 := gt fun g j => dutyTok ER (pcell c κ g j) 0 0
def ownToks (c : Dev nD) : sProp 𝕄 :=
  iprop((bigSep Finset.univ fun d : Fin 6 => dutyTok ER (bcell c) 0 d)
    ∗ ptok (F := F) c 0 ∗ ptok (F := F) c 1 ∗ ptok (F := F) c 2 ∗ ptok (F := F) c 3 ∗ ptok (F := F) c 4 ∗ ptok (F := F) c 5)

def G (c : Dev nD) : sProp 𝕄 :=
  iprop((bigSep Finset.univ fun k : Fin 37 => roundState ER (Rd m) (kcell (c, k)) 0)
    ∗ (bigSep Finset.univ fun k : Fin 37 => iprop(atPos ER (kcell (c, k)) 0 ∅ 0 ∗ reached ER (kcell (c, k)) 0)) ∗ ownToks c)

theorem fund : BI.own (ER (initOf pcells ptoks)) ⊢ (|==> bigSep Finset.univ (G m) : sProp 𝕄) := by
  have hX (Φ : GSem nD τ sig → sProp 𝕄) : bigSep pcells Φ = bigSep Finset.univ fun c : Dev nD => bigSep Finset.univ fun k : Fin 37 => Φ (kcell (c, k)) := by
    unfold pcells; rw [bigSep_map, bigSep_univ_prod]; rfl
  have hT : bigSep ptoks (fun x => (dutyTok ER x.1 x.2.1 x.2.2 : sProp 𝕄)) = bigSep Finset.univ fun c : Dev nD => ownToks c := by
    unfold ptoks; rw [bigSep_map, bigSep_univ_prod]
    refine bigSep_congr fun c _ => ?_
    unfold ownToks
    rw [bigSep_univ_sum]
    congr 1
    exact x_kinds fun n => dutyTok ER ((c : Thread nD τ), .dma (xsem n)) 0 0
  iintro HX
  imod (Rounds.fund ER (Rd m) pcells ptoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem sems0_eq (c : Dev nD) :
    iprop(xSems (F := F) c ∗ unscopedSems0 c) ⊢ (bigSep Finset.univ fun k : Fin 37 => semVal (kcell (c, k)) 0 : sProp 𝕄) := by
  have h := x_kinds (F := F) fun n => semVal ((c : Thread nD τ), .dma (xsem n)) 0
  rw [k_kinds c fun g => (semVal g 0 : sProp 𝕄), unscopedSems0_eq]
  unfold xSems
  iintro ⟨HX, HB⟩
  isplitl [HB]; · iexact HB
  ihave HX := (Entails.of_eq h) $$ HX
  iexact HX

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ iprop(ownToks c ∗ kvSems (F := F) c)) := by
  rw [ownSems0_eq]
  unfold G
  iintro ⟨⟨Hkv, Hos⟩, Hus, Hst, Hat, Htok⟩
  ihave Hv := (sems0_eq (F := F) c) $$ [Hos Hus]
  · isplitl [Hos] <;> iassumption
  imod (show iprop((bigSep Finset.univ fun k : Fin 37 => semVal (kcell (c, k)) 0) ∗ bigSep Finset.univ fun k : Fin 37 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Each token to the device that pays it -/

set_option backward.proofsInPublic true in
def peerE (k : Fin 6) : Dev nD ≃ Dev nD := ⟨peer k, peer k, peer_peer k, peer_peer k⟩

set_option backward.proofsInPublic true in
def aroundE {T : Type} (e : T → Fin 6) : Dev nD × T ≃ Dev nD × T :=
  ⟨fun x => (peer (e x.2) x.1, x.2), fun x => (peer (e x.2) x.1, x.2), fun x => Prod.ext (peer_peer _ _) rfl, fun x => Prod.ext (peer_peer _ _) rfl⟩

omit [FloatOps F] in
theorem around {T : Type} [Fintype T] [DecidableEq T] (e : T → Fin 6) (Φ : Dev nD → T → sProp 𝕄) :
    (bigSep Finset.univ fun c => bigSep Finset.univ fun t => Φ c t) = bigSep Finset.univ fun c => bigSep Finset.univ fun t => Φ (peer (e t) c) t := by
  rw [← bigSep_univ_prod (fun x : Dev nD × T => Φ x.1 x.2), bigSep_univ_equiv (aroundE e) (fun x : Dev nD × T => Φ x.1 x.2),
    bigSep_univ_prod]
  rfl

/-- The tokens of the receive cells device `c` pays, of kind `2 p + 1`. -/
def rtok (c : Dev nD) (p : ℕ) : sProp 𝕄 := gt fun g j => dutyTok ER (pcell (peer (px p j) c) (2 * p + 1) g j) 0 0
def payToks (c : Dev nD) : sProp 𝕄 :=
  iprop((bigSep Finset.univ fun d : Fin 6 => dutyTok ER (bcell (peer d c)) 0 d)
    ∗ ptok (F := F) c 0 ∗ rtok (F := F) c 0 ∗ ptok (F := F) c 2 ∗ rtok (F := F) c 1 ∗ ptok (F := F) c 4 ∗ rtok (F := F) c 2)

omit [FloatOps F] in
theorem toks_around : (bigSep Finset.univ fun c : Dev nD => ownToks (F := F) c) = bigSep Finset.univ fun c : Dev nD => payToks c := by
  have h (p : ℕ) : (bigSep Finset.univ fun c : Dev nD => ptok (F := F) c (2 * p + 1)) = bigSep Finset.univ fun c : Dev nD => rtok c p :=
    around (fun t : Fin 2 × Fin 3 => px p t.2.val) fun c t => dutyTok ER (pcell c (2 * p + 1) t.1.val t.2.val) 0 0
  have hb := around (F := F) (fun d : Fin 6 => d) fun c d => dutyTok ER (bcell c) 0 d
  unfold ownToks payToks
  simp only [bigSep_sep']
  rw [hb, ← h 0, ← h 1, ← h 2]

/-- What stays with device `c`: its positions and the tokens of the duties it pays. -/
def linear (c : Dev nD) : sProp 𝕄 :=
  iprop((bigSep Finset.univ fun k : Fin 37 => atPos ER (kcell (c, k)) 0 ∅ 0) ∗ payToks c ∗ kvSems (F := F) c)
def G' (c : Dev nD) : sProp 𝕄 := iprop((∃ K, invs m K) ∗ linear c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ iprop(ownToks c ∗ kvSems (F := F) c)) : sProp 𝕄)
      ⊢ bigSep Finset.univ (G' m) := by
  rw [bigSep_sep', bigSep_sep', bigSep_sep', ← bigSep_univ_prod (fun ck : Dev nD × Fin 37 => iprop(∃ κ : ℕ, cellInv ER (Rd m) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄)), toks_around]
  iintro ⟨HI, ⟨Hat, #HR⟩, Htok, Hkv⟩
  ihave HK := (BI.bigSep_exists_pi Finset.univ (fun (ck : Dev nD × Fin 37) (κ : ℕ) => (cellInv ER (Rd m) κ (kcell ck) : sProp 𝕄))) $$ HI
  icases HK with ⟨%K, #HI⟩
  iapply (bigSep_with_persistent (R := invs m K) (Φ := linear) fun c _ => (show iprop(invs m K ∗ linear c) ⊢ G' m c from by
    unfold G'
    iintro ⟨#HI, HL⟩
    isplitr
    · iexists K; iexact HI
    · iexact HL))
  isplitr
  · unfold invs; isplitl; · iexact HI
    iexact HR
  · unfold linear
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem bcell_iff {a b : Dev nD} : bcell a = bcell b ↔ a = b :=
  ⟨fun h => Fin.ext (congrArg (fun g : GSem nD τ sig => g.1.1.val) h), fun h => h ▸ rfl⟩
theorem pcell_iff {a b : Dev nD} {κ g j κ' g' j' : ℕ} (hg : g < 2) (hj : j < 3) (hg' : g' < 2) (hj' : j' < 3) (hκ : κ < 6) (hκ' : κ' < 6) :
    pcell a κ g j = pcell b κ' g' j' ↔ a = b ∧ κ = κ' ∧ g = g' ∧ j = j' := by
  refine ⟨fun h => ?_, fun ⟨h1, h2, h3, h4⟩ => by subst h1 h2 h3 h4; rfl⟩
  have h1 := congrArg (fun g : GSem nD τ sig => g.1.1.val) h
  have h2 : (xsem (6 * κ + 3 * g + j)).val = (xsem (6 * κ' + 3 * g' + j')).val := congrArg Fin.val (SemLoc.dma.inj (congrArg Prod.snd h))
  rw [xsem_val hκ hg hj, xsem_val hκ' hg' hj'] at h2
  exact ⟨Fin.ext h1, by omega, by omega, by omega⟩
theorem bcell_ne (a b : Dev nD) (κ g j : ℕ) : bcell a ≠ pcell b κ g j := fun h => by cases congrArg Prod.snd h

theorem OwD_apply (c : Dev nD) (g : GSem nD τ sig) : ∀ d, OwD c d g () = ∑ k ∈ Finset.range d, if g = tgt c (17 - k) then NX (2 * ordP (17 - k) + 1) else 0
  | 0 => rfl
  | d + 1 => by
    rw [Finset.sum_range_succ, ← OwD_apply c g d]
    show (OwD c d + tallyAt (tgt c (17 - d)) () (NX (2 * ordP (17 - d) + 1))) g () = _
    rw [Pi.add_apply, Finsupp.add_apply, tallyAt_apply]
    simp only [and_true]
theorem OwB_apply (c : Dev nD) (g : GSem nD τ sig) : ∀ d, OwB c d g () = OwD c 18 g () + ∑ k ∈ Finset.range d, if g = bcell (peer (sigPeer k) c) then 1 else 0
  | 0 => rfl
  | d + 1 => by
    rw [Finset.sum_range_succ, ← Nat.add_assoc, ← OwB_apply c g d]
    show (OwB c d + tallyAt (bcell (peer (sigPeer d) c)) () 1) g () = _
    rw [Pi.add_apply, Finsupp.add_apply, tallyAt_apply]
    simp only [and_true]

theorem peer_swap (k : Fin 6) (a b : Dev nD) : a = peer k b ↔ b = peer k a :=
  ⟨fun h => by rw [h, peer_peer], fun h => by rw [h, peer_peer]⟩

theorem sum_b (c : Dev nD) : ∑ d : Dev nD, OwB d 6 (bcell c) () = 6 := by
  have h : ∀ d : Dev nD, OwB d 6 (bcell c) () = ∑ k ∈ Finset.range 6, if d = peer (sigPeer k) c then 1 else 0 := fun d => by
    rw [OwB_apply, OwD_apply, Finset.sum_eq_zero (s := Finset.range 18) fun k _ => if_neg (show ¬ bcell c = tgt d (17 - k) from bcell_ne _ _ _ _ _), Nat.zero_add]
    refine Finset.sum_congr rfl fun k _ => ?_
    simp only [bcell_iff, peer_swap (sigPeer k) c d]
  rw [Finset.sum_congr rfl fun d _ => h d, Finset.sum_comm, Finset.sum_congr rfl fun k _ => Finset.sum_ite_eq' Finset.univ (peer (sigPeer k) c) fun _ => 1]
  simp

theorem ord_card : ∀ (p : Fin 3) (g : Fin 2) (j : Fin 3),
    ((Finset.range 18).filter fun k => ordP (17 - k) = p.val ∧ ordG (17 - k) = g.val ∧ ordJ (17 - k) = j.val).card = 1 := by decide

theorem sum_p (c : Dev nD) {p g j : ℕ} (hp : p < 3) (hg : g < 2) (hj : j < 3) : ∑ d : Dev nD, OwB d 6 (pcell c (2 * p + 1) g j) () = NX (2 * p + 1) := by
  have h : ∀ d : Dev nD, OwB d 6 (pcell c (2 * p + 1) g j) ()
      = ∑ k ∈ Finset.range 18, if d = peer (px p j) c then (if ordP (17 - k) = p ∧ ordG (17 - k) = g ∧ ordJ (17 - k) = j then NX (2 * p + 1) else 0) else 0 := fun d => by
    rw [OwB_apply, OwD_apply, Finset.sum_eq_zero (s := Finset.range 6) fun k _ => if_neg fun h => bcell_ne _ _ _ _ _ h.symm, Nat.add_zero]
    refine Finset.sum_congr rfl fun k hk => ?_
    have hP := ordP_le (17 - k)
    unfold tgt
    rw [← ite_and]
    have e := pcell_iff (a := c) (b := peer (px (ordP (17 - k)) (ordJ (17 - k))) d) (κ := 2 * p + 1) (κ' := 2 * ordP (17 - k) + 1)
      hg hj (ordG_le (k := 17 - k) (by omega)) (ordJ_le (17 - k)) (by omega) (by omega)
    by_cases h1 : ordP (17 - k) = p ∧ ordG (17 - k) = g ∧ ordJ (17 - k) = j
    · obtain ⟨hp', hg', hj'⟩ := h1
      rw [hp', hg', hj'] at e ⊢
      by_cases h2 : c = peer (px p j) d
      · rw [if_pos (e.2 ⟨h2, rfl, rfl, rfl⟩), if_pos ⟨(peer_swap _ _ _).1 h2, rfl, rfl, rfl⟩]
      · rw [if_neg fun h => h2 (e.1 h).1, if_neg fun h => h2 ((peer_swap _ _ _).2 h.1)]
    · rw [if_neg fun h => h1 (by have := e.1 h; exact ⟨by omega, this.2.2.1.symm, this.2.2.2.symm⟩), if_neg fun h => h1 h.2]
  rw [Finset.sum_congr rfl fun d _ => h d, Finset.sum_comm, Finset.sum_congr rfl fun k _ => Finset.sum_ite_eq' Finset.univ (peer (px p j) c) fun _ => _]
  simp only [Finset.mem_univ, if_true]
  rw [← Finset.sum_filter, Finset.sum_const, ord_card ⟨p, hp⟩ ⟨g, hg⟩ ⟨j, hj⟩, one_smul]

theorem credit_of (g : GSem nD τ sig) (n : ℕ) (h : ∑ d : Dev nD, OwB d 6 g () = n) :
    tallyOn g (launchCredit (Pipeline.owing fun c => OwB c 6) 0 g) = (tallyAt g () n : CellTallies nD τ sig Unit) := by
  unfold tallyAt; refine congrArg _ (Finsupp.ext fun u => ?_); cases u
  rw [Pipeline.launchCredit_owing, Finsupp.single_eq_same, h]

/-- The cells a device has launch credit on: the barrier's, and the receive cells. -/
def crLoc (x : Unit ⊕ (Fin 3 × (Fin 2 × Fin 3))) : SemLoc sig := match x with
  | .inl _ => .reg barS
  | .inr y => .dma (xsem (6 * (2 * y.1.val + 1) + 3 * y.2.1.val + y.2.2.val))
theorem crLoc_inj : Function.Injective crLoc := by
  rintro (u | ⟨p, g, j⟩) (u' | ⟨p', g', j'⟩) h
  · rfl
  · exact absurd h (fun h => by cases h)
  · exact absurd h (fun h => by cases h)
  · have hp := p.isLt; have hp' := p'.isLt
    have h3 : (xsem (6 * (2 * p.val + 1) + 3 * g.val + j.val)).val = (xsem (6 * (2 * p'.val + 1) + 3 * g'.val + j'.val)).val := congrArg Fin.val (SemLoc.dma.inj h)
    rw [xsem_val (by omega) g.isLt j.isLt, xsem_val (by omega) g'.isLt j'.isLt] at h3
    have hg := g.isLt; have hg' := g'.isLt; have hj := j.isLt; have hj' := j'.isLt
    refine congrArg Sum.inr (Prod.ext (Fin.ext ?_) (Prod.ext (Fin.ext ?_) (Fin.ext ?_))) <;> dsimp only <;> omega

/-- The credit of the receive cells of kind `κ`. -/
def pcred (c : Dev nD) (κ : ℕ) : sProp 𝕄 := gt fun g j => cred (tallyAt (pcell c κ g j) () (NX κ))

omit [FloatOps F] in
theorem creds (c : Dev nD) :
    (Pipeline.launchCred (fun c => OwB c 6) c : sProp 𝕄)
      ⊢ iprop(cred (tallyAt (bcell c) () 6) ∗ pcred (F := F) c 1 ∗ pcred (F := F) c 3 ∗ pcred (F := F) c 5) := by
  unfold Pipeline.launchCred
  refine (BI.bigSep_subset (Finset.subset_univ (Finset.univ.map ⟨crLoc, crLoc_inj⟩))).trans ?_
  rw [bigSep_map, bigSep_univ_sum, bigSep_univ_prod, bigSep_univ_eq_bigSepL [(0 : Fin 3), 1, 2] (by decide) (by decide), bigSep_univ_eq_bigSepL [()] (by decide) (by decide)]
  have h (p : Fin 3) : (bigSep Finset.univ fun y : Fin 2 × Fin 3 => (cred (tallyOn ((c : Thread nD τ), crLoc (.inr (p, y)))
      (launchCredit (Pipeline.owing fun c => OwB c 6) 0 ((c : Thread nD τ), crLoc (.inr (p, y))))) : sProp 𝕄)) = pcred c (2 * p.val + 1) :=
    bigSep_congr fun (y : Fin 2 × Fin 3) _ => congrArg (fun X => (cred X : sProp 𝕄)) (credit_of (pcell c (2 * p.val + 1) y.1.val y.2.val) _ (sum_p c p.isLt y.1.isLt y.2.isLt))
  have hb := credit_of (bcell c) 6 (sum_b c)
  show iprop(cred (tallyOn (bcell c) (launchCredit (Pipeline.owing fun c => OwB c 6) 0 (bcell c))) ∗ _) ⊢ _
  rw [hb]
  refine Entails.of_eq (congrArg (fun X => iprop(_ ∗ X)) ?_)
  exact congr (congrArg (fun A B => iprop(A ∗ B)) (h 0)) (congr (congrArg (fun A B => iprop(A ∗ B)) (h 1)) (h 2))

/-! ## What the body needs of it -/

omit [FloatOps F] in
theorem reassoc (P Q R : sProp 𝕄) : iprop((P ∗ Q) ∗ R) = iprop(P ∗ Q ∗ R) := equiv_iff.mp ⟨BI.sep_assoc, BI.sep_assoc'⟩

omit [FloatOps F] in
theorem linear_elim (c : Dev nD) :
    iprop((bigSep Finset.univ fun k : Fin 37 => atPos ER (kcell (c, k)) 0 ∅ 0) ∗ payToks (F := F) c
        ∗ (bigSep Finset.univ fun k : Fin 6 => barPay (F := F) (peer k c) k)
        ∗ cred (tallyAt (bcell c) () 6) ∗ pcred (F := F) c 1 ∗ pcred (F := F) c 3 ∗ pcred (F := F) c 5)
      ⊢ iprop(sgs (F := F) c ∗ (atPos ER (bcell c) 0 ∅ 0 ∗ cred (tallyAt (bcell c) () 6)) ∗ xs (F := F) c ∗ rs (F := F) c) := by
  have hxs : xs (F := F) c = iprop((gt (fun g j => atPos ER (pcell c 0 g j) 0 ∅ 0) ∗ ptok (F := F) c 0 ∗ rtok (F := F) c 0)
      ∗ (gt (fun g j => atPos ER (pcell c 2 g j) 0 ∅ 0) ∗ ptok (F := F) c 2 ∗ rtok (F := F) c 1)
      ∗ (gt (fun g j => atPos ER (pcell c 4 g j) 0 ∅ 0) ∗ ptok (F := F) c 4 ∗ rtok (F := F) c 2)) := by
    unfold ptok rtok
    rw [← gt_sep, ← gt_sep, ← gt_sep, ← gt_sep, ← gt_sep, ← gt_sep]
    have h1 : xs (F := F) c = iprop(gt (fun g j => iprop(x0 (F := F) c 0 g j ∗ x0 (F := F) c 1 g j)) ∗ gt (fun g j => x0 (F := F) c 2 g j)) := by
      rw [gt_eq, gt_eq, reassoc]; rfl
    rw [h1, gt_sep, reassoc]; rfl
  have hrs : rs (F := F) c = iprop((gt (fun g j => atPos ER (pcell c 1 g j) 0 ∅ 0) ∗ pcred (F := F) c 1)
      ∗ (gt (fun g j => atPos ER (pcell c 3 g j) 0 ∅ 0) ∗ pcred (F := F) c 3) ∗ (gt (fun g j => atPos ER (pcell c 5 g j) 0 ∅ 0) ∗ pcred (F := F) c 5)) := by
    unfold pcred
    rw [← gt_sep, ← gt_sep, ← gt_sep]
    have h1 : rs (F := F) c = iprop(gt (fun g j => iprop(xw (F := F) c 1 g j ∗ xw (F := F) c 3 g j)) ∗ gt (fun g j => xw (F := F) c 5 g j)) := by
      rw [gt_eq, gt_eq, reassoc]; rfl
    rw [h1, gt_sep, reassoc]; rfl
  have hsg : sgs (F := F) c = bigSep Finset.univ fun k : Fin 6 => iprop(dutyTok ER (bcell (peer k c)) 0 k ∗ barPay (F := F) (peer k c) k) := by
    rw [bigSep_univ_eq_bigSepL [0, 1, 2, 3, 4, 5] (by decide) (by decide)]; rfl
  rw [k_kinds c fun g => (atPos ER g 0 ∅ 0 : sProp 𝕄), hxs, hrs, hsg, bigSep_sep']
  unfold payToks
  iintro ⟨⟨PB, P0, P1, P2, P3, P4, P5⟩, ⟨TB, T0, R0, T2, R1, T4, R2⟩, HB, CB, C1, C3, C5⟩
  isplitl [TB HB]; · isplitl [TB] <;> iassumption
  isplitl [PB CB]; · isplitl [PB] <;> iassumption
  isplitl [P0 T0 R0 P2 T2 R1 P4 T4 R2]
  · isplitl [P0 T0 R0]
    · isplitl [P0]; · iexact P0
      isplitl [T0] <;> iassumption
    isplitl [P2 T2 R1]
    · isplitl [P2]; · iexact P2
      isplitl [T2] <;> iassumption
    isplitl [P4]; · iexact P4
    isplitl [T4] <;> iassumption
  isplitl [P1 C1]; · isplitl [P1] <;> iassumption
  isplitl [P3 C3]; · isplitl [P3] <;> iassumption
  isplitl [P5] <;> iassumption

omit [FloatOps F] in
theorem zeros_elim (c : Dev nD) : zeros (F := F) c ⊢ iprop(unscopedSems0 c ∗ xSems (F := F) c) := by
  have hx : xSems (F := F) c = _ := x_kinds (F := F) fun n => semVal ((c : Thread nD τ), .dma (xsem n)) 0
  have hz : zeros (F := F) c = iprop(semVal (bcell c) 0 ∗ (gt (xz (F := F) c 0) ∗ gt (xz (F := F) c 1) ∗ gt (xz (F := F) c 2) ∗ gt (xz (F := F) c 3))
      ∗ gt (xz (F := F) c 4) ∗ gt (xz (F := F) c 5)) := by
    rw [← gt_sep, ← gt_sep, ← gt_sep, ← gt_sep, gt_eq, gt_eq, reassoc]; rfl
  rw [unscopedSems0_eq, hx, hz]
  iintro ⟨HB, ⟨H0, H1, H2, H3⟩, H4, H5⟩
  isplitl [HB]; · iexact HB
  isplitl [H0]; · iexact H0
  isplitl [H1]; · iexact H1
  isplitl [H2]; · iexact H2
  isplitl [H3]; · iexact H3
  isplitl [H4]; · iexact H4
  iexact H5

end Cert.KernelIdeal.Run

end
-- ==== Proof.Run.Launch.lean ====
/-
# The run of the whole mesh

The body's triple put under the pipeline's launch: what each device starts and ends with, the body obligation, and the run
of `main` on all sixteen devices — every execution ends, with the result array at the computed contents, the arguments
unchanged and every counter at zero.
-/
module

public import proofs.«01_k».proof.Proof.Run.Ghost
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def start (c : Dev nD) : sProp 𝕄 :=
  iprop(G' m c ∗ levAts L lv ∗ (cred (tallyAt (bcell c) () 6) ∗ pcred (F := F) c 1 ∗ pcred (F := F) c 3 ∗ pcred (F := F) c 5) ∗ args m c)

def Φ₀ (c : Dev nD) : sProp 𝕄 := iprop(start m c ∗ scr (F := F) c)
def Φ₁ (c : Dev nD) : sProp 𝕄 := iprop((unscopedSems0 c ∗ xSems (F := F) c) ∗ scr (F := F) c ∗ args m c ∗ kvSems (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Qm m c
    | ⟨1, _⟩ => outC m c
  Φ t := match t with
    | ⟨0, _⟩ => Φ₀ m c
    | ⟨_ + 1, _⟩ => Φ₁ m c
  q _ := fullShare
  owed t := match t with
    | ⟨0, _⟩ => OwB c 6
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def atPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def atPost (c : Dev nD) : sProp 𝕄 :=
  iprop(Φ₁ m c ∗ (dats m ρ 0 c).owesAt () t0_0.succ ∗ stg c cc0_stg0_0 (Qm m c) ∗ stg c cc0_stg1_0 (outC m c))

theorem read_q (c : Dev nD) : (win0_0.blk (0 : Fin 1)).view.read (Elt F) (m ((c : Thread nD τ).loc main_arg0)) = Qm m c :=
  Memref.read_access_unit_zero (Elt F) main_arg0 (funext fun a => by fin_cases a <;> rfl) _ _
theorem before_q (c : Dev nD) (d) : (dats m ρ 0 c).before (0 : Fin 2) t0_0 d = Qm m c := by
  unfold Dat.before; rw [if_pos (fetch0_0 t0_0)]; exact read_q m c

/-- The pipeline's entry into the body's triple. -/
theorem at_pre (c : Dev nD) : atPre m ρ c ⊢ iprop(∃ K, pre m K c) := by
  unfold atPre Φ₀ start G' linear Dat.owesAt Pipeline.owesWithin
  iintro ⟨⟨⟨⟨⟨%K, HI⟩, Hat, Htok, Hkv⟩, Hlev, ⟨CB, C1, C3, C5⟩, Hargs⟩, Hscr⟩, ⟨%W, %hW, HO⟩, ⟨%d0, %g0, %hg0, Hx⟩, ⟨%d1, %g1, %hg1, Hout⟩⟩
  rw [before_q] at hg0
  subst hg0
  ihave HB := (bufs_intro m c) $$ [Hscr Hargs Hkv]
  · isplitl [Hscr]; · iexact Hscr
    isplitl [Hargs] <;> iassumption
  icases HB with ⟨Hb, Hbar⟩
  ihave HL := (linear_elim (F := F) c) $$ [Hat Htok Hbar CB C1 C3 C5]
  · isplitl [Hat]; · iexact Hat
    isplitl [Htok]; · iexact Htok
    isplitl [Hbar]; · iexact Hbar
    isplitl [CB]; · iexact CB
    isplitl [C1]; · iexact C1
    isplitl [C3] <;> iassumption
  icases HL with ⟨Hsg, Hbc, Hxs, Hrs⟩
  iexists K
  unfold pre owesAny
  isplitl [HI]; · iexact HI
  isplitl [Hlev]; · iexact Hlev
  isplitl [HO]; · iexists W; iexact HO
  isplitl [Hsg]; · iexact Hsg
  isplitl [Hbc]; · iexact Hbc
  isplitl [Hxs]; · iexact Hxs
  isplitl [Hrs]; · iexact Hrs
  isplitl [Hb]; · iexact Hb
  isplitl [Hx]; · iexact Hx
  iexists g1; iexact Hout

theorem at_post (c : Dev nD) : post m c ⊢ atPost m ρ c := by
  unfold post atPost Φ₁ Dat.owesAt Pipeline.owesWithin owesAny
  rw [show (dats m ρ 0 c).owed t0_0.succ = 0 from rfl]
  iintro ⟨⟨%W, HO⟩, Hz, Ha, Hx, Hout⟩
  ihave Hz := (zeros_elim (F := F) c) $$ Hz
  ihave Ha := (bufs_elim m c) $$ Ha
  isplitl [Hz Ha]
  · isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show atPre m ρ c ⊢ wpc c (defs₀ Proc.tc cfg0.body (cfg0.bodyArgs t0_0 (cfg0.slots t0_0))) (fun _ => atPost m ρ c)
  show atPre m ρ c ⊢ wpc c (cc0_body (F := F) qM (Memref.isWhole_whole _) kA (Memref.isWhole_whole _) vA (Memref.isWhole_whole _) outM (Memref.isWhole_whole _)
      qB (Memref.isWhole_whole _) kB (Memref.isWhole_whole _) vB (Memref.isWhole_whole _) aB (Memref.isWhole_whole _) lB (Memref.isWhole_whole _)
      sB (Memref.isWhole_whole _) rB (Memref.isWhole_whole _) rlB (Memref.isWhole_whole _) oB (Memref.isWhole_whole _)
      cc0_scratch9 cc0_scratch10 cc0_scratch11 cc0_scratch12 cc0_scratch13 cc0_scratch14 cc0_scratch15 cc0_scratch16) (fun _ => atPost m ρ c)
  iintro H
  ihave H := (at_pre m ρ c) $$ H
  icases H with ⟨%K, H⟩
  iapply (wp_body m K (c := c) (Q := fun _ => atPost m ρ c))
  isplitl [H]; · iexact H
  iintro H
  iapply (at_post m ρ c)
  iexact H

/-! ## The launch -/

theorem start_intro (c : Dev nD) :
    iprop(Pipeline.unscopedRestP Pipeline.Prefetch.none cfg0.spec c (fun b => m ((c : Thread nD τ).loc b)) ∗ levAts L lv
        ∗ Pipeline.launchCred (fun c => OwB c 6) c ∗ prngReg c (ρ c) ∗ G' m c)
      ⊢ |={Set.univ}=> iprop(start m c ∗ emp) := by
  rw [Pipeline.unscopedRestP_none, unscopedRest0_eq]
  iintro ⟨⟨HA, HB⟩, Hlev, Hcr, -, HG⟩
  ihave Hc := (creds (F := F) c) $$ Hcr
  imodintro
  unfold start args
  isplitl
  · isplitl [HG]; · iexact HG
    isplitl [Hlev]; · iexact Hlev
    isplitl [Hc]; · iexact Hc
    isplitl [HA]; · iexact HA
    iexact HB
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- What a device hands back: the barrier's counter and the two arguments no window stages. -/
def last (c : Dev nD) : sProp 𝕄 := iprop(unscopedSems0 c ∗ args m c)

theorem phi1_exit (c : Dev nD) :
    (dats m ρ 0 c).Φ (Fin.last cfg0.N) ⊢ iprop(last m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ last scr
  iintro ⟨⟨HzB, Hzx⟩, Hr, Ha, Hkv⟩
  isplitl [HzB Ha]
  · isplitl [HzB] <;> iassumption
  isplitl [Hzx Hkv]
  · isplitl [Hkv] <;> iassumption
  iexact Hr

omit [FloatOps F] in
theorem mayWait_stage (c : Dev nD) (sm : SemLoc sig) (h : lvS sm = 0) (O : CellTallies nD τ sig Unit) (hO : O = OwB c 6 ∨ O = 0) :
    (levAts L lv : sProp 𝕄) ⊢ MayWait (c : Thread nD τ) sm () O :=
  mayWait c sm 0 O (by rcases hO with rfl | rfl; exacts [above_B c 6, above_zero 1]) h.le

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

theorem finalA_q (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outC m c := by
  have h : (win0_1.blk (0 : Fin 1)).view.read (Elt F) (finalA m ρ c (1 : Fin 2)) = outC m c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (funext fun a => by fin_cases a <;> rfl) _ _).symm.trans h

omit [FloatOps F] in
theorem args_read (c : Dev nD) (s' : Phys nD τ sig (Elt F)) :
    iprop(args m c ∗ SI s') ⊢ (iprop(⌜s'.mem.mem ((c : Thread nD τ).loc main_arg1) = m ((c : Thread nD τ).loc main_arg1)
      ∧ s'.mem.mem ((c : Thread nD τ).loc main_arg2) = m ((c : Thread nD τ).loc main_arg2)⌝ ∗ SI s') : sProp 𝕄) := by
  have h := pointsTo_read_all (Ix := Unit) (Name := ℕ) (U := UU) (Lvl := ℕ) (Finset.univ : Finset (Fin 2))
    (fun i : Fin 2 => (c : Thread nD τ).loc (if i = 0 then main_arg1 else main_arg2)) (fun i => m _) s'
  rw [bigSep_univ_two] at h
  unfold args
  iintro ⟨⟨HA, HB⟩, HSI⟩
  ihave H := h $$ [HA HB HSI]
  · isplitr [HSI]
    · isplitl [HA]; · iexact HA
      iexact HB
    iexact HSI
  icases H with ⟨%hm, HSI⟩
  isplitr
  · ipureintro; exact ⟨hm 0 (Finset.mem_univ _), hm 1 (Finset.mem_univ _)⟩
  iexact HSI

/-- What the claims read of the end: the result array, the arguments. -/
def QC : PUnit × MemSt nD τ sig (Elt F) → Prop := fun r => ∀ c : Dev nD,
  r.2.mem ((c : Thread nD τ).loc main_v1) = outC m c ∧ r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_arg2) = m ((c : Thread nD τ).loc main_arg2)

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun c => OwB c 6) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show iprop(BI.own (((Emb.inl : Emb UB (UB × Counters)).trans embR : Emb UB 𝕄) (initOf pcells ptoks))) ⊢ (|==> bigSep Finset.univ (G m) : sProp 𝕄) from fund m) $$ HX with HG
      imodintro
      isplitl [HP] <;> iassumption)
    (hglob := glob m)
    (hA := fun _ _ => rfl) (hpf := fun _ k => k.elim0)
    (X := start m) (Y := last m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg2) = m ((c : Thread nD τ).loc main_arg2))
    (hY := fun c s' => by
      unfold last
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, ha⟩
      iexact HSI)
    (hQ := fun _ h hs => ⟨fun c => ⟨((h c).1 (1 : Fin 2)).trans (finalA_out m ρ c), ((h c).1 (0 : Fin 2)).trans (finalA_q m ρ c), (h c).2.2.2.1, (h c).2.2.2.2⟩,
      sem_eq_zero hs fun c => (h c).2.2.1⟩)

end Cert.KernelIdeal.Run

end
-- ==== Proof.Frames.lean ====
/-
# The frames

The run of the mesh read at the claims' shapes: the program as printed (at bits) and the idealized program are the same
text, so one run, over any floats, serves both.
-/
module

public import proofs.«01_k».proof.Defs
public import proofs.«01_k».proof.Proof.Gen.Kernel
public import proofs.«01_k».proof.Proof.Gen.ReferenceIdeal.Run
public import proofs.«01_k».proof.Proof.Run.Launch

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

theorem frame_KernelIdeal : Cert.quiescent_KernelIdeal := fun m ρ _ =>
  (θ_run Cert.KernelIdeal.defs _ _).mono (fun _ h => ⟨fun c => (h.1 c).2, h.2⟩) (Cert.KernelIdeal.Run.run_main (F := Ideal) m ρ)

/-- The two programs' kernel bodies are the same, label by label. -/
theorem bodies_eq : Cert.Kernel.defs₀ (F := Bits) = Cert.KernelIdeal.defs₀ (F := Bits) := by
  funext p l x
  unfold Cert.Kernel.defs₀ Cert.KernelIdeal.defs₀
  rcases p with _ | _ | _
  · fin_cases l
    rcases x with ⟨t, s⟩
    rfl
  · rfl
  · rfl

set_option maxRecDepth 100000 in
theorem frame_Kernel : Cert.quiescent_Kernel := fun m ρ _ => by
  have h := (θ_run (Cert.KernelIdeal.defs (F := Bits)) _ _).mono (fun _ h => (⟨fun c => (h.1 c).2, h.2⟩ : _ ∧ _)) (Cert.KernelIdeal.Run.run_main (F := Bits) m ρ)
  unfold Cert.Kernel.defs
  rw [bodies_eq]
  exact h

theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Pay.lean ====
/-
# The kernel's operations at an index, over the extended reals

What the score, the two sums of a chunk, the exchange and the quotient are at one element.
-/
module

public import proofs.«01_k».proof.Proof.Run.Spec
public import Idealize.ShloMosaic.Lib.Pointwise

@[expose] public section

noncomputable section

namespace Cert.KernelIdeal.Val

open Cert.KernelIdeal Cert.KernelIdeal.Gen Cert.KernelIdeal.Run Idealize.ShloMosaic

/-- The scale, as the rational its float word is. -/
def sc : EReal := Ideal.ofBits .f32 0x3DB504F3#32

theorem pay7_apply (k : FVec Ideal S1024x128 .bf16) (q : Vec Ideal S32x1x128 .bf16) (r : Fin 32) (n : Fin 1024) :
    k0_pay7 k q (ix2 r n) = Ideal.exp (∑ d : Fin 128, q (ix3 r 0 d) * k (ix2 n d)) := by
  pointwise [k0_pay7]

theorem pay8_apply (k : FVec Ideal S1024x128 .bf16) (q : Vec Ideal S32x1x128 .bf16) (l : Vec Ideal S1x32x8 .f32) (r : Fin 32) (e : Fin 8) :
    k0_pay8 k q l (ix3 0 r e) = l (ix3 0 r e) + ∑ n : Fin 1024, k0_pay7 k q (ix2 r n) := by
  pointwise [k0_pay8]

theorem pay9_apply (k : FVec Ideal S1024x128 .bf16) (q : Vec Ideal S32x1x128 .bf16) (v : Vec Ideal S1x1x1024x128 .f32) (a : Vec Ideal S1x32x128 .f32)
    (r : Fin 32) (d : Fin 128) :
    k0_pay9 k q v a (ix3 0 r d)
      = a (ix3 0 r d) + ∑ n : Fin 1024, k0_pay7 k q (ix2 r n) * v (ix4 0 0 n d) := by
  pointwise [k0_pay9]

theorem pay2_apply (q : Vec Ideal S1x32x8x128 .f32) (r : Fin 32) (h : Fin 8) (d : Fin 128) :
    k0_pay3 (k0_pay2 q) (ix3 r h d) = q (ix4 0 r h d) * sc := by
  pointwise [k0_pay3, k0_pay2, sc]

theorem pay6_apply (k : Vec Ideal S1x1x1024x128 .f32) (n : Fin 1024) (d : Fin 128) : k0_pay6 k (ix2 n d) = k (ix4 0 0 n d) := by
  pointwise [k0_pay6]

theorem pay4_apply (h : Fin 8) (r : Fin 32) (d : Fin 128) : k0_pay4 (F := Ideal) (ix3 h r d) = 0 := by
  pointwise [k0_pay4]

theorem pay5_apply (h : Fin 8) (r : Fin 32) (e : Fin 8) : k0_pay5 (F := Ideal) (ix3 h r e) = 0 := by
  pointwise [k0_pay5]

theorem pay68_apply (a : Vec Ideal S4x32x128 .f32) (h : Fin 4) (r : Fin 32) (d : Fin 128) : k0_pay68 a (ix3 h r d) = a (ix3 h r d) := by
  pointwise [k0_pay68]

theorem pay133_apply (a : Vec Ideal S4x32x128 .f32) (x y z : Vec Ideal S1x4x32x128 .bf16) (h : Fin 4) (r : Fin 32) (d : Fin 128) :
    k0_pay133 a x y z (ix3 h r d) = a (ix3 h r d) + x (ix4 0 h r d) + y (ix4 0 h r d) + z (ix4 0 h r d) := by
  pointwise [k0_pay133]

theorem pay135_apply (a : Vec Ideal S4x32x8 .f32) (x y z : Vec Ideal S1x4x32x8 .f32) (h : Fin 4) (r : Fin 32) (e : Fin 8) :
    k0_pay135 (k0_pay134 a x y) z (ix3 h r e) = a (ix3 h r e) + x (ix4 0 h r e) + y (ix4 0 h r e) + z (ix4 0 h r e) := by
  pointwise [k0_pay135, k0_pay134]

theorem pay136_apply (l : Vec Ideal S1x32x8 .f32) (a : Vec Ideal S1x32x128 .f32) (r : Fin 32) (d : Fin 128) :
    k0_pay136 l a (ix4 0 r 0 d) = Ideal.div (a (ix3 0 r d)) (l (ix3 0 r 0)) := by
  pointwise [k0_pay136]

theorem pay1_apply (o : Vec Ideal S4x32x8x128 .bf16) (i : S4x32x8x128.Idx) : k0_pay1 o i = o i := by
  pointwise [k0_pay1]

end Cert.KernelIdeal.Val

end
-- ==== Proof.KerVal.lean ====
/-
# The kernel's result at an index

The gathered result at one element: the weighted sum of the values over the sum of the weights, both over the whole
cache, as the four devices along `z` hold it.
-/
module

public import proofs.«01_k».proof.Proof.Pay

@[expose] public section

noncomputable section

namespace Cert.KernelIdeal.Val

open Cert.KernelIdeal Cert.KernelIdeal.Gen Cert.KernelIdeal.Run Idealize.ShloMosaic

variable (m : (ℓ : Loc nD τ sig) → Buf (Elt Ideal) ℓ)

/-- The scaled product of a query row of `c` with position `p` of its cache, head `h`. -/
def prod (c : Dev nD) (h : ℕ) (r : Fin 32) (p : ℕ) : EReal :=
  ∑ d : Fin 128, Qm m c (ix4 ⟨(c.val / 4) % 4, Nat.mod_lt _ (by decide)⟩ r ⟨h % 8, Nat.mod_lt _ (by decide)⟩ d) * sc * at4 (Km m c) (c.val / 4) p h d

theorem qVec_apply (c : Dev nD) (h : ℕ) (r : Fin 32) (d : Fin 128) :
    qVec m c h (ix3 r 0 d) = Qm m c (ix4 ⟨(c.val / 4) % 4, Nat.mod_lt _ (by decide)⟩ r ⟨h % 8, Nat.mod_lt _ (by decide)⟩ d) * sc :=
  pay2_apply (qRow m c) r ⟨h % 8, Nat.mod_lt _ (by decide)⟩ d

theorem weight_apply (c : Dev nD) (h u : ℕ) (r : Fin 32) (n : Fin 1024) :
    k0_pay7 (k0_pay6 (kVec m c h u)) (qVec m c h) (ix2 r n) = Ideal.exp (prod m c h r (1024 * u + n.val)) := by
  rw [pay7_apply]
  refine congrArg Ideal.exp (Finset.sum_congr rfl fun d _ => ?_)
  rw [qVec_apply, pay6_apply]
  rfl

theorem lVal_apply (c : Dev nD) (h : ℕ) (r : Fin 32) (e : Fin 8) (u : ℕ) :
    lVal m c h u (ix3 0 r e) = ∑ t ∈ Finset.range u, ∑ n : Fin 1024, Ideal.exp (prod m c h r (1024 * t + n.val)) := by
  induction u with
  | zero => exact pay5_apply ⟨h % 8, Nat.mod_lt _ (by decide)⟩ r e
  | succ u ih =>
    rw [Finset.sum_range_succ, ← ih]
    refine (pay8_apply (k0_pay6 (kVec m c h u)) (qVec m c h) (lVal m c h u) r e).trans ?_
    simp only [weight_apply]

theorem aVal_apply (c : Dev nD) (h : ℕ) (r : Fin 32) (d : Fin 128) (u : ℕ) :
    aVal m c h u (ix3 0 r d) = ∑ t ∈ Finset.range u, ∑ n : Fin 1024,
      Ideal.exp (prod m c h r (1024 * t + n.val)) * at4 (Vm m c) (c.val / 4) (1024 * t + n.val) h d := by
  induction u with
  | zero => exact pay4_apply ⟨h % 8, Nat.mod_lt _ (by decide)⟩ r d
  | succ u ih =>
    rw [Finset.sum_range_succ, ← ih]
    refine (pay9_apply (k0_pay6 (kVec m c h u)) (qVec m c h) (vVec m c h u) (aVal m c h u) r d).trans ?_
    simp only [weight_apply]
    rfl

/-- A row's sum on one device, over its quarter of the cache. -/
def lPart (c : Dev nD) (h : ℕ) (r : Fin 32) : EReal := ∑ p : Fin 4096, Ideal.exp (prod m c h r p.val)
def aPart (c : Dev nD) (h : ℕ) (r : Fin 32) (d : Fin 128) : EReal :=
  ∑ p : Fin 4096, Ideal.exp (prod m c h r p.val) * at4 (Vm m c) (c.val / 4) p.val h d

theorem range_tiles (f : ℕ → EReal) : ∑ t ∈ Finset.range 4, ∑ n : Fin 1024, f (1024 * t + n.val) = ∑ p : Fin 4096, f p.val := by
  rw [Fin.sum_univ_tiles 4 1024 (by decide) (fun p : Fin 4096 => f p.val), Finset.sum_range]
  simp only [Nat.mul_comm]

theorem lVal_four (c : Dev nD) (h : ℕ) (r : Fin 32) (e : Fin 8) : lVal m c h 4 (ix3 0 r e) = lPart m c h r := by
  rw [lVal_apply, lPart, ← range_tiles fun p => Ideal.exp (prod m c h r p)]

theorem aVal_four (c : Dev nD) (h : ℕ) (r : Fin 32) (d : Fin 128) : aVal m c h 4 (ix3 0 r d) = aPart m c h r d := by
  rw [aVal_apply, aPart, ← range_tiles fun p => Ideal.exp (prod m c h r p) * at4 (Vm m c) (c.val / 4) p h d]

/-- A device and its three peers along `z` are the four devices of its batch row. -/
theorem sum_peers (f : Dev nD → EReal) (c : Dev nD) :
    f c + f (peer (zp 0) c) + f (peer (zp 1) c) + f (peer (zp 2) c) = ∑ z : Fin 4, f (devOf (c.val / 4) z.val) := by
  have hz : (c = devOf (c.val / 4) 0 ∧ peer (zp 0) c = devOf (c.val / 4) 1 ∧ peer (zp 1) c = devOf (c.val / 4) 2 ∧ peer (zp 2) c = devOf (c.val / 4) 3)
      ∨ (c = devOf (c.val / 4) 1 ∧ peer (zp 0) c = devOf (c.val / 4) 0 ∧ peer (zp 1) c = devOf (c.val / 4) 3 ∧ peer (zp 2) c = devOf (c.val / 4) 2)
      ∨ (c = devOf (c.val / 4) 2 ∧ peer (zp 0) c = devOf (c.val / 4) 3 ∧ peer (zp 1) c = devOf (c.val / 4) 0 ∧ peer (zp 2) c = devOf (c.val / 4) 1)
      ∨ (c = devOf (c.val / 4) 3 ∧ peer (zp 0) c = devOf (c.val / 4) 2 ∧ peer (zp 1) c = devOf (c.val / 4) 1 ∧ peer (zp 2) c = devOf (c.val / 4) 0) := by
    revert c; decide
  have hs : ∑ z : Fin 4, f (devOf (c.val / 4) z.val)
      = f (devOf (c.val / 4) 0) + f (devOf (c.val / 4) 1) + f (devOf (c.val / 4) 2) + f (devOf (c.val / 4) 3) := Fin.sum_univ_four _
  rw [hs]
  rcases hz with ⟨h0, h1, h2, h3⟩ | ⟨h0, h1, h2, h3⟩ | ⟨h0, h1, h2, h3⟩ | ⟨h0, h1, h2, h3⟩ <;>
    rw [h1, h2, h3, congrArg f h0] <;> ac_rfl

theorem group (h : ℕ) : 4 * (h / 4) + h % 4 = h := Nat.div_add_mod h 4

theorem lRow_apply (c : Dev nD) (h : ℕ) (r : Fin 32) (e : Fin 8) :
    lRow m c h (ix3 0 r e) = ∑ z : Fin 4, lPart m (devOf (c.val / 4) z.val) h r := by
  refine (pay135_apply (lWin m c (h / 4)) (rlWin m c (h / 4) 0) (rlWin m c (h / 4) 1) (rlWin m c (h / 4) 2) ⟨h % 4, Nat.mod_lt _ (by decide)⟩ r e).trans ?_
  rw [← sum_peers (fun c => lPart m c h r) c]
  have hw : ∀ c', lWin m c' (h / 4) (ix3 ⟨h % 4, Nat.mod_lt _ (by decide)⟩ r e) = lPart m c' h r := fun c' =>
    (congrArg (fun n => lVal m c' n 4 (ix3 0 r e)) (group h)).trans (lVal_four m c' h r e)
  exact congr (congrArg _ (congr (congrArg _ (congr (congrArg _ (hw c)) (hw _))) (hw _))) (hw _)

theorem aRow_apply (c : Dev nD) (h : ℕ) (r : Fin 32) (d : Fin 128) :
    aRow m c h (ix3 0 r d) = ∑ z : Fin 4, aPart m (devOf (c.val / 4) z.val) h r d := by
  refine (pay133_apply (aWin m c (h / 4)) (rWin m c (h / 4) 0) (rWin m c (h / 4) 1) (rWin m c (h / 4) 2) ⟨h % 4, Nat.mod_lt _ (by decide)⟩ r d).trans ?_
  rw [← sum_peers (fun c => aPart m c h r d) c]
  have hw : ∀ c', aWin m c' (h / 4) (ix3 ⟨h % 4, Nat.mod_lt _ (by decide)⟩ r d) = aPart m c' h r d := fun c' =>
    (congrArg (fun n => aVal m c' n 4 (ix3 0 r d)) (group h)).trans (aVal_four m c' h r d)
  have hx : ∀ j, rWin m c (h / 4) j (ix4 0 ⟨h % 4, Nat.mod_lt _ (by decide)⟩ r d) = aPart m (peer (zp j) c) h r d := fun j =>
    (pay68_apply (aWin m (peer (zp j) c) (h / 4)) ⟨h % 4, Nat.mod_lt _ (by decide)⟩ r d).trans (hw _)
  exact congr (congrArg _ (congr (congrArg _ (congr (congrArg _ (hw c)) (hx 0))) (hx 1))) (hx 2)

theorem devOf_div (b : Fin 4) (c : Dev nD) : (devOf b.val (c.val % 4)).val / 4 = b.val := by
  revert b c; decide

/-- The result of every device at one element. -/
theorem outC_apply (c : Dev nD) (b : Fin 4) (r : Fin 32) (h : Fin 8) (d : Fin 128) :
    outC m c (ix4 b r h d)
      = Ideal.div (∑ z : Fin 4, aPart m (devOf b.val z.val) h.val r d) (∑ z : Fin 4, lPart m (devOf b.val z.val) h.val r) := by
  refine (pay1_apply (oC m c) (ix4 b r h d)).trans ?_
  refine (pay136_apply (lRow m (devOf b.val (c.val % 4)) h.val) (aRow m (devOf b.val (c.val % 4)) h.val) r d).trans ?_
  rw [lRow_apply, aRow_apply, devOf_div]

end Cert.KernelIdeal.Val

end
-- ==== Proof.RefVal.lean ====
/-
# The reference at an index

The reference's composed term over the extended reals, read at one element: the softmax of the scaled products over the
whole cache, applied to the values.
-/
module

public import proofs.«01_k».proof.Proof.Gen.ReferenceIdeal.Run
public import Idealize.ShloMosaic.Lib.Pointwise

@[expose] public section

noncomputable section

namespace Cert.ReferenceIdeal.Val

open Cert.ReferenceIdeal Cert.ReferenceIdeal.Gen Idealize.ShloMosaic

/-- The scaled products. -/
def scores (Q : S4x32x8x128.Idx → EReal) (K : S4x16384x8x128.Idx → EReal) : S4x8x32x16384.Idx → EReal :=
  mulf (F := Ideal) (φ := .f32) (Host.dotGeneral (F := Ideal) (φ₁ := .f32) (φ₂ := .f32) dot_S4x32x8x128_S4x16384x8x128_S4x8x32x16384_3_3_1_1_02_02 none Q K)
    (broadcastInDim S4x8x32x16384 ![] bcast_S_S4x8x32x16384 (constant S_ .f32 0x3DB504F3#32))

theorem scores_apply (Q : S4x32x8x128.Idx → EReal) (K : S4x16384x8x128.Idx → EReal) (b : Fin 4) (h : Fin 8) (r : Fin 32) (k : Fin 16384) :
    scores Q K (ix4 b h r k) = (∑ d : Fin 128, Q (ix4 b r h d) * K (ix4 b k h d)) * Ideal.ofBits .f32 0x3DB504F3#32 := by
  pointwise [scores]

/-- The maximum starts at minus infinity. -/
theorem start_eq : Ideal.ofBits .f32 0xFF800000#32 = ⊥ := by simp [Ideal.ofBits, Ideal.ieee]

/-- The exponentials of the scores less their row's maximum. -/
def weights (S : S4x8x32x16384.Idx → EReal) : S4x8x32x16384.Idx → EReal :=
  Host.exp (F := Ideal) (φ := .f32) (subf (F := Ideal) (φ := .f32) S (broadcastInDim S4x8x32x16384 ![0, 1, 2, 3] bcast_S4x8x32x1_S4x8x32x16384_0_1_2_3
    (broadcastInDim S4x8x32x1 ![0, 1, 2] bcast_S4x8x32_S4x8x32x1_0_1_2
      (Host.reduce (FloatOps.maximumf (F := Ideal) (φ := .f32)) S (constant S_ .f32 0xFF800000#32) reducesTo_S4x8x32x16384_S4x8x32_d3 h_S_))))

theorem weights_apply (S : S4x8x32x16384.Idx → EReal) (b : Fin 4) (h : Fin 8) (r : Fin 32) (k : Fin 16384) :
    weights S (ix4 b h r k) = Ideal.exp (S (ix4 b h r k) - Finset.univ.fold max ⊥ fun j : Fin 16384 => S (ix4 b h r j)) := by
  pointwise [weights]
  rw [start_eq]

/-- The weights over their row's sum. -/
def probs (W : S4x8x32x16384.Idx → EReal) : S4x8x32x16384.Idx → EReal :=
  Host.divf (F := Ideal) (φ := .f32) W (broadcastInDim S4x8x32x16384 ![0, 1, 2, 3] bcast_S4x8x32x1_S4x8x32x16384_0_1_2_3
    (broadcastInDim S4x8x32x1 ![0, 1, 2] bcast_S4x8x32_S4x8x32x1_0_1_2
      (Host.reduceAdd (F := Ideal) (φ := .f32) W (constant S_ .f32 0x00000000#32) reducesTo_S4x8x32x16384_S4x8x32_d3 h_S_)))

theorem probs_apply (W : S4x8x32x16384.Idx → EReal) (b : Fin 4) (h : Fin 8) (r : Fin 32) (k : Fin 16384) :
    probs W (ix4 b h r k) = Ideal.div (W (ix4 b h r k)) (∑ j : Fin 16384, W (ix4 b h r j)) := by
  pointwise [probs]

/-- The result. -/
def out (Q : S4x32x8x128.Idx → EReal) (K V : S4x16384x8x128.Idx → EReal) : S4x32x8x128.Idx → EReal :=
  transpose S4x32x8x128 [0, 3, 1, 2] (Host.dotGeneral (F := Ideal) (φ₁ := .f32) (φ₂ := .f32) dot_S4x16384x8x128_S4x8x32x16384_S4x8x128x32_1_3_3_2_02_01 none V
    (probs (weights (scores Q K)))) transposes_S4x8x128x32_S4x32x8x128_0_3_1_2

theorem out_apply (Q : S4x32x8x128.Idx → EReal) (K V : S4x16384x8x128.Idx → EReal) (b : Fin 4) (r : Fin 32) (h : Fin 8) (d : Fin 128) :
    out Q K V (ix4 b r h d) = ∑ k : Fin 16384, V (ix4 b k h d) * probs (weights (scores Q K)) (ix4 b h r k) := by
  pointwise [out]

end Cert.ReferenceIdeal.Val

end
-- ==== Proof.Softmax.lean ====
/-
# Softmax over the extended reals

Finite scores, arbitrary values: the quotient of the two plain sums is the sum of the values weighted by the shifted
exponentials over their own sum.
-/
module

public import Idealize.ShloMosaic.Lib.Pointwise

@[expose] public section

noncomputable section

namespace Cert.Softmax

open Idealize.ShloMosaic

variable {ι : Type} [Fintype ι]

theorem coe_sum (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A nonnegative real factor goes through a sum of extended reals. -/
theorem sum_mul_coe (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

theorem div_coe (x : EReal) (y : ℝ) (hy : 0 < y) : Ideal.div x (y : EReal) = x * ((y⁻¹ : ℝ) : EReal) := by
  have h : (y : EReal) ≠ 0 := by exact_mod_cast hy.ne'
  rw [Ideal.div, if_neg h, EReal.coe_inv]

/-- The maximum of finitely many reals, at least one of them, is a real. -/
theorem fold_max_real [Nonempty ι] (σ : ι → ℝ) : ∃ M : ℝ, (Finset.univ.fold max ⊥ fun k : ι => (σ k : EReal)) = M := by
  set F := Finset.univ.fold max ⊥ fun k : ι => (σ k : EReal) with hF
  have hb : F ≠ ⊥ := by
    obtain ⟨k⟩ := ‹Nonempty ι›
    have : (⊥ : EReal) < F := (Finset.lt_fold_max _).2 (Or.inr ⟨k, Finset.mem_univ k, EReal.bot_lt_coe _⟩)
    exact this.ne'
  have ht : F ≠ ⊤ := by
    have : F < ⊤ := (Finset.fold_max_lt _).2 ⟨bot_lt_top, fun k _ => EReal.coe_lt_top _⟩
    exact this.ne
  exact ⟨F.toReal, (EReal.coe_toReal ht hb).symm⟩

theorem exp_coe (x : ℝ) : Ideal.exp (x : EReal) = ((Real.exp x : ℝ) : EReal) := rfl

theorem softmax_eq [Nonempty ι] (σ : ι → ℝ) (v : ι → EReal) :
    Ideal.div (∑ k, Ideal.exp (σ k) * v k) (∑ k, Ideal.exp (σ k))
      = ∑ k, v k * Ideal.div (Ideal.exp ((σ k : EReal) - Finset.univ.fold max ⊥ fun j : ι => (σ j : EReal)))
          (∑ i, Ideal.exp ((σ i : EReal) - Finset.univ.fold max ⊥ fun j : ι => (σ j : EReal))) := by
  obtain ⟨M, hM⟩ := fold_max_real σ
  have hpos : ∀ τ : ι → ℝ, 0 < ∑ k, Real.exp (τ k) := fun τ => Finset.sum_pos (fun k _ => Real.exp_pos _) Finset.univ_nonempty
  have hsub : ∀ k, Ideal.exp ((σ k : EReal) - (M : EReal)) = ((Real.exp (σ k - M) : ℝ) : EReal) := fun k => by
    rw [← EReal.coe_sub, exp_coe]
  rw [hM]
  simp only [hsub, exp_coe, coe_sum]
  rw [div_coe _ _ (hpos σ), sum_mul_coe _ _ _ (inv_nonneg.2 (hpos σ).le)]
  refine Finset.sum_congr rfl fun k _ => ?_
  rw [div_coe _ _ (hpos fun k => σ k - M), ← EReal.coe_mul, mul_comm _ (v k), mul_assoc, ← EReal.coe_mul]
  congr 2
  simp only [Real.exp_sub, ← Finset.sum_div]
  have h1 := (hpos σ).ne'
  have h2 := (Real.exp_pos M).ne'
  field_simp

/-- The scale on the left of the products or on their sum. -/
theorem score_eq (q k : ι → EReal) (c : EReal) (hq : ∀ d, q d ≠ ⊤ ∧ q d ≠ ⊥) (hk : ∀ d, k d ≠ ⊤ ∧ k d ≠ ⊥) (hc : c ≠ ⊤ ∧ c ≠ ⊥) :
    ∃ σ : ℝ, ∑ d, q d * c * k d = σ ∧ (∑ d, q d * k d) * c = σ := by
  lift c to ℝ using hc
  have hq' : ∃ q' : ι → ℝ, q = fun d => (q' d : EReal) := ⟨fun d => (q d).toReal, funext fun d => (EReal.coe_toReal (hq d).1 (hq d).2).symm⟩
  have hk' : ∃ k' : ι → ℝ, k = fun d => (k' d : EReal) := ⟨fun d => (k d).toReal, funext fun d => (EReal.coe_toReal (hk d).1 (hk d).2).symm⟩
  obtain ⟨q, rfl⟩ := hq'
  obtain ⟨k, rfl⟩ := hk'
  refine ⟨∑ d, q d * c * k d, ?_, ?_⟩
  · simp only [← EReal.coe_mul, coe_sum]
  · simp only [← EReal.coe_mul, coe_sum]
    rw [Finset.sum_mul]
    exact congrArg _ (Finset.sum_congr rfl fun d _ => by ring)

end Cert.Softmax

end
-- ==== Proof.Agree.lean ====
/-
# The two results agree

Finite queries and keys, arbitrary values: what every device of the mesh ends with is the reference's result, element by
element.
-/
module

public import proofs.«01_k».proof.Defs
public import proofs.«01_k».proof.Proof.Gen.KernelIdeal
public import proofs.«01_k».proof.Proof.Gen.ReferenceIdeal
public import proofs.«01_k».proof.Proof.KerVal
public import proofs.«01_k».proof.Proof.RefVal
public import proofs.«01_k».proof.Proof.Softmax

@[expose] public section

noncomputable section

namespace Cert.Proof

open Idealize.ShloMosaic Idealize.SL.Sem

/-- An array of the cache's shape, and one device's quarter of it. -/
abbrev Cache := Cert.ReferenceIdeal.S4x16384x8x128.Idx → EReal
abbrev Quarter := Cert.KernelIdeal.S4x4096x8x128.Idx → EReal
abbrev Query := Cert.ReferenceIdeal.S4x32x8x128.Idx → EReal

/-- The quarter of the cache that device `c` holds. -/
def quarter (A : Cache) (c : Fin 16) : Quarter :=
  Layout.blockN ⟨4, ![4, 4096, 8, 128]⟩ ⟨4, ![4, 16384, 8, 128]⟩ (Layout.meshBlock [2, 2, 4] ![[], [2], [], []] c) A

theorem quarter_apply (A : Cache) (c : Fin 16) (z : Fin 4) (hz : c.val % 4 = z.val) (b : Fin 4) (p : Fin 4096) (h : Fin 8) (d : Fin 128) :
    quarter A c (ix4 b p h d) = A (ix4 b ⟨z.val * 4096 + p.val, by omega⟩ h d) := by
  unfold quarter
  rw [Layout.blockN_apply]
  refine congrArg A (funext fun a => Fin.ext ?_)
  rw [Layout.TilesN.idx_val]
  fin_cases a
  · exact Nat.zero_mul _ |>.symm ▸ Nat.zero_add _
  · have : Layout.meshLin [2, 2, 4] c.val [2] = z.val := by
      simp [Layout.meshLin, Layout.meshCoord, Layout.cutSize, hz]
    exact congrArg (fun n => n * 4096 + p.val) this
  · exact Nat.zero_mul _ |>.symm ▸ Nat.zero_add _
  · exact Nat.zero_mul _ |>.symm ▸ Nat.zero_add _

theorem devOf_coords (b z : Fin 4) : (Cert.KernelIdeal.Run.devOf b.val z.val).val / 4 = b.val ∧ (Cert.KernelIdeal.Run.devOf b.val z.val).val % 4 = z.val := by
  revert b z; decide

theorem at4_quarter (A : Cache) (b z : Fin 4) (p : Fin 4096) (h : Fin 8) (d : Fin 128) :
    Cert.KernelIdeal.Run.at4 (F := Ideal) (quarter A (Cert.KernelIdeal.Run.devOf b.val z.val)) ((Cert.KernelIdeal.Run.devOf b.val z.val).val / 4) p.val h.val d
      = A (ix4 b ⟨z.val * 4096 + p.val, by omega⟩ h d) := by
  rw [← quarter_apply A (Cert.KernelIdeal.Run.devOf b.val z.val) z (devOf_coords b z).2 b p h d, (devOf_coords b z).1]
  unfold Cert.KernelIdeal.Run.at4
  congr 1
  have hb : (⟨b.val % 4, Nat.mod_lt _ (by decide)⟩ : Fin 4) = b := Fin.ext (Nat.mod_eq_of_lt b.isLt)
  have hp : (⟨p.val % 4096, Nat.mod_lt _ (by decide)⟩ : Fin 4096) = p := Fin.ext (Nat.mod_eq_of_lt p.isLt)
  have hh : (⟨h.val % 8, Nat.mod_lt _ (by decide)⟩ : Fin 8) = h := Fin.ext (Nat.mod_eq_of_lt h.isLt)
  rw [hb, hp, hh]
  rfl

/-- A value that is neither infinity. -/
def Finite (x : EReal) : Prop := x ≠ ⊤ ∧ x ≠ ⊥

theorem sc_finite : Finite Cert.KernelIdeal.Val.sc := by
  have h : Cert.KernelIdeal.Val.sc = ((11863283 * ((2 : ℝ) ^ 27)⁻¹ : ℝ) : EReal) := by
    rw [EReal.coe_mul]
    simp [Cert.KernelIdeal.Val.sc, Ideal.ofBits, Ideal.ieee]
  rw [h]
  exact ⟨EReal.coe_ne_top _, EReal.coe_ne_bot _⟩

section

variable (m : (ℓ : Loc Cert.KernelIdeal.nD Cert.KernelIdeal.τ Cert.KernelIdeal.sig) → Buf (Elt Ideal) ℓ)
variable (Q : Query) (K V : Cache)
variable (hQ : ∀ c, Cert.KernelIdeal.Run.Qm (F := Ideal) m c = Q) (hK : ∀ c, Cert.KernelIdeal.Run.Km (F := Ideal) m c = quarter K c)
variable (hV : ∀ c, Cert.KernelIdeal.Run.Vm (F := Ideal) m c = quarter V c)

include hQ hK in
theorem prod_eq (b z : Fin 4) (r : Fin 32) (h : Fin 8) (p : Fin 4096) :
    Cert.KernelIdeal.Val.prod m (Cert.KernelIdeal.Run.devOf b.val z.val) h.val r p.val
      = ∑ d : Fin 128, Q (ix4 b r h d) * Cert.KernelIdeal.Val.sc * K (ix4 b ⟨z.val * 4096 + p.val, by omega⟩ h d) := by
  unfold Cert.KernelIdeal.Val.prod
  refine Finset.sum_congr rfl fun d _ => ?_
  rw [hK, at4_quarter, hQ]
  have hb : (⟨(Cert.KernelIdeal.Run.devOf b.val z.val).val / 4 % 4, Nat.mod_lt _ (by decide)⟩ : Fin 4) = b :=
    Fin.ext (by rw [(devOf_coords b z).1]; exact Nat.mod_eq_of_lt b.isLt)
  have hh : (⟨h.val % 8, Nat.mod_lt _ (by decide)⟩ : Fin 8) = h := Fin.ext (Nat.mod_eq_of_lt h.isLt)
  rw [hb, hh]

/-- The scaled product of a query row with a position of the whole cache. -/
def full (b : Fin 4) (h : Fin 8) (r : Fin 32) (k : Fin 16384) : EReal :=
  ∑ d : Fin 128, Q (ix4 b r h d) * Cert.KernelIdeal.Val.sc * K (ix4 b k h d)

theorem quarters (f : Fin 16384 → EReal) : ∑ z : Fin 4, ∑ p : Fin 4096, f ⟨z.val * 4096 + p.val, by omega⟩ = ∑ k, f k :=
  (Fin.sum_univ_tiles 4 4096 (by decide) f).symm

include hQ hK in
theorem lPart_sum (b : Fin 4) (r : Fin 32) (h : Fin 8) :
    ∑ z : Fin 4, Cert.KernelIdeal.Val.lPart m (Cert.KernelIdeal.Run.devOf b.val z.val) h.val r = ∑ k, Ideal.exp (full Q K b h r k) := by
  rw [← quarters]
  refine Finset.sum_congr rfl fun z _ => ?_
  unfold Cert.KernelIdeal.Val.lPart
  refine Finset.sum_congr rfl fun p _ => ?_
  rw [prod_eq m Q K hQ hK]
  rfl

include hQ hK hV in
theorem aPart_sum (b : Fin 4) (r : Fin 32) (h : Fin 8) (d : Fin 128) :
    ∑ z : Fin 4, Cert.KernelIdeal.Val.aPart m (Cert.KernelIdeal.Run.devOf b.val z.val) h.val r d
      = ∑ k, Ideal.exp (full Q K b h r k) * V (ix4 b k h d) := by
  rw [← quarters]
  refine Finset.sum_congr rfl fun z _ => ?_
  unfold Cert.KernelIdeal.Val.aPart
  refine Finset.sum_congr rfl fun p _ => ?_
  rw [prod_eq m Q K hQ hK, hV, at4_quarter]
  rfl

include hQ hK hV in
/-- The two results, one element. -/
theorem out_eq (fQ : ∀ i, Finite (Q i)) (fK : ∀ i, Finite (K i)) (c : Fin 16) (b : Fin 4) (r : Fin 32) (h : Fin 8) (d : Fin 128) :
    Cert.KernelIdeal.Run.outC (F := Ideal) m c (ix4 b r h d) = Cert.ReferenceIdeal.Val.out Q K V (ix4 b r h d) := by
  refine (Cert.KernelIdeal.Val.outC_apply m c b r h d).trans ?_
  rw [lPart_sum m Q K hQ hK, aPart_sum m Q K V hQ hK hV, Cert.ReferenceIdeal.Val.out_apply]
  choose σ hl hr using fun k : Fin 16384 => Cert.Softmax.score_eq (fun d => Q (ix4 b r h d)) (fun d => K (ix4 b k h d)) Cert.KernelIdeal.Val.sc
    (fun d => fQ _) (fun d => fK _) sc_finite
  have hf : ∀ k, full Q K b h r k = σ k := hl
  have hs : ∀ k, Cert.ReferenceIdeal.Val.scores Q K (ix4 b h r k) = σ k := fun k => (Cert.ReferenceIdeal.Val.scores_apply Q K b h r k).trans (hr k)
  simp only [hf, Cert.ReferenceIdeal.Val.probs_apply, Cert.ReferenceIdeal.Val.weights_apply, hs]
  exact Cert.Softmax.softmax_eq σ _

include hQ hK hV in
theorem result_eq (fQ : ∀ i, Finite (Q i)) (fK : ∀ i, Finite (K i)) (c : Fin 16) :
    Cert.KernelIdeal.Run.outC (F := Ideal) m c = Cert.ReferenceIdeal.Val.out Q K V := by
  funext i
  have hi : i = ix4 (i 0) (i 1) (i 2) (i 3) := by
    funext a
    fin_cases a <;> rfl
  rw [hi]
  exact out_eq m Q K V hQ hK hV fQ fK c _ _ _ _

end

end Cert.Proof

end
-- ==== Proof.Value.lean ====
/-
# The value claim

The precondition read at one element, and the two runs at one result.
-/
module

public import proofs.«01_k».proof.Proof.Agree
public import proofs.«01_k».proof.Proof.Frames

@[expose] public section

noncomputable section

namespace Cert.Proof

open Idealize.ShloMosaic Idealize.SL.Sem

/-- The shape facts the two printings of the precondition state. -/
theorem preFacts_KernelIdeal : Cert.Pre_finite_scores_KernelIdeal.Facts := ⟨by decide, by decide⟩
theorem preFacts_ReferenceIdeal : Cert.Pre_finite_scores_ReferenceIdeal.Facts := ⟨by decide, by decide⟩

local instance : Cert.KernelIdeal.Facts := Cert.KernelIdeal.Gen.facts
local instance : Cert.ReferenceIdeal.Facts := Cert.ReferenceIdeal.Gen.facts
local instance : Cert.Pre_finite_scores_KernelIdeal.Facts := preFacts_KernelIdeal
local instance : Cert.Pre_finite_scores_ReferenceIdeal.Facts := preFacts_ReferenceIdeal

theorem frame_KernelIdeal_pre : Cert.quiescent_KernelIdeal_pre_finite_scores_KernelIdeal := fun m ρ _ => frame_KernelIdeal m ρ trivial

theorem frame_ReferenceIdeal_pre : Cert.quiescent_ReferenceIdeal_pre_finite_scores_ReferenceIdeal := fun m ρ _ => frame_ReferenceIdeal m ρ trivial

/-- Below infinity in absolute value, as the precondition compares: neither infinity. -/
theorem finite_of_bit (x : EReal) (h : FloatOps.cmpf (F := Ideal) (φ := .f32) .olt (FloatOps.hostAbsf (F := Ideal) (φ := .f32) x) (Ideal.ofBits .f32 0x7F800000#32) = 1#1) :
    Finite x := by
  have ht : Ideal.ofBits .f32 0x7F800000#32 = ⊤ := by simp [Ideal.ofBits, Ideal.ieee]
  rw [ht] at h
  have hx : max x (-x) < ⊤ := by
    by_contra hn
    have h0 : FloatOps.cmpf (F := Ideal) (φ := .f32) .olt (FloatOps.hostAbsf (F := Ideal) (φ := .f32) x) ⊤ = 0#1 := by
      show BitVec.ofBool (decide (max x (-x) < ⊤)) = 0#1
      rw [decide_eq_false hn]
      rfl
    rw [h0] at h
    exact absurd h (by decide)
  refine ⟨fun e => ?_, fun e => ?_⟩ <;> subst e <;> simp at hx

variable (m : (ℓ : Loc Cert.KernelIdeal.nD Cert.KernelIdeal.τ Cert.KernelIdeal.sig) → Buf (Elt Ideal) ℓ)

theorem finite_Qm (h : Cert.Pre_KernelIdeal_finite_scores_KernelIdeal m) (c : Fin 16) (i : Cert.KernelIdeal.S4x32x8x128.Idx) :
    Finite (Cert.KernelIdeal.Run.Qm (F := Ideal) m c i) := finite_of_bit _ (congrFun (h c).1 i)

theorem finite_Km (h : Cert.Pre_KernelIdeal_finite_scores_KernelIdeal m) (c : Fin 16) (i : Cert.KernelIdeal.S4x4096x8x128.Idx) :
    Finite (Cert.KernelIdeal.Run.Km (F := Ideal) m c i) := finite_of_bit _ (congrFun (h c).2 i)

/-- Every element of the cache is on some device. -/
theorem finite_cache (K : Cache) (h : ∀ (c : Fin 16) i, Finite (quarter K c i)) (i) : Finite (K i) := by
  have hk : (i 1).val < 16384 := (i 1).isLt
  have hz : (i 1).val / 4096 < 4 := by omega
  have hp : (i 1).val % 4096 < 4096 := Nat.mod_lt _ (by decide)
  have h' := h ⟨(i 1).val / 4096, by omega⟩ (ix4 (i 0) ⟨(i 1).val % 4096, hp⟩ (i 2) (i 3))
  rw [quarter_apply K ⟨(i 1).val / 4096, by omega⟩ ⟨(i 1).val / 4096, hz⟩ (Nat.mod_eq_of_lt hz) (i 0) ⟨(i 1).val % 4096, hp⟩ (i 2) (i 3)] at h'
  have hi : i = ix4 (i 0) ⟨(i 1).val / 4096 * 4096 + (i 1).val % 4096, by omega⟩ (i 2) (i 3) := by
    funext a
    fin_cases a
    · rfl
    · exact Fin.ext (by show (i 1).val = (i 1).val / 4096 * 4096 + (i 1).val % 4096; omega)
    · rfl
    · rfl
  rw [hi]
  exact h'

theorem algebraic_holds : Cert.algebraic_KernelIdeal_ReferenceIdeal_pre_finite_scores_KernelIdeal := fun m ρ m' ρ' hpre hag => by
  have hK : ∀ c, Cert.KernelIdeal.Run.Km (F := Ideal) m c = quarter (m' (((0 : Dev Cert.ReferenceIdeal.nD).tc : Thread Cert.ReferenceIdeal.nD Cert.ReferenceIdeal.τ).loc Cert.ReferenceIdeal.main_arg1)) c :=
    fun c => (hag c).2.1
  have hV : ∀ c, Cert.KernelIdeal.Run.Vm (F := Ideal) m c = quarter (m' (((0 : Dev Cert.ReferenceIdeal.nD).tc : Thread Cert.ReferenceIdeal.nD Cert.ReferenceIdeal.τ).loc Cert.ReferenceIdeal.main_arg2)) c :=
    fun c => (hag c).2.2
  have hQ : ∀ c, Cert.KernelIdeal.Run.Qm (F := Ideal) m c = m' (((0 : Dev Cert.ReferenceIdeal.nD).tc : Thread Cert.ReferenceIdeal.nD Cert.ReferenceIdeal.τ).loc Cert.ReferenceIdeal.main_arg0) :=
    fun c => (hag c).1
  have fQ : ∀ i, Finite (m' (((0 : Dev Cert.ReferenceIdeal.nD).tc : Thread Cert.ReferenceIdeal.nD Cert.ReferenceIdeal.τ).loc Cert.ReferenceIdeal.main_arg0) i) :=
    fun i => by rw [← hQ 0]; exact finite_Qm m hpre 0 i
  have fK : ∀ i, Finite (m' (((0 : Dev Cert.ReferenceIdeal.nD).tc : Thread Cert.ReferenceIdeal.nD Cert.ReferenceIdeal.τ).loc Cert.ReferenceIdeal.main_arg1) i) :=
    finite_cache _ fun c i => by rw [← hK c]; exact finite_Km m hpre c i
  exact ⟨Cert.ReferenceIdeal.Val.out _ _ _,
    (θ_run Cert.KernelIdeal.defs _ _).mono (fun _ h c => ⟨(h.1 c).1.trans (result_eq m _ _ _ hQ hK hV fQ fK c), (h.1 c).2⟩) (Cert.KernelIdeal.Run.run_main (F := Ideal) m ρ),
    (θ_run Cert.ReferenceIdeal.defs _ _).mono (fun _ h => h 0) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  preFacts_KernelIdeal, preFacts_ReferenceIdeal, frame_Kernel, frame_KernelIdeal, frame_KernelIdeal_pre, frame_ReferenceIdeal, frame_ReferenceIdeal_pre,
  trivial, algebraic_holds⟩

end Cert.Proof

end
